-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.1 = (fun _ => 1#1)
    ∧ (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))).2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.1 = (fun _ => 1#1)
    ∧ (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))).2.2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v297)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v297) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v171) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x3x224x224 : Shape := ⟨4, ![8, 3, 224, 224]⟩
abbrev S32x3x4x4 : Shape := ⟨4, ![32, 3, 4, 4]⟩
abbrev S32 : Shape := ⟨1, ![32]⟩
abbrev S64x32x4x4 : Shape := ⟨4, ![64, 32, 4, 4]⟩
abbrev S64 : Shape := ⟨1, ![64]⟩
abbrev S64x64x3x3 : Shape := ⟨4, ![64, 64, 3, 3]⟩
abbrev S1024x64 : Shape := ⟨2, ![1024, 64]⟩
abbrev S3 : Shape := ⟨1, ![3]⟩
abbrev S_ : Shape := ⟨0, ![]⟩

class Facts : Prop where
  bcast_S_S8x3x224x224 : S_.BroadcastsInDim S8x3x224x224 (![] : Fin 0 → Fin S8x3x224x224.rank)
  bcast_S_S32x3x4x4 : S_.BroadcastsInDim S32x3x4x4 (![] : Fin 0 → Fin S32x3x4x4.rank)
  bcast_S_S32 : S_.BroadcastsInDim S32 (![] : Fin 0 → Fin S32.rank)
  bcast_S_S64x32x4x4 : S_.BroadcastsInDim S64x32x4x4 (![] : Fin 0 → Fin S64x32x4x4.rank)
  bcast_S_S64 : S_.BroadcastsInDim S64 (![] : Fin 0 → Fin S64.rank)
  bcast_S_S64x64x3x3 : S_.BroadcastsInDim S64x64x3x3 (![] : Fin 0 → Fin S64x64x3x3.rank)

variable [Facts]

def fn_part1 {F : FTy → Type} [FloatOps F] (main_arg6 : FVec F S64 .f32) (main_v2 : IVec S8x3x224x224 1) (main_v5 : IVec S32x3x4x4 1) (main_v8 : IVec S32 1) (main_v11 : IVec S64x32x4x4 1) (main_v14 : IVec S64 1) (main_v17 : IVec S64x64x3x3 1) : IVec S8x3x224x224 1 × IVec S32x3x4x4 1 × IVec S32 1 × IVec S64x32x4x4 1 × IVec S64 1 × IVec S64x64x3x3 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  (main_v2, main_v5, main_v8, main_v11, main_v14, main_v17, main_v20)

def fn {F : FTy → Type} [FloatOps F] (main_arg0 : FVec F S8x3x224x224 .f32) (main_arg1 : FVec F S32x3x4x4 .f32) (main_arg2 : FVec F S32 .f32) (main_arg3 : FVec F S64x32x4x4 .f32) (main_arg4 : FVec F S64 .f32) (main_arg5 : FVec F S64x64x3x3 .f32) (main_arg6 : FVec F S64 .f32) (main_arg7 : FVec F S1024x64 .f32) (main_arg8 : FVec F S64x64x3x3 .f32) (main_arg9 : FVec F S64 .f32) (main_arg10 : FVec F S64x32x4x4 .f32) (main_arg11 : FVec F S32 .f32) (main_arg12 : FVec F S32x3x4x4 .f32) (main_arg13 : FVec F S3 .f32) : IVec S8x3x224x224 1 × IVec S32x3x4x4 1 × IVec S32 1 × IVec S64x32x4x4 1 × IVec S64 1 × IVec S64x64x3x3 1 × IVec S64 1 :=
  let main_v0 : FVec F S8x3x224x224 .f32 := Host.absf main_arg0
  let main_cst : FVec F S_ .f32 := constant S_ .f32 0x7F800000#32
  let main_v1 : FVec F S8x3x224x224 .f32 := broadcastInDim S8x3x224x224 ![] bcast_S_S8x3x224x224 main_cst
  let main_v2 : IVec S8x3x224x224 1 := cmpf .olt main_v0 main_v1
  let main_v3 : FVec F S32x3x4x4 .f32 := Host.absf main_arg1
  let main_cst_0 : FVec F S_ .f32 := constant S_ .f32 0x7F800000#32
  let main_v4 : FVec F S32x3x4x4 .f32 := broadcastInDim S32x3x4x4 ![] bcast_S_S32x3x4x4 main_cst_0
  let main_v5 : IVec S32x3x4x4 1 := cmpf .olt main_v3 main_v4
  let main_v6 : FVec F S32 .f32 := Host.absf main_arg2
  let main_cst_1 : FVec F S_ .f32 := constant S_ .f32 0x7F800000#32
  let main_v7 : FVec F S32 .f32 := broadcastInDim S32 ![] bcast_S_S32 main_cst_1
  let main_v8 : IVec S32 1 := cmpf .olt main_v6 main_v7
  let main_v9 : FVec F S64x32x4x4 .f32 := Host.absf main_arg3
  let main_cst_2 : FVec F S_ .f32 := constant S_ .f32 0x7F800000#32
  let main_v10 : FVec F S64x32x4x4 .f32 := broadcastInDim S64x32x4x4 ![] bcast_S_S64x32x4x4 main_cst_2
  let main_v11 : IVec S64x32x4x4 1 := cmpf .olt main_v9 main_v10
  let main_v12 : FVec F S64 .f32 := Host.absf main_arg4
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  let main_v15 : FVec F S64x64x3x3 .f32 := Host.absf main_arg5
  let main_cst_4 : FVec F S_ .f32 := constant S_ .f32 0x7F800000#32
  let main_v16 : FVec F S64x64x3x3 .f32 := broadcastInDim S64x64x3x3 ![] bcast_S_S64x64x3x3 main_cst_4
  let main_v17 : IVec S64x64x3x3 1 := cmpf .olt main_v15 main_v16
  fn_part1 (F := F) main_arg6 main_v2 main_v5 main_v8 main_v11 main_v14 main_v17
-- ==== Kernel.lean ====
abbrev S8x3x224x224 : Shape := ⟨4, ![8, 3, 224, 224]⟩
abbrev S32x3x4x4 : Shape := ⟨4, ![32, 3, 4, 4]⟩
abbrev S32 : Shape := ⟨1, ![32]⟩
abbrev S64x32x4x4 : Shape := ⟨4, ![64, 32, 4, 4]⟩
abbrev S64 : Shape := ⟨1, ![64]⟩
abbrev S64x64x3x3 : Shape := ⟨4, ![64, 64, 3, 3]⟩
abbrev S1024x64 : Shape := ⟨2, ![1024, 64]⟩
abbrev S3 : Shape := ⟨1, ![3]⟩
abbrev S_ : Shape := ⟨0, ![]⟩
abbrev S8x3x226x226 : Shape := ⟨4, ![8, 3, 226, 226]⟩
abbrev S8x3x113x2x113x2 : Shape := ⟨6, ![8, 3, 113, 2, 113, 2]⟩
abbrev S8x113x113x2x2x3 : Shape := ⟨6, ![8, 113, 113, 2, 2, 3]⟩
abbrev S8x113x113x12 : Shape := ⟨4, ![8, 113, 113, 12]⟩
abbrev S32x64x4x4 : Shape := ⟨4, ![32, 64, 4, 4]⟩
abbrev S3x32x4x4 : Shape := ⟨4, ![3, 32, 4, 4]⟩
abbrev S4x4x3x32 : Shape := ⟨4, ![4, 4, 3, 32]⟩
abbrev S2x2x2x2x3x32 : Shape := ⟨6, ![2, 2, 2, 2, 3, 32]⟩
abbrev S48x32 : Shape := ⟨2, ![48, 32]⟩
abbrev S1x32 : Shape := ⟨2, ![1, 32]⟩
abbrev S4x4x32x64 : Shape := ⟨4, ![4, 4, 32, 64]⟩
abbrev S512x64 : Shape := ⟨2, ![512, 64]⟩
abbrev S1x64 : Shape := ⟨2, ![1, 64]⟩
abbrev S3x3x64x64 : Shape := ⟨4, ![3, 3, 64, 64]⟩
abbrev S576x64 : Shape := ⟨2, ![576, 64]⟩
abbrev S64x1024 : Shape := ⟨2, ![64, 1024]⟩
abbrev S4x4x64x32 : Shape := ⟨4, ![4, 4, 64, 32]⟩
abbrev S3x3x64x2x2x32 : Shape := ⟨6, ![3, 3, 64, 2, 2, 32]⟩
abbrev S1x1x64x32 : Shape := ⟨4, ![1, 1, 64, 32]⟩
abbrev S64x32 : Shape := ⟨2, ![64, 32]⟩
abbrev S1 : Shape := ⟨1, ![1]⟩
abbrev S4 : Shape := ⟨1, ![4]⟩
abbrev S576x128 : Shape := ⟨2, ![576, 128]⟩
abbrev S4x32 : Shape := ⟨2, ![4, 32]⟩
abbrev S128 : Shape := ⟨1, ![128]⟩
abbrev S1x128 : Shape := ⟨2, ![1, 128]⟩
abbrev S4x4x32x3 : Shape := ⟨4, ![4, 4, 32, 3]⟩
abbrev S4x4x32x8 : Shape := ⟨4, ![4, 4, 32, 8]⟩
abbrev S3x3x32x2x2x8 : Shape := ⟨6, ![3, 3, 32, 2, 2, 8]⟩
abbrev S1x1x32x8 : Shape := ⟨4, ![1, 1, 32, 8]⟩
abbrev S32x8 : Shape := ⟨2, ![32, 8]⟩
abbrev S288x32 : Shape := ⟨2, ![288, 32]⟩
abbrev S8 : Shape := ⟨1, ![8]⟩
abbrev S1x8 : Shape := ⟨2, ![1, 8]⟩
abbrev S4x8 : Shape := ⟨2, ![4, 8]⟩
abbrev S8x3x112x2x224 : Shape := ⟨5, ![8, 3, 112, 2, 224]⟩
abbrev S1x113x113x12 : Shape := ⟨4, ![1, 113, 113, 12]⟩
abbrev S1x3x112x2x224 : Shape := ⟨5, ![1, 3, 112, 2, 224]⟩
abbrev S114x114x32 : Shape := ⟨3, ![114, 114, 32]⟩
abbrev S113x113x12 : Shape := ⟨3, ![113, 113, 12]⟩
abbrev S112x112x12 : Shape := ⟨3, ![112, 112, 12]⟩
abbrev S112x112x48 : Shape := ⟨3, ![112, 112, 48]⟩
abbrev S12544x48 : Shape := ⟨2, ![12544, 48]⟩
abbrev S12544x32 : Shape := ⟨2, ![12544, 32]⟩
abbrev S112x112x32 : Shape := ⟨3, ![112, 112, 32]⟩
abbrev S1x114x32 : Shape := ⟨3, ![1, 114, 32]⟩
abbrev S112x1x32 : Shape := ⟨3, ![112, 1, 32]⟩
abbrev S56x56x32 : Shape := ⟨3, ![56, 56, 32]⟩
abbrev S56x56x512 : Shape := ⟨3, ![56, 56, 512]⟩
abbrev S3136x512 : Shape := ⟨2, ![3136, 512]⟩
abbrev S3136x64 : Shape := ⟨2, ![3136, 64]⟩
abbrev S56x56x64 : Shape := ⟨3, ![56, 56, 64]⟩
abbrev S1x56x64 : Shape := ⟨3, ![1, 56, 64]⟩
abbrev S57x56x64 : Shape := ⟨3, ![57, 56, 64]⟩
abbrev S58x56x64 : Shape := ⟨3, ![58, 56, 64]⟩
abbrev S58x1x64 : Shape := ⟨3, ![58, 1, 64]⟩
abbrev S58x57x64 : Shape := ⟨3, ![58, 57, 64]⟩
abbrev S58x58x64 : Shape := ⟨3, ![58, 58, 64]⟩
abbrev S56x56x576 : Shape := ⟨3, ![56, 56, 576]⟩
abbrev S3136x576 : Shape := ⟨2, ![3136, 576]⟩
abbrev S1024 : Shape := ⟨1, ![1024]⟩
abbrev S1x1024 : Shape := ⟨2, ![1, 1024]⟩
abbrev S392x64 : Shape := ⟨2, ![392, 64]⟩
abbrev S392x1024 : Shape := ⟨2, ![392, 1024]⟩
abbrev S392 : Shape := ⟨1, ![392]⟩
abbrev S392x1 : Shape := ⟨2, ![392, 1]⟩
abbrev S3136x128 : Shape := ⟨2, ![3136, 128]⟩
abbrev S56x56x128 : Shape := ⟨3, ![56, 56, 128]⟩
abbrev S56x128 : Shape := ⟨2, ![56, 128]⟩
abbrev S58x114x32 : Shape := ⟨3, ![58, 114, 32]⟩
abbrev S56x112x32 : Shape := ⟨3, ![56, 112, 32]⟩
abbrev S56x112x288 : Shape := ⟨3, ![56, 112, 288]⟩
abbrev S6272x288 : Shape := ⟨2, ![6272, 288]⟩
abbrev S6272x32 : Shape := ⟨2, ![6272, 32]⟩
abbrev S56x112x1 : Shape := ⟨3, ![56, 112, 1]⟩
abbrev S56x112 : Shape := ⟨2, ![56, 112]⟩
abbrev S56x56 : Shape := ⟨2, ![56, 56]⟩
abbrev S56x16 : Shape := ⟨2, ![56, 16]⟩
abbrev S56x128x1 : Shape := ⟨3, ![56, 128, 1]⟩
abbrev S56x224 : Shape := ⟨2, ![56, 224]⟩
abbrev S1x56x1x224 : Shape := ⟨4, ![1, 56, 1, 224]⟩
abbrev S1x1x56x1x224 : Shape := ⟨5, ![1, 1, 56, 1, 224]⟩

abbrev nBuf : Space → Nat
  | .hbm => 448
  | .vmem => 19
  | .smem => 0
  | _ => 0

abbrev hbmTy0_0 (i : Nat) : BufTy := match i % 128 with
  | 0 => ⟨S8x3x224x224, .f32⟩
  | 1 => ⟨S32x3x4x4, .f32⟩
  | 2 => ⟨S32, .f32⟩
  | 3 => ⟨S64x32x4x4, .f32⟩
  | 4 => ⟨S64, .f32⟩
  | 5 => ⟨S64x64x3x3, .f32⟩
  | 6 => ⟨S64, .f32⟩
  | 7 => ⟨S1024x64, .f32⟩
  | 8 => ⟨S64x64x3x3, .f32⟩
  | 9 => ⟨S64, .f32⟩
  | 10 => ⟨S64x32x4x4, .f32⟩
  | 11 => ⟨S32, .f32⟩
  | 12 => ⟨S32x3x4x4, .f32⟩
  | 13 => ⟨S3, .f32⟩
  | 14 => ⟨S_, .i32⟩
  | 15 => ⟨S_, .f32⟩
  | 16 => ⟨S8x3x226x226, .f32⟩
  | 17 => ⟨S8x3x113x2x113x2, .f32⟩
  | 18 => ⟨S8x113x113x2x2x3, .f32⟩
  | 19 => ⟨S8x113x113x12, .f32⟩
  | 20 => ⟨S64x64x3x3, .f32⟩
  | 21 => ⟨S64x64x3x3, .f32⟩
  | 22 => ⟨S64x32x4x4, .f32⟩
  | 23 => ⟨S32x64x4x4, .f32⟩
  | 24 => ⟨S32x3x4x4, .f32⟩
  | 25 => ⟨S3x32x4x4, .f32⟩
  | 26 => ⟨S4x4x3x32, .f32⟩
  | 27 => ⟨S2x2x2x2x3x32, .f32⟩
  | 28 => ⟨S2x2x2x2x3x32, .f32⟩
  | 29 => ⟨S48x32, .f32⟩
  | 30 => ⟨S1x32, .f32⟩
  | 31 => ⟨S4x4x32x64, .f32⟩
  | 32 => ⟨S512x64, .f32⟩
  | 33 => ⟨S1x64, .f32⟩
  | 34 => ⟨S3x3x64x64, .f32⟩
  | 35 => ⟨S576x64, .f32⟩
  | 36 => ⟨S1x64, .f32⟩
  | 37 => ⟨S64x1024, .f32⟩
  | 38 => ⟨S3x3x64x64, .f32⟩
  | 39 => ⟨S576x64, .f32⟩
  | 40 => ⟨S1x64, .f32⟩
  | 41 => ⟨S4x4x64x32, .f32⟩
  | 42 => ⟨S_, .f32⟩
  | 43 => ⟨S3x3x64x2x2x32, .f32⟩
  | 44 => ⟨S1x1x64x32, .f32⟩
  | 45 => ⟨S64x32, .f32⟩
  | 46 => ⟨S_, .i32⟩
  | 47 => ⟨S1, .i32⟩
  | 48 => ⟨S_, .i32⟩
  | 49 => ⟨S1, .i32⟩
  | 50 => ⟨S_, .i32⟩
  | 51 => ⟨S1, .i32⟩
  | 52 => ⟨S_, .i32⟩
  | 53 => ⟨S1, .i32⟩
  | 54 => ⟨S4, .i32⟩
  | 55 => ⟨S3x3x64x2x2x32, .f32⟩
  | 56 => ⟨S1x1x64x32, .f32⟩
  | 57 => ⟨S64x32, .f32⟩
  | 58 => ⟨S_, .i32⟩
  | 59 => ⟨S1, .i32⟩
  | 60 => ⟨S_, .i32⟩
  | 61 => ⟨S1, .i32⟩
  | 62 => ⟨S_, .i32⟩
  | 63 => ⟨S1, .i32⟩
  | 64 => ⟨S_, .i32⟩
  | 65 => ⟨S1, .i32⟩
  | 66 => ⟨S4, .i32⟩
  | 67 => ⟨S3x3x64x2x2x32, .f32⟩
  | 68 => ⟨S1x1x64x32, .f32⟩
  | 69 => ⟨S64x32, .f32⟩
  | 70 => ⟨S_, .i32⟩
  | 71 => ⟨S1, .i32⟩
  | 72 => ⟨S_, .i32⟩
  | 73 => ⟨S1, .i32⟩
  | 74 => ⟨S_, .i32⟩
  | 75 => ⟨S1, .i32⟩
  | 76 => ⟨S_, .i32⟩
  | 77 => ⟨S1, .i32⟩
  | 78 => ⟨S4, .i32⟩
  | 79 => ⟨S3x3x64x2x2x32, .f32⟩
  | 80 => ⟨S1x1x64x32, .f32⟩
  | 81 => ⟨S64x32, .f32⟩
  | 82 => ⟨S_, .i32⟩
  | 83 => ⟨S1, .i32⟩
  | 84 => ⟨S_, .i32⟩
  | 85 => ⟨S1, .i32⟩
  | 86 => ⟨S_, .i32⟩
  | 87 => ⟨S1, .i32⟩
  | 88 => ⟨S_, .i32⟩
  | 89 => ⟨S1, .i32⟩
  | 90 => ⟨S4, .i32⟩
  | 91 => ⟨S3x3x64x2x2x32, .f32⟩
  | 92 => ⟨S1x1x64x32, .f32⟩
  | 93 => ⟨S64x32, .f32⟩
  | 94 => ⟨S_, .i32⟩
  | 95 => ⟨S1, .i32⟩
  | 96 => ⟨S_, .i32⟩
  | 97 => ⟨S1, .i32⟩
  | 98 => ⟨S_, .i32⟩
  | 99 => ⟨S1, .i32⟩
  | 100 => ⟨S_, .i32⟩
  | 101 => ⟨S1, .i32⟩
  | 102 => ⟨S4, .i32⟩
  | 103 => ⟨S3x3x64x2x2x32, .f32⟩
  | 104 => ⟨S1x1x64x32, .f32⟩
  | 105 => ⟨S64x32, .f32⟩
  | 106 => ⟨S_, .i32⟩
  | 107 => ⟨S1, .i32⟩
  | 108 => ⟨S_, .i32⟩
  | 109 => ⟨S1, .i32⟩
  | 110 => ⟨S_, .i32⟩
  | 111 => ⟨S1, .i32⟩
  | 112 => ⟨S_, .i32⟩
  | 113 => ⟨S1, .i32⟩
  | 114 => ⟨S4, .i32⟩
  | 115 => ⟨S3x3x64x2x2x32, .f32⟩
  | 116 => ⟨S1x1x64x32, .f32⟩
  | 117 => ⟨S64x32, .f32⟩
  | 118 => ⟨S_, .i32⟩
  | 119 => ⟨S1, .i32⟩
  | 120 => ⟨S_, .i32⟩
  | 121 => ⟨S1, .i32⟩
  | 122 => ⟨S_, .i32⟩
  | 123 => ⟨S1, .i32⟩
  | 124 => ⟨S_, .i32⟩
  | 125 => ⟨S1, .i32⟩
  | 126 => ⟨S4, .i32⟩
  | 127 => ⟨S3x3x64x2x2x32, .f32⟩
  | _ => ⟨S8x3x224x224, .f32⟩

abbrev hbmTy0_1 (i : Nat) : BufTy := match i % 128 with
  | 0 => ⟨S1x1x64x32, .f32⟩
  | 1 => ⟨S64x32, .f32⟩
  | 2 => ⟨S_, .i32⟩
  | 3 => ⟨S1, .i32⟩
  | 4 => ⟨S_, .i32⟩
  | 5 => ⟨S1, .i32⟩
  | 6 => ⟨S_, .i32⟩
  | 7 => ⟨S1, .i32⟩
  | 8 => ⟨S_, .i32⟩
  | 9 => ⟨S1, .i32⟩
  | 10 => ⟨S4, .i32⟩
  | 11 => ⟨S3x3x64x2x2x32, .f32⟩
  | 12 => ⟨S1x1x64x32, .f32⟩
  | 13 => ⟨S64x32, .f32⟩
  | 14 => ⟨S_, .i32⟩
  | 15 => ⟨S1, .i32⟩
  | 16 => ⟨S_, .i32⟩
  | 17 => ⟨S1, .i32⟩
  | 18 => ⟨S_, .i32⟩
  | 19 => ⟨S1, .i32⟩
  | 20 => ⟨S_, .i32⟩
  | 21 => ⟨S1, .i32⟩
  | 22 => ⟨S4, .i32⟩
  | 23 => ⟨S3x3x64x2x2x32, .f32⟩
  | 24 => ⟨S1x1x64x32, .f32⟩
  | 25 => ⟨S64x32, .f32⟩
  | 26 => ⟨S_, .i32⟩
  | 27 => ⟨S1, .i32⟩
  | 28 => ⟨S_, .i32⟩
  | 29 => ⟨S1, .i32⟩
  | 30 => ⟨S_, .i32⟩
  | 31 => ⟨S1, .i32⟩
  | 32 => ⟨S_, .i32⟩
  | 33 => ⟨S1, .i32⟩
  | 34 => ⟨S4, .i32⟩
  | 35 => ⟨S3x3x64x2x2x32, .f32⟩
  | 36 => ⟨S1x1x64x32, .f32⟩
  | 37 => ⟨S64x32, .f32⟩
  | 38 => ⟨S_, .i32⟩
  | 39 => ⟨S1, .i32⟩
  | 40 => ⟨S_, .i32⟩
  | 41 => ⟨S1, .i32⟩
  | 42 => ⟨S_, .i32⟩
  | 43 => ⟨S1, .i32⟩
  | 44 => ⟨S_, .i32⟩
  | 45 => ⟨S1, .i32⟩
  | 46 => ⟨S4, .i32⟩
  | 47 => ⟨S3x3x64x2x2x32, .f32⟩
  | 48 => ⟨S1x1x64x32, .f32⟩
  | 49 => ⟨S64x32, .f32⟩
  | 50 => ⟨S_, .i32⟩
  | 51 => ⟨S1, .i32⟩
  | 52 => ⟨S_, .i32⟩
  | 53 => ⟨S1, .i32⟩
  | 54 => ⟨S_, .i32⟩
  | 55 => ⟨S1, .i32⟩
  | 56 => ⟨S_, .i32⟩
  | 57 => ⟨S1, .i32⟩
  | 58 => ⟨S4, .i32⟩
  | 59 => ⟨S3x3x64x2x2x32, .f32⟩
  | 60 => ⟨S1x1x64x32, .f32⟩
  | 61 => ⟨S64x32, .f32⟩
  | 62 => ⟨S_, .i32⟩
  | 63 => ⟨S1, .i32⟩
  | 64 => ⟨S_, .i32⟩
  | 65 => ⟨S1, .i32⟩
  | 66 => ⟨S_, .i32⟩
  | 67 => ⟨S1, .i32⟩
  | 68 => ⟨S_, .i32⟩
  | 69 => ⟨S1, .i32⟩
  | 70 => ⟨S4, .i32⟩
  | 71 => ⟨S3x3x64x2x2x32, .f32⟩
  | 72 => ⟨S1x1x64x32, .f32⟩
  | 73 => ⟨S64x32, .f32⟩
  | 74 => ⟨S_, .i32⟩
  | 75 => ⟨S1, .i32⟩
  | 76 => ⟨S_, .i32⟩
  | 77 => ⟨S1, .i32⟩
  | 78 => ⟨S_, .i32⟩
  | 79 => ⟨S1, .i32⟩
  | 80 => ⟨S_, .i32⟩
  | 81 => ⟨S1, .i32⟩
  | 82 => ⟨S4, .i32⟩
  | 83 => ⟨S3x3x64x2x2x32, .f32⟩
  | 84 => ⟨S1x1x64x32, .f32⟩
  | 85 => ⟨S64x32, .f32⟩
  | 86 => ⟨S_, .i32⟩
  | 87 => ⟨S1, .i32⟩
  | 88 => ⟨S_, .i32⟩
  | 89 => ⟨S1, .i32⟩
  | 90 => ⟨S_, .i32⟩
  | 91 => ⟨S1, .i32⟩
  | 92 => ⟨S_, .i32⟩
  | 93 => ⟨S1, .i32⟩
  | 94 => ⟨S4, .i32⟩
  | 95 => ⟨S3x3x64x2x2x32, .f32⟩
  | 96 => ⟨S1x1x64x32, .f32⟩
  | 97 => ⟨S64x32, .f32⟩
  | 98 => ⟨S_, .i32⟩
  | 99 => ⟨S1, .i32⟩
  | 100 => ⟨S_, .i32⟩
  | 101 => ⟨S1, .i32⟩
  | 102 => ⟨S_, .i32⟩
  | 103 => ⟨S1, .i32⟩
  | 104 => ⟨S_, .i32⟩
  | 105 => ⟨S1, .i32⟩
  | 106 => ⟨S4, .i32⟩
  | 107 => ⟨S3x3x64x2x2x32, .f32⟩
  | 108 => ⟨S576x128, .f32⟩
  | 109 => ⟨S1x32, .f32⟩
  | 110 => ⟨S4x32, .f32⟩
  | 111 => ⟨S128, .f32⟩
  | 112 => ⟨S1x128, .f32⟩
  | 113 => ⟨S4x4x32x3, .f32⟩
  | 114 => ⟨S_, .i32⟩
  | 115 => ⟨S_, .f32⟩
  | 116 => ⟨S4x4x32x8, .f32⟩
  | 117 => ⟨S_, .f32⟩
  | 118 => ⟨S3x3x32x2x2x8, .f32⟩
  | 119 => ⟨S1x1x32x8, .f32⟩
  | 120 => ⟨S32x8, .f32⟩
  | 121 => ⟨S_, .i32⟩
  | 122 => ⟨S1, .i32⟩
  | 123 => ⟨S_, .i32⟩
  | 124 => ⟨S1, .i32⟩
  | 125 => ⟨S_, .i32⟩
  | 126 => ⟨S1, .i32⟩
  | 127 => ⟨S_, .i32⟩
  | _ => ⟨S8x3x224x224, .f32⟩

abbrev hbmTy0_2 (i : Nat) : BufTy := match i % 128 with
  | 0 => ⟨S1, .i32⟩
  | 1 => ⟨S4, .i32⟩
  | 2 => ⟨S3x3x32x2x2x8, .f32⟩
  | 3 => ⟨S1x1x32x8, .f32⟩
  | 4 => ⟨S32x8, .f32⟩
  | 5 => ⟨S_, .i32⟩
  | 6 => ⟨S1, .i32⟩
  | 7 => ⟨S_, .i32⟩
  | 8 => ⟨S1, .i32⟩
  | 9 => ⟨S_, .i32⟩
  | 10 => ⟨S1, .i32⟩
  | 11 => ⟨S_, .i32⟩
  | 12 => ⟨S1, .i32⟩
  | 13 => ⟨S4, .i32⟩
  | 14 => ⟨S3x3x32x2x2x8, .f32⟩
  | 15 => ⟨S1x1x32x8, .f32⟩
  | 16 => ⟨S32x8, .f32⟩
  | 17 => ⟨S_, .i32⟩
  | 18 => ⟨S1, .i32⟩
  | 19 => ⟨S_, .i32⟩
  | 20 => ⟨S1, .i32⟩
  | 21 => ⟨S_, .i32⟩
  | 22 => ⟨S1, .i32⟩
  | 23 => ⟨S_, .i32⟩
  | 24 => ⟨S1, .i32⟩
  | 25 => ⟨S4, .i32⟩
  | 26 => ⟨S3x3x32x2x2x8, .f32⟩
  | 27 => ⟨S1x1x32x8, .f32⟩
  | 28 => ⟨S32x8, .f32⟩
  | 29 => ⟨S_, .i32⟩
  | 30 => ⟨S1, .i32⟩
  | 31 => ⟨S_, .i32⟩
  | 32 => ⟨S1, .i32⟩
  | 33 => ⟨S_, .i32⟩
  | 34 => ⟨S1, .i32⟩
  | 35 => ⟨S_, .i32⟩
  | 36 => ⟨S1, .i32⟩
  | 37 => ⟨S4, .i32⟩
  | 38 => ⟨S3x3x32x2x2x8, .f32⟩
  | 39 => ⟨S1x1x32x8, .f32⟩
  | 40 => ⟨S32x8, .f32⟩
  | 41 => ⟨S_, .i32⟩
  | 42 => ⟨S1, .i32⟩
  | 43 => ⟨S_, .i32⟩
  | 44 => ⟨S1, .i32⟩
  | 45 => ⟨S_, .i32⟩
  | 46 => ⟨S1, .i32⟩
  | 47 => ⟨S_, .i32⟩
  | 48 => ⟨S1, .i32⟩
  | 49 => ⟨S4, .i32⟩
  | 50 => ⟨S3x3x32x2x2x8, .f32⟩
  | 51 => ⟨S1x1x32x8, .f32⟩
  | 52 => ⟨S32x8, .f32⟩
  | 53 => ⟨S_, .i32⟩
  | 54 => ⟨S1, .i32⟩
  | 55 => ⟨S_, .i32⟩
  | 56 => ⟨S1, .i32⟩
  | 57 => ⟨S_, .i32⟩
  | 58 => ⟨S1, .i32⟩
  | 59 => ⟨S_, .i32⟩
  | 60 => ⟨S1, .i32⟩
  | 61 => ⟨S4, .i32⟩
  | 62 => ⟨S3x3x32x2x2x8, .f32⟩
  | 63 => ⟨S1x1x32x8, .f32⟩
  | 64 => ⟨S32x8, .f32⟩
  | 65 => ⟨S_, .i32⟩
  | 66 => ⟨S1, .i32⟩
  | 67 => ⟨S_, .i32⟩
  | 68 => ⟨S1, .i32⟩
  | 69 => ⟨S_, .i32⟩
  | 70 => ⟨S1, .i32⟩
  | 71 => ⟨S_, .i32⟩
  | 72 => ⟨S1, .i32⟩
  | 73 => ⟨S4, .i32⟩
  | 74 => ⟨S3x3x32x2x2x8, .f32⟩
  | 75 => ⟨S1x1x32x8, .f32⟩
  | 76 => ⟨S32x8, .f32⟩
  | 77 => ⟨S_, .i32⟩
  | 78 => ⟨S1, .i32⟩
  | 79 => ⟨S_, .i32⟩
  | 80 => ⟨S1, .i32⟩
  | 81 => ⟨S_, .i32⟩
  | 82 => ⟨S1, .i32⟩
  | 83 => ⟨S_, .i32⟩
  | 84 => ⟨S1, .i32⟩
  | 85 => ⟨S4, .i32⟩
  | 86 => ⟨S3x3x32x2x2x8, .f32⟩
  | 87 => ⟨S1x1x32x8, .f32⟩
  | 88 => ⟨S32x8, .f32⟩
  | 89 => ⟨S_, .i32⟩
  | 90 => ⟨S1, .i32⟩
  | 91 => ⟨S_, .i32⟩
  | 92 => ⟨S1, .i32⟩
  | 93 => ⟨S_, .i32⟩
  | 94 => ⟨S1, .i32⟩
  | 95 => ⟨S_, .i32⟩
  | 96 => ⟨S1, .i32⟩
  | 97 => ⟨S4, .i32⟩
  | 98 => ⟨S3x3x32x2x2x8, .f32⟩
  | 99 => ⟨S1x1x32x8, .f32⟩
  | 100 => ⟨S32x8, .f32⟩
  | 101 => ⟨S_, .i32⟩
  | 102 => ⟨S1, .i32⟩
  | 103 => ⟨S_, .i32⟩
  | 104 => ⟨S1, .i32⟩
  | 105 => ⟨S_, .i32⟩
  | 106 => ⟨S1, .i32⟩
  | 107 => ⟨S_, .i32⟩
  | 108 => ⟨S1, .i32⟩
  | 109 => ⟨S4, .i32⟩
  | 110 => ⟨S3x3x32x2x2x8, .f32⟩
  | 111 => ⟨S1x1x32x8, .f32⟩
  | 112 => ⟨S32x8, .f32⟩
  | 113 => ⟨S_, .i32⟩
  | 114 => ⟨S1, .i32⟩
  | 115 => ⟨S_, .i32⟩
  | 116 => ⟨S1, .i32⟩
  | 117 => ⟨S_, .i32⟩
  | 118 => ⟨S1, .i32⟩
  | 119 => ⟨S_, .i32⟩
  | 120 => ⟨S1, .i32⟩
  | 121 => ⟨S4, .i32⟩
  | 122 => ⟨S3x3x32x2x2x8, .f32⟩
  | 123 => ⟨S1x1x32x8, .f32⟩
  | 124 => ⟨S32x8, .f32⟩
  | 125 => ⟨S_, .i32⟩
  | 126 => ⟨S1, .i32⟩
  | 127 => ⟨S_, .i32⟩
  | _ => ⟨S8x3x224x224, .f32⟩

abbrev hbmTy0_3 (i : Nat) : BufTy := match i % 128 with
  | 0 => ⟨S1, .i32⟩
  | 1 => ⟨S_, .i32⟩
  | 2 => ⟨S1, .i32⟩
  | 3 => ⟨S_, .i32⟩
  | 4 => ⟨S1, .i32⟩
  | 5 => ⟨S4, .i32⟩
  | 6 => ⟨S3x3x32x2x2x8, .f32⟩
  | 7 => ⟨S1x1x32x8, .f32⟩
  | 8 => ⟨S32x8, .f32⟩
  | 9 => ⟨S_, .i32⟩
  | 10 => ⟨S1, .i32⟩
  | 11 => ⟨S_, .i32⟩
  | 12 => ⟨S1, .i32⟩
  | 13 => ⟨S_, .i32⟩
  | 14 => ⟨S1, .i32⟩
  | 15 => ⟨S_, .i32⟩
  | 16 => ⟨S1, .i32⟩
  | 17 => ⟨S4, .i32⟩
  | 18 => ⟨S3x3x32x2x2x8, .f32⟩
  | 19 => ⟨S1x1x32x8, .f32⟩
  | 20 => ⟨S32x8, .f32⟩
  | 21 => ⟨S_, .i32⟩
  | 22 => ⟨S1, .i32⟩
  | 23 => ⟨S_, .i32⟩
  | 24 => ⟨S1, .i32⟩
  | 25 => ⟨S_, .i32⟩
  | 26 => ⟨S1, .i32⟩
  | 27 => ⟨S_, .i32⟩
  | 28 => ⟨S1, .i32⟩
  | 29 => ⟨S4, .i32⟩
  | 30 => ⟨S3x3x32x2x2x8, .f32⟩
  | 31 => ⟨S1x1x32x8, .f32⟩
  | 32 => ⟨S32x8, .f32⟩
  | 33 => ⟨S_, .i32⟩
  | 34 => ⟨S1, .i32⟩
  | 35 => ⟨S_, .i32⟩
  | 36 => ⟨S1, .i32⟩
  | 37 => ⟨S_, .i32⟩
  | 38 => ⟨S1, .i32⟩
  | 39 => ⟨S_, .i32⟩
  | 40 => ⟨S1, .i32⟩
  | 41 => ⟨S4, .i32⟩
  | 42 => ⟨S3x3x32x2x2x8, .f32⟩
  | 43 => ⟨S1x1x32x8, .f32⟩
  | 44 => ⟨S32x8, .f32⟩
  | 45 => ⟨S_, .i32⟩
  | 46 => ⟨S1, .i32⟩
  | 47 => ⟨S_, .i32⟩
  | 48 => ⟨S1, .i32⟩
  | 49 => ⟨S_, .i32⟩
  | 50 => ⟨S1, .i32⟩
  | 51 => ⟨S_, .i32⟩
  | 52 => ⟨S1, .i32⟩
  | 53 => ⟨S4, .i32⟩
  | 54 => ⟨S3x3x32x2x2x8, .f32⟩
  | 55 => ⟨S288x32, .f32⟩
  | 56 => ⟨S_, .i32⟩
  | 57 => ⟨S_, .f32⟩
  | 58 => ⟨S8, .f32⟩
  | 59 => ⟨S1x8, .f32⟩
  | 60 => ⟨S4x8, .f32⟩
  | 61 => ⟨S32, .f32⟩
  | 62 => ⟨S1x32, .f32⟩
  | 63 => ⟨S8x3x112x2x224, .f32⟩
  | _ => ⟨S8x3x224x224, .f32⟩

abbrev hbmTy (i : Nat) : BufTy := match i / 128 with
  | 0 => hbmTy0_0 i
  | 1 => hbmTy0_1 i
  | 2 => hbmTy0_2 i
  | 3 => hbmTy0_3 i
  | _ => ⟨S8x3x224x224, .f32⟩

abbrev bufTy : (tb : Table) → Fin (tcTables nBuf tb) → BufTy
  | .hbm, ⟨i, _⟩ => hbmTy i
  | .local _ .vmem, ⟨0, _⟩ => ⟨S1x113x113x12, .f32⟩
  | .local _ .vmem, ⟨1, _⟩ => ⟨S1x113x113x12, .f32⟩
  | .local _ .vmem, ⟨2, _⟩ => ⟨S48x32, .f32⟩
  | .local _ .vmem, ⟨3, _⟩ => ⟨S1x32, .f32⟩
  | .local _ .vmem, ⟨4, _⟩ => ⟨S512x64, .f32⟩
  | .local _ .vmem, ⟨5, _⟩ => ⟨S1x64, .f32⟩
  | .local _ .vmem, ⟨6, _⟩ => ⟨S576x64, .f32⟩
  | .local _ .vmem, ⟨7, _⟩ => ⟨S1x64, .f32⟩
  | .local _ .vmem, ⟨8, _⟩ => ⟨S64x1024, .f32⟩
  | .local _ .vmem, ⟨9, _⟩ => ⟨S1024x64, .f32⟩
  | .local _ .vmem, ⟨10, _⟩ => ⟨S576x64, .f32⟩
  | .local _ .vmem, ⟨11, _⟩ => ⟨S1x64, .f32⟩
  | .local _ .vmem, ⟨12, _⟩ => ⟨S576x128, .f32⟩
  | .local _ .vmem, ⟨13, _⟩ => ⟨S1x128, .f32⟩
  | .local _ .vmem, ⟨14, _⟩ => ⟨S288x32, .f32⟩
  | .local _ .vmem, ⟨15, _⟩ => ⟨S1x32, .f32⟩
  | .local _ .vmem, ⟨16, _⟩ => ⟨S1x3x112x2x224, .f32⟩
  | .local _ .vmem, ⟨17, _⟩ => ⟨S1x3x112x2x224, .f32⟩
  | .local _ .vmem, ⟨18, _⟩ => ⟨S114x114x32, .f32⟩
  | _, _ => ⟨S8x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c_0 : Ref sig .tc := ⟨.hbm, 46, rfl⟩
abbrev main_v29 : Ref sig .tc := ⟨.hbm, 47, rfl⟩
abbrev main_c_1 : Ref sig .tc := ⟨.hbm, 48, rfl⟩
abbrev main_v30 : Ref sig .tc := ⟨.hbm, 49, rfl⟩
abbrev main_c_2 : Ref sig .tc := ⟨.hbm, 50, rfl⟩
abbrev main_v31 : Ref sig .tc := ⟨.hbm, 51, rfl⟩
abbrev main_c_3 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_4 : Ref sig .tc := ⟨.hbm, 58, rfl⟩
abbrev main_v37 : Ref sig .tc := ⟨.hbm, 59, rfl⟩
abbrev main_c_5 : Ref sig .tc := ⟨.hbm, 60, rfl⟩
abbrev main_v38 : Ref sig .tc := ⟨.hbm, 61, rfl⟩
abbrev main_c_6 : Ref sig .tc := ⟨.hbm, 62, rfl⟩
abbrev main_v39 : Ref sig .tc := ⟨.hbm, 63, rfl⟩
abbrev main_c_7 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_c_9 : Ref sig .tc := ⟨.hbm, 72, rfl⟩
abbrev main_v46 : Ref sig .tc := ⟨.hbm, 73, rfl⟩
abbrev main_c_10 : Ref sig .tc := ⟨.hbm, 74, rfl⟩
abbrev main_v47 : Ref sig .tc := ⟨.hbm, 75, rfl⟩
abbrev main_c_11 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_c_12 : Ref sig .tc := ⟨.hbm, 82, rfl⟩
abbrev main_v53 : Ref sig .tc := ⟨.hbm, 83, rfl⟩
abbrev main_c_13 : Ref sig .tc := ⟨.hbm, 84, rfl⟩
abbrev main_v54 : Ref sig .tc := ⟨.hbm, 85, rfl⟩
abbrev main_c_14 : Ref sig .tc := ⟨.hbm, 86, rfl⟩
abbrev main_v55 : Ref sig .tc := ⟨.hbm, 87, rfl⟩
abbrev main_c_15 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_c_16 : Ref sig .tc := ⟨.hbm, 94, rfl⟩
abbrev main_v61 : Ref sig .tc := ⟨.hbm, 95, rfl⟩
abbrev main_c_17 : Ref sig .tc := ⟨.hbm, 96, rfl⟩
abbrev main_v62 : Ref sig .tc := ⟨.hbm, 97, rfl⟩
abbrev main_c_18 : Ref sig .tc := ⟨.hbm, 98, rfl⟩
abbrev main_v63 : Ref sig .tc := ⟨.hbm, 99, rfl⟩
abbrev main_c_19 : Ref sig .tc := ⟨.hbm, 100, rfl⟩
abbrev main_v64 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_c_20 : Ref sig .tc := ⟨.hbm, 106, rfl⟩
abbrev main_v69 : Ref sig .tc := ⟨.hbm, 107, rfl⟩
abbrev main_c_21 : Ref sig .tc := ⟨.hbm, 108, rfl⟩
abbrev main_v70 : Ref sig .tc := ⟨.hbm, 109, rfl⟩
abbrev main_c_22 : Ref sig .tc := ⟨.hbm, 110, rfl⟩
abbrev main_v71 : Ref sig .tc := ⟨.hbm, 111, rfl⟩
abbrev main_c_23 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_c_24 : Ref sig .tc := ⟨.hbm, 118, rfl⟩
abbrev main_v77 : Ref sig .tc := ⟨.hbm, 119, rfl⟩
abbrev main_c_25 : Ref sig .tc := ⟨.hbm, 120, rfl⟩
abbrev main_v78 : Ref sig .tc := ⟨.hbm, 121, rfl⟩
abbrev main_c_26 : Ref sig .tc := ⟨.hbm, 122, rfl⟩
abbrev main_v79 : Ref sig .tc := ⟨.hbm, 123, rfl⟩
abbrev main_c_27 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_c_28 : Ref sig .tc := ⟨.hbm, 130, rfl⟩
abbrev main_v85 : Ref sig .tc := ⟨.hbm, 131, rfl⟩
abbrev main_c_29 : Ref sig .tc := ⟨.hbm, 132, rfl⟩
abbrev main_v86 : Ref sig .tc := ⟨.hbm, 133, rfl⟩
abbrev main_c_30 : Ref sig .tc := ⟨.hbm, 134, rfl⟩
abbrev main_v87 : Ref sig .tc := ⟨.hbm, 135, rfl⟩
abbrev main_c_31 : Ref sig .tc := ⟨.hbm, 136, rfl⟩
abbrev main_v88 : Ref sig .tc := ⟨.hbm, 137, rfl⟩
abbrev main_v89 : Ref sig .tc := ⟨.hbm, 138, rfl⟩
abbrev main_v90 : Ref sig .tc := ⟨.hbm, 139, rfl⟩
abbrev main_v91 : Ref sig .tc := ⟨.hbm, 140, rfl⟩
abbrev main_v92 : Ref sig .tc := ⟨.hbm, 141, rfl⟩
abbrev main_c_32 : Ref sig .tc := ⟨.hbm, 142, rfl⟩
abbrev main_v93 : Ref sig .tc := ⟨.hbm, 143, rfl⟩
abbrev main_c_33 : Ref sig .tc := ⟨.hbm, 144, rfl⟩
abbrev main_v94 : Ref sig .tc := ⟨.hbm, 145, rfl⟩
abbrev main_c_34 : Ref sig .tc := ⟨.hbm, 146, rfl⟩
abbrev main_v95 : Ref sig .tc := ⟨.hbm, 147, rfl⟩
abbrev main_c_35 : Ref sig .tc := ⟨.hbm, 148, rfl⟩
abbrev main_v96 : Ref sig .tc := ⟨.hbm, 149, rfl⟩
abbrev main_v97 : Ref sig .tc := ⟨.hbm, 150, rfl⟩
abbrev main_v98 : Ref sig .tc := ⟨.hbm, 151, rfl⟩
abbrev main_v99 : Ref sig .tc := ⟨.hbm, 152, rfl⟩
abbrev main_v100 : Ref sig .tc := ⟨.hbm, 153, rfl⟩
abbrev main_c_36 : Ref sig .tc := ⟨.hbm, 154, rfl⟩
abbrev main_v101 : Ref sig .tc := ⟨.hbm, 155, rfl⟩
abbrev main_c_37 : Ref sig .tc := ⟨.hbm, 156, rfl⟩
abbrev main_v102 : Ref sig .tc := ⟨.hbm, 157, rfl⟩
abbrev main_c_38 : Ref sig .tc := ⟨.hbm, 158, rfl⟩
abbrev main_v103 : Ref sig .tc := ⟨.hbm, 159, rfl⟩
abbrev main_c_39 : Ref sig .tc := ⟨.hbm, 160, rfl⟩
abbrev main_v104 : Ref sig .tc := ⟨.hbm, 161, rfl⟩
abbrev main_v105 : Ref sig .tc := ⟨.hbm, 162, rfl⟩
abbrev main_v106 : Ref sig .tc := ⟨.hbm, 163, rfl⟩
abbrev main_v107 : Ref sig .tc := ⟨.hbm, 164, rfl⟩
abbrev main_v108 : Ref sig .tc := ⟨.hbm, 165, rfl⟩
abbrev main_c_40 : Ref sig .tc := ⟨.hbm, 166, rfl⟩
abbrev main_v109 : Ref sig .tc := ⟨.hbm, 167, rfl⟩
abbrev main_c_41 : Ref sig .tc := ⟨.hbm, 168, rfl⟩
abbrev main_v110 : Ref sig .tc := ⟨.hbm, 169, rfl⟩
abbrev main_c_42 : Ref sig .tc := ⟨.hbm, 170, rfl⟩
abbrev main_v111 : Ref sig .tc := ⟨.hbm, 171, rfl⟩
abbrev main_c_43 : Ref sig .tc := ⟨.hbm, 172, rfl⟩
abbrev main_v112 : Ref sig .tc := ⟨.hbm, 173, rfl⟩
abbrev main_v113 : Ref sig .tc := ⟨.hbm, 174, rfl⟩
abbrev main_v114 : Ref sig .tc := ⟨.hbm, 175, rfl⟩
abbrev main_v115 : Ref sig .tc := ⟨.hbm, 176, rfl⟩
abbrev main_v116 : Ref sig .tc := ⟨.hbm, 177, rfl⟩
abbrev main_c_44 : Ref sig .tc := ⟨.hbm, 178, rfl⟩
abbrev main_v117 : Ref sig .tc := ⟨.hbm, 179, rfl⟩
abbrev main_c_45 : Ref sig .tc := ⟨.hbm, 180, rfl⟩
abbrev main_v118 : Ref sig .tc := ⟨.hbm, 181, rfl⟩
abbrev main_c_46 : Ref sig .tc := ⟨.hbm, 182, rfl⟩
abbrev main_v119 : Ref sig .tc := ⟨.hbm, 183, rfl⟩
abbrev main_c_47 : Ref sig .tc := ⟨.hbm, 184, rfl⟩
abbrev main_v120 : Ref sig .tc := ⟨.hbm, 185, rfl⟩
abbrev main_v121 : Ref sig .tc := ⟨.hbm, 186, rfl⟩
abbrev main_v122 : Ref sig .tc := ⟨.hbm, 187, rfl⟩
abbrev main_v123 : Ref sig .tc := ⟨.hbm, 188, rfl⟩
abbrev main_v124 : Ref sig .tc := ⟨.hbm, 189, rfl⟩
abbrev main_c_48 : Ref sig .tc := ⟨.hbm, 190, rfl⟩
abbrev main_v125 : Ref sig .tc := ⟨.hbm, 191, rfl⟩
abbrev main_c_49 : Ref sig .tc := ⟨.hbm, 192, rfl⟩
abbrev main_v126 : Ref sig .tc := ⟨.hbm, 193, rfl⟩
abbrev main_c_50 : Ref sig .tc := ⟨.hbm, 194, rfl⟩
abbrev main_v127 : Ref sig .tc := ⟨.hbm, 195, rfl⟩
abbrev main_c_51 : Ref sig .tc := ⟨.hbm, 196, rfl⟩
abbrev main_v128 : Ref sig .tc := ⟨.hbm, 197, rfl⟩
abbrev main_v129 : Ref sig .tc := ⟨.hbm, 198, rfl⟩
abbrev main_v130 : Ref sig .tc := ⟨.hbm, 199, rfl⟩
abbrev main_v131 : Ref sig .tc := ⟨.hbm, 200, rfl⟩
abbrev main_v132 : Ref sig .tc := ⟨.hbm, 201, rfl⟩
abbrev main_c_52 : Ref sig .tc := ⟨.hbm, 202, rfl⟩
abbrev main_v133 : Ref sig .tc := ⟨.hbm, 203, rfl⟩
abbrev main_c_53 : Ref sig .tc := ⟨.hbm, 204, rfl⟩
abbrev main_v134 : Ref sig .tc := ⟨.hbm, 205, rfl⟩
abbrev main_c_54 : Ref sig .tc := ⟨.hbm, 206, rfl⟩
abbrev main_v135 : Ref sig .tc := ⟨.hbm, 207, rfl⟩
abbrev main_c_55 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_c_56 : Ref sig .tc := ⟨.hbm, 214, rfl⟩
abbrev main_v141 : Ref sig .tc := ⟨.hbm, 215, rfl⟩
abbrev main_c_57 : Ref sig .tc := ⟨.hbm, 216, rfl⟩
abbrev main_v142 : Ref sig .tc := ⟨.hbm, 217, rfl⟩
abbrev main_c_58 : Ref sig .tc := ⟨.hbm, 218, rfl⟩
abbrev main_v143 : Ref sig .tc := ⟨.hbm, 219, rfl⟩
abbrev main_c_59 : Ref sig .tc := ⟨.hbm, 220, rfl⟩
abbrev main_v144 : Ref sig .tc := ⟨.hbm, 221, rfl⟩
abbrev main_v145 : Ref sig .tc := ⟨.hbm, 222, rfl⟩
abbrev main_v146 : Ref sig .tc := ⟨.hbm, 223, rfl⟩
abbrev main_v147 : Ref sig .tc := ⟨.hbm, 224, rfl⟩
abbrev main_v148 : Ref sig .tc := ⟨.hbm, 225, rfl⟩
abbrev main_c_60 : Ref sig .tc := ⟨.hbm, 226, rfl⟩
abbrev main_v149 : Ref sig .tc := ⟨.hbm, 227, rfl⟩
abbrev main_c_61 : Ref sig .tc := ⟨.hbm, 228, rfl⟩
abbrev main_v150 : Ref sig .tc := ⟨.hbm, 229, rfl⟩
abbrev main_c_62 : Ref sig .tc := ⟨.hbm, 230, rfl⟩
abbrev main_v151 : Ref sig .tc := ⟨.hbm, 231, rfl⟩
abbrev main_c_63 : Ref sig .tc := ⟨.hbm, 232, rfl⟩
abbrev main_v152 : Ref sig .tc := ⟨.hbm, 233, rfl⟩
abbrev main_v153 : Ref sig .tc := ⟨.hbm, 234, rfl⟩
abbrev main_v154 : Ref sig .tc := ⟨.hbm, 235, rfl⟩
abbrev main_v155 : Ref sig .tc := ⟨.hbm, 236, rfl⟩
abbrev main_v156 : Ref sig .tc := ⟨.hbm, 237, rfl⟩
abbrev main_v157 : Ref sig .tc := ⟨.hbm, 238, rfl⟩
abbrev main_v158 : Ref sig .tc := ⟨.hbm, 239, rfl⟩
abbrev main_v159 : Ref sig .tc := ⟨.hbm, 240, rfl⟩
abbrev main_v160 : Ref sig .tc := ⟨.hbm, 241, rfl⟩
abbrev main_c_64 : Ref sig .tc := ⟨.hbm, 242, rfl⟩
abbrev main_call4_v0 : Ref sig .tc := ⟨.hbm, 243, rfl⟩
abbrev main_v161 : Ref sig .tc := ⟨.hbm, 244, rfl⟩
abbrev main_cst_65 : Ref sig .tc := ⟨.hbm, 245, rfl⟩
abbrev main_v162 : Ref sig .tc := ⟨.hbm, 246, rfl⟩
abbrev main_v163 : Ref sig .tc := ⟨.hbm, 247, rfl⟩
abbrev main_v164 : Ref sig .tc := ⟨.hbm, 248, rfl⟩
abbrev main_c_66 : Ref sig .tc := ⟨.hbm, 249, rfl⟩
abbrev main_v165 : Ref sig .tc := ⟨.hbm, 250, rfl⟩
abbrev main_c_67 : Ref sig .tc := ⟨.hbm, 251, rfl⟩
abbrev main_v166 : Ref sig .tc := ⟨.hbm, 252, rfl⟩
abbrev main_c_68 : Ref sig .tc := ⟨.hbm, 253, rfl⟩
abbrev main_v167 : Ref sig .tc := ⟨.hbm, 254, rfl⟩
abbrev main_c_69 : Ref sig .tc := ⟨.hbm, 255, rfl⟩
abbrev main_v168 : Ref sig .tc := ⟨.hbm, 256, rfl⟩
abbrev main_v169 : Ref sig .tc := ⟨.hbm, 257, rfl⟩
abbrev main_v170 : Ref sig .tc := ⟨.hbm, 258, rfl⟩
abbrev main_v171 : Ref sig .tc := ⟨.hbm, 259, rfl⟩
abbrev main_v172 : Ref sig .tc := ⟨.hbm, 260, rfl⟩
abbrev main_c_70 : Ref sig .tc := ⟨.hbm, 261, rfl⟩
abbrev main_v173 : Ref sig .tc := ⟨.hbm, 262, rfl⟩
abbrev main_c_71 : Ref sig .tc := ⟨.hbm, 263, rfl⟩
abbrev main_v174 : Ref sig .tc := ⟨.hbm, 264, rfl⟩
abbrev main_c_72 : Ref sig .tc := ⟨.hbm, 265, rfl⟩
abbrev main_v175 : Ref sig .tc := ⟨.hbm, 266, rfl⟩
abbrev main_c_73 : Ref sig .tc := ⟨.hbm, 267, rfl⟩
abbrev main_v176 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_c_74 : Ref sig .tc := ⟨.hbm, 273, rfl⟩
abbrev main_v181 : Ref sig .tc := ⟨.hbm, 274, rfl⟩
abbrev main_c_75 : Ref sig .tc := ⟨.hbm, 275, rfl⟩
abbrev main_v182 : Ref sig .tc := ⟨.hbm, 276, rfl⟩
abbrev main_c_76 : Ref sig .tc := ⟨.hbm, 277, rfl⟩
abbrev main_v183 : Ref sig .tc := ⟨.hbm, 278, rfl⟩
abbrev main_c_77 : Ref sig .tc := ⟨.hbm, 279, rfl⟩
abbrev main_v184 : Ref sig .tc := ⟨.hbm, 280, rfl⟩
abbrev main_v185 : Ref sig .tc := ⟨.hbm, 281, rfl⟩
abbrev main_v186 : Ref sig .tc := ⟨.hbm, 282, rfl⟩
abbrev main_v187 : Ref sig .tc := ⟨.hbm, 283, rfl⟩
abbrev main_v188 : Ref sig .tc := ⟨.hbm, 284, rfl⟩
abbrev main_c_78 : Ref sig .tc := ⟨.hbm, 285, rfl⟩
abbrev main_v189 : Ref sig .tc := ⟨.hbm, 286, rfl⟩
abbrev main_c_79 : Ref sig .tc := ⟨.hbm, 287, rfl⟩
abbrev main_v190 : Ref sig .tc := ⟨.hbm, 288, rfl⟩
abbrev main_c_80 : Ref sig .tc := ⟨.hbm, 289, rfl⟩
abbrev main_v191 : Ref sig .tc := ⟨.hbm, 290, rfl⟩
abbrev main_c_81 : Ref sig .tc := ⟨.hbm, 291, rfl⟩
abbrev main_v192 : Ref sig .tc := ⟨.hbm, 292, rfl⟩
abbrev main_v193 : Ref sig .tc := ⟨.hbm, 293, rfl⟩
abbrev main_v194 : Ref sig .tc := ⟨.hbm, 294, rfl⟩
abbrev main_v195 : Ref sig .tc := ⟨.hbm, 295, rfl⟩
abbrev main_v196 : Ref sig .tc := ⟨.hbm, 296, rfl⟩
abbrev main_c_82 : Ref sig .tc := ⟨.hbm, 297, rfl⟩
abbrev main_v197 : Ref sig .tc := ⟨.hbm, 298, rfl⟩
abbrev main_c_83 : Ref sig .tc := ⟨.hbm, 299, rfl⟩
abbrev main_v198 : Ref sig .tc := ⟨.hbm, 300, rfl⟩
abbrev main_c_84 : Ref sig .tc := ⟨.hbm, 301, rfl⟩
abbrev main_v199 : Ref sig .tc := ⟨.hbm, 302, rfl⟩
abbrev main_c_85 : Ref sig .tc := ⟨.hbm, 303, rfl⟩
abbrev main_v200 : Ref sig .tc := ⟨.hbm, 304, rfl⟩
abbrev main_v201 : Ref sig .tc := ⟨.hbm, 305, rfl⟩
abbrev main_v202 : Ref sig .tc := ⟨.hbm, 306, rfl⟩
abbrev main_v203 : Ref sig .tc := ⟨.hbm, 307, rfl⟩
abbrev main_v204 : Ref sig .tc := ⟨.hbm, 308, rfl⟩
abbrev main_c_86 : Ref sig .tc := ⟨.hbm, 309, rfl⟩
abbrev main_v205 : Ref sig .tc := ⟨.hbm, 310, rfl⟩
abbrev main_c_87 : Ref sig .tc := ⟨.hbm, 311, rfl⟩
abbrev main_v206 : Ref sig .tc := ⟨.hbm, 312, rfl⟩
abbrev main_c_88 : Ref sig .tc := ⟨.hbm, 313, rfl⟩
abbrev main_v207 : Ref sig .tc := ⟨.hbm, 314, rfl⟩
abbrev main_c_89 : Ref sig .tc := ⟨.hbm, 315, rfl⟩
abbrev main_v208 : Ref sig .tc := ⟨.hbm, 316, rfl⟩
abbrev main_v209 : Ref sig .tc := ⟨.hbm, 317, rfl⟩
abbrev main_v210 : Ref sig .tc := ⟨.hbm, 318, rfl⟩
abbrev main_v211 : Ref sig .tc := ⟨.hbm, 319, rfl⟩
abbrev main_v212 : Ref sig .tc := ⟨.hbm, 320, rfl⟩
abbrev main_c_90 : Ref sig .tc := ⟨.hbm, 321, rfl⟩
abbrev main_v213 : Ref sig .tc := ⟨.hbm, 322, rfl⟩
abbrev main_c_91 : Ref sig .tc := ⟨.hbm, 323, rfl⟩
abbrev main_v214 : Ref sig .tc := ⟨.hbm, 324, rfl⟩
abbrev main_c_92 : Ref sig .tc := ⟨.hbm, 325, rfl⟩
abbrev main_v215 : Ref sig .tc := ⟨.hbm, 326, rfl⟩
abbrev main_c_93 : Ref sig .tc := ⟨.hbm, 327, rfl⟩
abbrev main_v216 : Ref sig .tc := ⟨.hbm, 328, rfl⟩
abbrev main_v217 : Ref sig .tc := ⟨.hbm, 329, rfl⟩
abbrev main_v218 : Ref sig .tc := ⟨.hbm, 330, rfl⟩
abbrev main_v219 : Ref sig .tc := ⟨.hbm, 331, rfl⟩
abbrev main_v220 : Ref sig .tc := ⟨.hbm, 332, rfl⟩
abbrev main_c_94 : Ref sig .tc := ⟨.hbm, 333, rfl⟩
abbrev main_v221 : Ref sig .tc := ⟨.hbm, 334, rfl⟩
abbrev main_c_95 : Ref sig .tc := ⟨.hbm, 335, rfl⟩
abbrev main_v222 : Ref sig .tc := ⟨.hbm, 336, rfl⟩
abbrev main_c_96 : Ref sig .tc := ⟨.hbm, 337, rfl⟩
abbrev main_v223 : Ref sig .tc := ⟨.hbm, 338, rfl⟩
abbrev main_c_97 : Ref sig .tc := ⟨.hbm, 339, rfl⟩
abbrev main_v224 : Ref sig .tc := ⟨.hbm, 340, rfl⟩
abbrev main_v225 : Ref sig .tc := ⟨.hbm, 341, rfl⟩
abbrev main_v226 : Ref sig .tc := ⟨.hbm, 342, rfl⟩
abbrev main_v227 : Ref sig .tc := ⟨.hbm, 343, rfl⟩
abbrev main_v228 : Ref sig .tc := ⟨.hbm, 344, rfl⟩
abbrev main_c_98 : Ref sig .tc := ⟨.hbm, 345, rfl⟩
abbrev main_v229 : Ref sig .tc := ⟨.hbm, 346, rfl⟩
abbrev main_c_99 : Ref sig .tc := ⟨.hbm, 347, rfl⟩
abbrev main_v230 : Ref sig .tc := ⟨.hbm, 348, rfl⟩
abbrev main_c_100 : Ref sig .tc := ⟨.hbm, 349, rfl⟩
abbrev main_v231 : Ref sig .tc := ⟨.hbm, 350, rfl⟩
abbrev main_c_101 : Ref sig .tc := ⟨.hbm, 351, rfl⟩
abbrev main_v232 : Ref sig .tc := ⟨.hbm, 352, rfl⟩
abbrev main_v233 : Ref sig .tc := ⟨.hbm, 353, rfl⟩
abbrev main_v234 : Ref sig .tc := ⟨.hbm, 354, rfl⟩
abbrev main_v235 : Ref sig .tc := ⟨.hbm, 355, rfl⟩
abbrev main_v236 : Ref sig .tc := ⟨.hbm, 356, rfl⟩
abbrev main_c_102 : Ref sig .tc := ⟨.hbm, 357, rfl⟩
abbrev main_v237 : Ref sig .tc := ⟨.hbm, 358, rfl⟩
abbrev main_c_103 : Ref sig .tc := ⟨.hbm, 359, rfl⟩
abbrev main_v238 : Ref sig .tc := ⟨.hbm, 360, rfl⟩
abbrev main_c_104 : Ref sig .tc := ⟨.hbm, 361, rfl⟩
abbrev main_v239 : Ref sig .tc := ⟨.hbm, 362, rfl⟩
abbrev main_c_105 : Ref sig .tc := ⟨.hbm, 363, rfl⟩
abbrev main_v240 : Ref sig .tc := ⟨.hbm, 364, rfl⟩
abbrev main_v241 : Ref sig .tc := ⟨.hbm, 365, rfl⟩
abbrev main_v242 : Ref sig .tc := ⟨.hbm, 366, rfl⟩
abbrev main_v243 : Ref sig .tc := ⟨.hbm, 367, rfl⟩
abbrev main_v244 : Ref sig .tc := ⟨.hbm, 368, rfl⟩
abbrev main_c_106 : Ref sig .tc := ⟨.hbm, 369, rfl⟩
abbrev main_v245 : Ref sig .tc := ⟨.hbm, 370, rfl⟩
abbrev main_c_107 : Ref sig .tc := ⟨.hbm, 371, rfl⟩
abbrev main_v246 : Ref sig .tc := ⟨.hbm, 372, rfl⟩
abbrev main_c_108 : Ref sig .tc := ⟨.hbm, 373, rfl⟩
abbrev main_v247 : Ref sig .tc := ⟨.hbm, 374, rfl⟩
abbrev main_c_109 : Ref sig .tc := ⟨.hbm, 375, rfl⟩
abbrev main_v248 : Ref sig .tc := ⟨.hbm, 376, rfl⟩
abbrev main_v249 : Ref sig .tc := ⟨.hbm, 377, rfl⟩
abbrev main_v250 : Ref sig .tc := ⟨.hbm, 378, rfl⟩
abbrev main_v251 : Ref sig .tc := ⟨.hbm, 379, rfl⟩
abbrev main_v252 : Ref sig .tc := ⟨.hbm, 380, rfl⟩
abbrev main_c_110 : Ref sig .tc := ⟨.hbm, 381, rfl⟩
abbrev main_v253 : Ref sig .tc := ⟨.hbm, 382, rfl⟩
abbrev main_c_111 : Ref sig .tc := ⟨.hbm, 383, rfl⟩
abbrev main_v254 : Ref sig .tc := ⟨.hbm, 384, rfl⟩
abbrev main_c_112 : Ref sig .tc := ⟨.hbm, 385, rfl⟩
abbrev main_v255 : Ref sig .tc := ⟨.hbm, 386, rfl⟩
abbrev main_c_113 : Ref sig .tc := ⟨.hbm, 387, rfl⟩
abbrev main_v256 : Ref sig .tc := ⟨.hbm, 388, rfl⟩
abbrev main_v257 : Ref sig .tc := ⟨.hbm, 389, rfl⟩
abbrev main_v258 : Ref sig .tc := ⟨.hbm, 390, rfl⟩
abbrev main_v259 : Ref sig .tc := ⟨.hbm, 391, rfl⟩
abbrev main_v260 : Ref sig .tc := ⟨.hbm, 392, rfl⟩
abbrev main_c_114 : Ref sig .tc := ⟨.hbm, 393, rfl⟩
abbrev main_v261 : Ref sig .tc := ⟨.hbm, 394, rfl⟩
abbrev main_c_115 : Ref sig .tc := ⟨.hbm, 395, rfl⟩
abbrev main_v262 : Ref sig .tc := ⟨.hbm, 396, rfl⟩
abbrev main_c_116 : Ref sig .tc := ⟨.hbm, 397, rfl⟩
abbrev main_v263 : Ref sig .tc := ⟨.hbm, 398, rfl⟩
abbrev main_c_117 : Ref sig .tc := ⟨.hbm, 399, rfl⟩
abbrev main_v264 : Ref sig .tc := ⟨.hbm, 400, rfl⟩
abbrev main_v265 : Ref sig .tc := ⟨.hbm, 401, rfl⟩
abbrev main_v266 : Ref sig .tc := ⟨.hbm, 402, rfl⟩
abbrev main_v267 : Ref sig .tc := ⟨.hbm, 403, rfl⟩
abbrev main_v268 : Ref sig .tc := ⟨.hbm, 404, rfl⟩
abbrev main_c_118 : Ref sig .tc := ⟨.hbm, 405, rfl⟩
abbrev main_v269 : Ref sig .tc := ⟨.hbm, 406, rfl⟩
abbrev main_c_119 : Ref sig .tc := ⟨.hbm, 407, rfl⟩
abbrev main_v270 : Ref sig .tc := ⟨.hbm, 408, rfl⟩
abbrev main_c_120 : Ref sig .tc := ⟨.hbm, 409, rfl⟩
abbrev main_v271 : Ref sig .tc := ⟨.hbm, 410, rfl⟩
abbrev main_c_121 : Ref sig .tc := ⟨.hbm, 411, rfl⟩
abbrev main_v272 : Ref sig .tc := ⟨.hbm, 412, rfl⟩
abbrev main_v273 : Ref sig .tc := ⟨.hbm, 413, rfl⟩
abbrev main_v274 : Ref sig .tc := ⟨.hbm, 414, rfl⟩
abbrev main_v275 : Ref sig .tc := ⟨.hbm, 415, rfl⟩
abbrev main_v276 : Ref sig .tc := ⟨.hbm, 416, rfl⟩
abbrev main_c_122 : Ref sig .tc := ⟨.hbm, 417, rfl⟩
abbrev main_v277 : Ref sig .tc := ⟨.hbm, 418, rfl⟩
abbrev main_c_123 : Ref sig .tc := ⟨.hbm, 419, rfl⟩
abbrev main_v278 : Ref sig .tc := ⟨.hbm, 420, rfl⟩
abbrev main_c_124 : Ref sig .tc := ⟨.hbm, 421, rfl⟩
abbrev main_v279 : Ref sig .tc := ⟨.hbm, 422, rfl⟩
abbrev main_c_125 : Ref sig .tc := ⟨.hbm, 423, rfl⟩
abbrev main_v280 : Ref sig .tc := ⟨.hbm, 424, rfl⟩
abbrev main_v281 : Ref sig .tc := ⟨.hbm, 425, rfl⟩
abbrev main_v282 : Ref sig .tc := ⟨.hbm, 426, rfl⟩
abbrev main_v283 : Ref sig .tc := ⟨.hbm, 427, rfl⟩
abbrev main_v284 : Ref sig .tc := ⟨.hbm, 428, rfl⟩
abbrev main_c_126 : Ref sig .tc := ⟨.hbm, 429, rfl⟩
abbrev main_v285 : Ref sig .tc := ⟨.hbm, 430, rfl⟩
abbrev main_c_127 : Ref sig .tc := ⟨.hbm, 431, rfl⟩
abbrev main_v286 : Ref sig .tc := ⟨.hbm, 432, rfl⟩
abbrev main_c_128 : Ref sig .tc := ⟨.hbm, 433, rfl⟩
abbrev main_v287 : Ref sig .tc := ⟨.hbm, 434, rfl⟩
abbrev main_c_129 : Ref sig .tc := ⟨.hbm, 435, rfl⟩
abbrev main_v288 : Ref sig .tc := ⟨.hbm, 436, rfl⟩
abbrev main_v289 : Ref sig .tc := ⟨.hbm, 437, rfl⟩
abbrev main_v290 : Ref sig .tc := ⟨.hbm, 438, rfl⟩
abbrev main_v291 : Ref sig .tc := ⟨.hbm, 439, rfl⟩
abbrev main_c_130 : Ref sig .tc := ⟨.hbm, 440, rfl⟩
abbrev main_call5_v0 : Ref sig .tc := ⟨.hbm, 441, rfl⟩
abbrev main_v292 : Ref sig .tc := ⟨.hbm, 442, rfl⟩
abbrev main_v293 : Ref sig .tc := ⟨.hbm, 443, rfl⟩
abbrev main_v294 : Ref sig .tc := ⟨.hbm, 444, rfl⟩
abbrev main_v295 : Ref sig .tc := ⟨.hbm, 445, rfl⟩
abbrev main_v296 : Ref sig .tc := ⟨.hbm, 446, rfl⟩
abbrev main_v297 : Ref sig .tc := ⟨.hbm, 447, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg12_0 : Ref sig .tc := ⟨.vmem, 13, rfl⟩
abbrev cc0_stg13_0 : Ref sig .tc := ⟨.vmem, 14, rfl⟩
abbrev cc0_stg14_0 : Ref sig .tc := ⟨.vmem, 15, rfl⟩
abbrev cc0_stg15_0 : Ref sig .tc := ⟨.vmem, 16, rfl⟩
abbrev cc0_stg15_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem12_0 : DmaSem sig := 13
abbrev cc0_sem13_0 : DmaSem sig := 14
abbrev cc0_sem14_0 : DmaSem sig := 15
abbrev cc0_sem15_0 : DmaSem sig := 16
abbrev cc0_sem15_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 5 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![arg0.toNat, c0_i32.toNat, c0_i32_0.toNat, c0_i32_1.toNat, c0_i32_2.toNat]

abbrev stage0_0 : Fin 2 → Memref sig .tc .vmem S1x113x113x12 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S48x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S576x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S576x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S576x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S288x32 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x3x112x2x224 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S8x3x224x224 : Shape := ⟨4, ![8, 3, 224, 224]⟩
abbrev S32x3x4x4 : Shape := ⟨4, ![32, 3, 4, 4]⟩
abbrev S32 : Shape := ⟨1, ![32]⟩
abbrev S64x32x4x4 : Shape := ⟨4, ![64, 32, 4, 4]⟩
abbrev S64 : Shape := ⟨1, ![64]⟩
abbrev S64x64x3x3 : Shape := ⟨4, ![64, 64, 3, 3]⟩
abbrev S1024x64 : Shape := ⟨2, ![1024, 64]⟩
abbrev S3 : Shape := ⟨1, ![3]⟩
abbrev S_ : Shape := ⟨0, ![]⟩
abbrev S8x3x226x226 : Shape := ⟨4, ![8, 3, 226, 226]⟩
abbrev S8x3x112x226 : Shape := ⟨4, ![8, 3, 112, 226]⟩
abbrev S8x3x112x1x226 : Shape := ⟨5, ![8, 3, 112, 1, 226]⟩
abbrev S8x3x112x4x226 : Shape := ⟨5, ![8, 3, 112, 4, 226]⟩
abbrev S8x3x112x4x112 : Shape := ⟨5, ![8, 3, 112, 4, 112]⟩
abbrev S8x3x112x4x112x1 : Shape := ⟨6, ![8, 3, 112, 4, 112, 1]⟩
abbrev S8x3x112x4x112x4 : Shape := ⟨6, ![8, 3, 112, 4, 112, 4]⟩
abbrev S32x8x112x112 : Shape := ⟨4, ![32, 8, 112, 112]⟩
abbrev S8x32x112x112 : Shape := ⟨4, ![8, 32, 112, 112]⟩
abbrev S1x32x1x1 : Shape := ⟨4, ![1, 32, 1, 1]⟩
abbrev S8x32x114x114 : Shape := ⟨4, ![8, 32, 114, 114]⟩
abbrev S8x32x56x114 : Shape := ⟨4, ![8, 32, 56, 114]⟩
abbrev S8x32x56x1x114 : Shape := ⟨5, ![8, 32, 56, 1, 114]⟩
abbrev S8x32x56x4x114 : Shape := ⟨5, ![8, 32, 56, 4, 114]⟩
abbrev S8x32x56x4x56 : Shape := ⟨5, ![8, 32, 56, 4, 56]⟩
abbrev S8x32x56x4x56x1 : Shape := ⟨6, ![8, 32, 56, 4, 56, 1]⟩
abbrev S8x32x56x4x56x4 : Shape := ⟨6, ![8, 32, 56, 4, 56, 4]⟩
abbrev S64x8x56x56 : Shape := ⟨4, ![64, 8, 56, 56]⟩
abbrev S8x64x56x56 : Shape := ⟨4, ![8, 64, 56, 56]⟩
abbrev S1x64x1x1 : Shape := ⟨4, ![1, 64, 1, 1]⟩
abbrev S8x64x58x58 : Shape := ⟨4, ![8, 64, 58, 58]⟩
abbrev S8x64x56x58 : Shape := ⟨4, ![8, 64, 56, 58]⟩
abbrev S8x64x56x1x58 : Shape := ⟨5, ![8, 64, 56, 1, 58]⟩
abbrev S8x64x56x3x58 : Shape := ⟨5, ![8, 64, 56, 3, 58]⟩
abbrev S8x64x56x3x56 : Shape := ⟨5, ![8, 64, 56, 3, 56]⟩
abbrev S8x64x56x3x56x1 : Shape := ⟨6, ![8, 64, 56, 3, 56, 1]⟩
abbrev S8x64x56x3x56x3 : Shape := ⟨6, ![8, 64, 56, 3, 56, 3]⟩
abbrev S8x56x56x64 : Shape := ⟨4, ![8, 56, 56, 64]⟩
abbrev S25088x64 : Shape := ⟨2, ![25088, 64]⟩
abbrev S25088 : Shape := ⟨1, ![25088]⟩
abbrev S25088x1 : Shape := ⟨2, ![25088, 1]⟩
abbrev S64x1024 : Shape := ⟨2, ![64, 1024]⟩
abbrev S25088x1024 : Shape := ⟨2, ![25088, 1024]⟩
abbrev S1024 : Shape := ⟨1, ![1024]⟩
abbrev S1x1024 : Shape := ⟨2, ![1, 1024]⟩
abbrev S1 : Shape := ⟨1, ![1]⟩
abbrev S1x1 : Shape := ⟨2, ![1, 1]⟩
abbrev S32x64x4x4 : Shape := ⟨4, ![32, 64, 4, 4]⟩
abbrev S8x64x111x111 : Shape := ⟨4, ![8, 64, 111, 111]⟩
abbrev S8x64x115x115 : Shape := ⟨4, ![8, 64, 115, 115]⟩
abbrev S8x64x112x115 : Shape := ⟨4, ![8, 64, 112, 115]⟩
abbrev S8x64x112x1x115 : Shape := ⟨5, ![8, 64, 112, 1, 115]⟩
abbrev S8x64x112x4x115 : Shape := ⟨5, ![8, 64, 112, 4, 115]⟩
abbrev S8x64x112x4x112 : Shape := ⟨5, ![8, 64, 112, 4, 112]⟩
abbrev S8x64x112x4x112x1 : Shape := ⟨6, ![8, 64, 112, 4, 112, 1]⟩
abbrev S8x64x112x4x112x4 : Shape := ⟨6, ![8, 64, 112, 4, 112, 4]⟩
abbrev S3x32x4x4 : Shape := ⟨4, ![3, 32, 4, 4]⟩
abbrev S8x32x223x223 : Shape := ⟨4, ![8, 32, 223, 223]⟩
abbrev S8x32x227x227 : Shape := ⟨4, ![8, 32, 227, 227]⟩
abbrev S8x32x224x227 : Shape := ⟨4, ![8, 32, 224, 227]⟩
abbrev S8x32x224x1x227 : Shape := ⟨5, ![8, 32, 224, 1, 227]⟩
abbrev S8x32x224x4x227 : Shape := ⟨5, ![8, 32, 224, 4, 227]⟩
abbrev S8x32x224x4x224 : Shape := ⟨5, ![8, 32, 224, 4, 224]⟩
abbrev S8x32x224x4x224x1 : Shape := ⟨6, ![8, 32, 224, 4, 224, 1]⟩
abbrev S8x32x224x4x224x4 : Shape := ⟨6, ![8, 32, 224, 4, 224, 4]⟩
abbrev S3x8x224x224 : Shape := ⟨4, ![3, 8, 224, 224]⟩
abbrev S1x3x1x1 : Shape := ⟨4, ![1, 3, 1, 1]⟩
abbrev S8x3x112x2x224 : Shape := ⟨5, ![8, 3, 112, 2, 224]⟩

abbrev nBuf : Space → Nat
  | .hbm => 238
  | .vmem => 0
  | .smem => 0
  | _ => 0

abbrev hbmTy0_0 (i : Nat) : BufTy := match i % 128 with
  | 0 => ⟨S8x3x224x224, .f32⟩
  | 1 => ⟨S32x3x4x4, .f32⟩
  | 2 => ⟨S32, .f32⟩
  | 3 => ⟨S64x32x4x4, .f32⟩
  | 4 => ⟨S64, .f32⟩
  | 5 => ⟨S64x64x3x3, .f32⟩
  | 6 => ⟨S64, .f32⟩
  | 7 => ⟨S1024x64, .f32⟩
  | 8 => ⟨S64x64x3x3, .f32⟩
  | 9 => ⟨S64, .f32⟩
  | 10 => ⟨S64x32x4x4, .f32⟩
  | 11 => ⟨S32, .f32⟩
  | 12 => ⟨S32x3x4x4, .f32⟩
  | 13 => ⟨S3, .f32⟩
  | 14 => ⟨S_, .i32⟩
  | 15 => ⟨S_, .f32⟩
  | 16 => ⟨S8x3x226x226, .f32⟩
  | 17 => ⟨S8x3x112x226, .f32⟩
  | 18 => ⟨S8x3x112x226, .f32⟩
  | 19 => ⟨S8x3x112x226, .f32⟩
  | 20 => ⟨S8x3x112x226, .f32⟩
  | 21 => ⟨S8x3x112x1x226, .f32⟩
  | 22 => ⟨S8x3x112x1x226, .f32⟩
  | 23 => ⟨S8x3x112x1x226, .f32⟩
  | 24 => ⟨S8x3x112x1x226, .f32⟩
  | 25 => ⟨S8x3x112x4x226, .f32⟩
  | 26 => ⟨S8x3x112x4x112, .f32⟩
  | 27 => ⟨S8x3x112x4x112, .f32⟩
  | 28 => ⟨S8x3x112x4x112, .f32⟩
  | 29 => ⟨S8x3x112x4x112, .f32⟩
  | 30 => ⟨S8x3x112x4x112x1, .f32⟩
  | 31 => ⟨S8x3x112x4x112x1, .f32⟩
  | 32 => ⟨S8x3x112x4x112x1, .f32⟩
  | 33 => ⟨S8x3x112x4x112x1, .f32⟩
  | 34 => ⟨S8x3x112x4x112x4, .f32⟩
  | 35 => ⟨S32x8x112x112, .f32⟩
  | 36 => ⟨S8x32x112x112, .f32⟩
  | 37 => ⟨S1x32x1x1, .f32⟩
  | 38 => ⟨S8x32x112x112, .f32⟩
  | 39 => ⟨S8x32x112x112, .f32⟩
  | 40 => ⟨S_, .f32⟩
  | 41 => ⟨S8x32x112x112, .f32⟩
  | 42 => ⟨S8x32x112x112, .f32⟩
  | 43 => ⟨S_, .i32⟩
  | 44 => ⟨S_, .f32⟩
  | 45 => ⟨S8x32x114x114, .f32⟩
  | 46 => ⟨S8x32x56x114, .f32⟩
  | 47 => ⟨S8x32x56x114, .f32⟩
  | 48 => ⟨S8x32x56x114, .f32⟩
  | 49 => ⟨S8x32x56x114, .f32⟩
  | 50 => ⟨S8x32x56x1x114, .f32⟩
  | 51 => ⟨S8x32x56x1x114, .f32⟩
  | 52 => ⟨S8x32x56x1x114, .f32⟩
  | 53 => ⟨S8x32x56x1x114, .f32⟩
  | 54 => ⟨S8x32x56x4x114, .f32⟩
  | 55 => ⟨S8x32x56x4x56, .f32⟩
  | 56 => ⟨S8x32x56x4x56, .f32⟩
  | 57 => ⟨S8x32x56x4x56, .f32⟩
  | 58 => ⟨S8x32x56x4x56, .f32⟩
  | 59 => ⟨S8x32x56x4x56x1, .f32⟩
  | 60 => ⟨S8x32x56x4x56x1, .f32⟩
  | 61 => ⟨S8x32x56x4x56x1, .f32⟩
  | 62 => ⟨S8x32x56x4x56x1, .f32⟩
  | 63 => ⟨S8x32x56x4x56x4, .f32⟩
  | 64 => ⟨S64x8x56x56, .f32⟩
  | 65 => ⟨S8x64x56x56, .f32⟩
  | 66 => ⟨S1x64x1x1, .f32⟩
  | 67 => ⟨S8x64x56x56, .f32⟩
  | 68 => ⟨S8x64x56x56, .f32⟩
  | 69 => ⟨S_, .f32⟩
  | 70 => ⟨S8x64x56x56, .f32⟩
  | 71 => ⟨S8x64x56x56, .f32⟩
  | 72 => ⟨S_, .i32⟩
  | 73 => ⟨S_, .f32⟩
  | 74 => ⟨S8x64x58x58, .f32⟩
  | 75 => ⟨S8x64x56x58, .f32⟩
  | 76 => ⟨S8x64x56x58, .f32⟩
  | 77 => ⟨S8x64x56x58, .f32⟩
  | 78 => ⟨S8x64x56x1x58, .f32⟩
  | 79 => ⟨S8x64x56x1x58, .f32⟩
  | 80 => ⟨S8x64x56x1x58, .f32⟩
  | 81 => ⟨S8x64x56x3x58, .f32⟩
  | 82 => ⟨S8x64x56x3x56, .f32⟩
  | 83 => ⟨S8x64x56x3x56, .f32⟩
  | 84 => ⟨S8x64x56x3x56, .f32⟩
  | 85 => ⟨S8x64x56x3x56x1, .f32⟩
  | 86 => ⟨S8x64x56x3x56x1, .f32⟩
  | 87 => ⟨S8x64x56x3x56x1, .f32⟩
  | 88 => ⟨S8x64x56x3x56x3, .f32⟩
  | 89 => ⟨S64x8x56x56, .f32⟩
  | 90 => ⟨S8x64x56x56, .f32⟩
  | 91 => ⟨S1x64x1x1, .f32⟩
  | 92 => ⟨S8x64x56x56, .f32⟩
  | 93 => ⟨S8x64x56x56, .f32⟩
  | 94 => ⟨S8x56x56x64, .f32⟩
  | 95 => ⟨S25088x64, .f32⟩
  | 96 => ⟨S25088x64, .f32⟩
  | 97 => ⟨S_, .f32⟩
  | 98 => ⟨S25088, .f32⟩
  | 99 => ⟨S25088x1, .f32⟩
  | 100 => ⟨S64x1024, .f32⟩
  | 101 => ⟨S25088x1024, .f32⟩
  | 102 => ⟨S_, .f32⟩
  | 103 => ⟨S25088x1024, .f32⟩
  | 104 => ⟨S25088x1024, .f32⟩
  | 105 => ⟨S25088x1024, .f32⟩
  | 106 => ⟨S25088x1024, .f32⟩
  | 107 => ⟨S1024x64, .f32⟩
  | 108 => ⟨S_, .f32⟩
  | 109 => ⟨S1024, .f32⟩
  | 110 => ⟨S1x1024, .f32⟩
  | 111 => ⟨S25088x1024, .f32⟩
  | 112 => ⟨S25088x1024, .f32⟩
  | 113 => ⟨S25088x1024, .i32⟩
  | 114 => ⟨S_, .f32⟩
  | 115 => ⟨S_, .i32⟩
  | 116 => ⟨S25088, .f32⟩
  | 117 => ⟨S25088, .i32⟩
  | 118 => ⟨S_, .i32⟩
  | 119 => ⟨S25088, .i32⟩
  | 120 => ⟨S25088, .i1⟩
  | 121 => ⟨S_, .i32⟩
  | 122 => ⟨S25088, .i32⟩
  | 123 => ⟨S25088, .i32⟩
  | 124 => ⟨S25088, .i32⟩
  | 125 => ⟨S25088x1, .i32⟩
  | 126 => ⟨S1, .i32⟩
  | 127 => ⟨S_, .i32⟩
  | _ => ⟨S8x3x224x224, .f32⟩

abbrev hbmTy0_1 (i : Nat) : BufTy := match i % 128 with
  | 0 => ⟨S25088x1, .i32⟩
  | 1 => ⟨S25088x1, .i1⟩
  | 2 => ⟨S1x1, .i32⟩
  | 3 => ⟨S25088x1, .i32⟩
  | 4 => ⟨S25088x1, .i1⟩
  | 5 => ⟨S25088x1, .i1⟩
  | 6 => ⟨S_, .i1⟩
  | 7 => ⟨S25088, .i1⟩
  | 8 => ⟨S25088x64, .f32⟩
  | 9 => ⟨S25088x64, .i1⟩
  | 10 => ⟨S_, .f32⟩
  | 11 => ⟨S25088x64, .f32⟩
  | 12 => ⟨S25088x64, .f32⟩
  | 13 => ⟨S25088x64, .f32⟩
  | 14 => ⟨S25088x64, .f32⟩
  | 15 => ⟨S8x56x56x64, .f32⟩
  | 16 => ⟨S8x64x56x56, .f32⟩
  | 17 => ⟨S64x64x3x3, .f32⟩
  | 18 => ⟨S64x64x3x3, .f32⟩
  | 19 => ⟨S_, .f32⟩
  | 20 => ⟨S8x64x56x56, .f32⟩
  | 21 => ⟨S_, .i32⟩
  | 22 => ⟨S_, .f32⟩
  | 23 => ⟨S8x64x58x58, .f32⟩
  | 24 => ⟨S8x64x56x58, .f32⟩
  | 25 => ⟨S8x64x56x58, .f32⟩
  | 26 => ⟨S8x64x56x58, .f32⟩
  | 27 => ⟨S8x64x56x1x58, .f32⟩
  | 28 => ⟨S8x64x56x1x58, .f32⟩
  | 29 => ⟨S8x64x56x1x58, .f32⟩
  | 30 => ⟨S8x64x56x3x58, .f32⟩
  | 31 => ⟨S8x64x56x3x56, .f32⟩
  | 32 => ⟨S8x64x56x3x56, .f32⟩
  | 33 => ⟨S8x64x56x3x56, .f32⟩
  | 34 => ⟨S8x64x56x3x56x1, .f32⟩
  | 35 => ⟨S8x64x56x3x56x1, .f32⟩
  | 36 => ⟨S8x64x56x3x56x1, .f32⟩
  | 37 => ⟨S8x64x56x3x56x3, .f32⟩
  | 38 => ⟨S64x8x56x56, .f32⟩
  | 39 => ⟨S8x64x56x56, .f32⟩
  | 40 => ⟨S1x64x1x1, .f32⟩
  | 41 => ⟨S8x64x56x56, .f32⟩
  | 42 => ⟨S8x64x56x56, .f32⟩
  | 43 => ⟨S_, .f32⟩
  | 44 => ⟨S8x64x56x56, .f32⟩
  | 45 => ⟨S8x64x56x56, .f32⟩
  | 46 => ⟨S64x32x4x4, .f32⟩
  | 47 => ⟨S32x64x4x4, .f32⟩
  | 48 => ⟨S_, .f32⟩
  | 49 => ⟨S8x64x111x111, .f32⟩
  | 50 => ⟨S_, .i32⟩
  | 51 => ⟨S_, .f32⟩
  | 52 => ⟨S8x64x115x115, .f32⟩
  | 53 => ⟨S8x64x112x115, .f32⟩
  | 54 => ⟨S8x64x112x115, .f32⟩
  | 55 => ⟨S8x64x112x115, .f32⟩
  | 56 => ⟨S8x64x112x115, .f32⟩
  | 57 => ⟨S8x64x112x1x115, .f32⟩
  | 58 => ⟨S8x64x112x1x115, .f32⟩
  | 59 => ⟨S8x64x112x1x115, .f32⟩
  | 60 => ⟨S8x64x112x1x115, .f32⟩
  | 61 => ⟨S8x64x112x4x115, .f32⟩
  | 62 => ⟨S8x64x112x4x112, .f32⟩
  | 63 => ⟨S8x64x112x4x112, .f32⟩
  | 64 => ⟨S8x64x112x4x112, .f32⟩
  | 65 => ⟨S8x64x112x4x112, .f32⟩
  | 66 => ⟨S8x64x112x4x112x1, .f32⟩
  | 67 => ⟨S8x64x112x4x112x1, .f32⟩
  | 68 => ⟨S8x64x112x4x112x1, .f32⟩
  | 69 => ⟨S8x64x112x4x112x1, .f32⟩
  | 70 => ⟨S8x64x112x4x112x4, .f32⟩
  | 71 => ⟨S32x8x112x112, .f32⟩
  | 72 => ⟨S8x32x112x112, .f32⟩
  | 73 => ⟨S1x32x1x1, .f32⟩
  | 74 => ⟨S8x32x112x112, .f32⟩
  | 75 => ⟨S8x32x112x112, .f32⟩
  | 76 => ⟨S_, .f32⟩
  | 77 => ⟨S8x32x112x112, .f32⟩
  | 78 => ⟨S8x32x112x112, .f32⟩
  | 79 => ⟨S32x3x4x4, .f32⟩
  | 80 => ⟨S3x32x4x4, .f32⟩
  | 81 => ⟨S_, .f32⟩
  | 82 => ⟨S8x32x223x223, .f32⟩
  | 83 => ⟨S_, .i32⟩
  | 84 => ⟨S_, .f32⟩
  | 85 => ⟨S8x32x227x227, .f32⟩
  | 86 => ⟨S8x32x224x227, .f32⟩
  | 87 => ⟨S8x32x224x227, .f32⟩
  | 88 => ⟨S8x32x224x227, .f32⟩
  | 89 => ⟨S8x32x224x227, .f32⟩
  | 90 => ⟨S8x32x224x1x227, .f32⟩
  | 91 => ⟨S8x32x224x1x227, .f32⟩
  | 92 => ⟨S8x32x224x1x227, .f32⟩
  | 93 => ⟨S8x32x224x1x227, .f32⟩
  | 94 => ⟨S8x32x224x4x227, .f32⟩
  | 95 => ⟨S8x32x224x4x224, .f32⟩
  | 96 => ⟨S8x32x224x4x224, .f32⟩
  | 97 => ⟨S8x32x224x4x224, .f32⟩
  | 98 => ⟨S8x32x224x4x224, .f32⟩
  | 99 => ⟨S8x32x224x4x224x1, .f32⟩
  | 100 => ⟨S8x32x224x4x224x1, .f32⟩
  | 101 => ⟨S8x32x224x4x224x1, .f32⟩
  | 102 => ⟨S8x32x224x4x224x1, .f32⟩
  | 103 => ⟨S8x32x224x4x224x4, .f32⟩
  | 104 => ⟨S3x8x224x224, .f32⟩
  | 105 => ⟨S8x3x224x224, .f32⟩
  | 106 => ⟨S1x3x1x1, .f32⟩
  | 107 => ⟨S8x3x224x224, .f32⟩
  | 108 => ⟨S8x3x224x224, .f32⟩
  | 109 => ⟨S8x3x112x2x224, .f32⟩
  | _ => ⟨S8x3x224x224, .f32⟩

abbrev hbmTy (i : Nat) : BufTy := match i / 128 with
  | 0 => hbmTy0_0 i
  | 1 => hbmTy0_1 i
  | _ => ⟨S8x3x224x224, .f32⟩

abbrev bufTy : (tb : Table) → Fin (tcTables nBuf tb) → BufTy
  | .hbm, ⟨i, _⟩ => hbmTy i
  | _, _ => ⟨S8x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_call0_v0 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_call1_cst : Ref sig .tc := ⟨.hbm, 40, rfl⟩
abbrev main_call1_v0 : Ref sig .tc := ⟨.hbm, 41, rfl⟩
abbrev main_v24 : Ref sig .tc := ⟨.hbm, 42, rfl⟩
abbrev main_c_0 : Ref sig .tc := ⟨.hbm, 43, rfl⟩
abbrev main_call2_v0 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call3_cst : Ref sig .tc := ⟨.hbm, 69, rfl⟩
abbrev main_call3_v0 : Ref sig .tc := ⟨.hbm, 70, rfl⟩
abbrev main_v49 : Ref sig .tc := ⟨.hbm, 71, rfl⟩
abbrev main_c_1 : Ref sig .tc := ⟨.hbm, 72, rfl⟩
abbrev main_call4_v0 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_cst_2 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_cst_3 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_call5_v0 : Ref sig .tc := ⟨.hbm, 113, rfl⟩
abbrev main_call5_cst : Ref sig .tc := ⟨.hbm, 114, rfl⟩
abbrev main_call5_c : Ref sig .tc := ⟨.hbm, 115, rfl⟩
abbrev main_call5_v1_0 : Ref sig .tc := ⟨.hbm, 116, rfl⟩
abbrev main_v86 : Ref sig .tc := ⟨.hbm, 117, rfl⟩
abbrev main_call6_c : Ref sig .tc := ⟨.hbm, 118, rfl⟩
abbrev main_call6_v0 : Ref sig .tc := ⟨.hbm, 119, rfl⟩
abbrev main_call6_v1 : Ref sig .tc := ⟨.hbm, 120, rfl⟩
abbrev main_call6_c_0 : Ref sig .tc := ⟨.hbm, 121, rfl⟩
abbrev main_call6_v2 : Ref sig .tc := ⟨.hbm, 122, rfl⟩
abbrev main_call6_v3 : Ref sig .tc := ⟨.hbm, 123, rfl⟩
abbrev main_call6_v4 : Ref sig .tc := ⟨.hbm, 124, rfl⟩
abbrev main_call6_v5 : Ref sig .tc := ⟨.hbm, 125, rfl⟩
abbrev main_call6_c_1 : Ref sig .tc := ⟨.hbm, 126, rfl⟩
abbrev main_call6_c_2 : Ref sig .tc := ⟨.hbm, 127, rfl⟩
abbrev main_call6_v6 : Ref sig .tc := ⟨.hbm, 128, rfl⟩
abbrev main_call6_v7 : Ref sig .tc := ⟨.hbm, 129, rfl⟩
abbrev main_call6_v8 : Ref sig .tc := ⟨.hbm, 130, rfl⟩
abbrev main_call6_v9 : Ref sig .tc := ⟨.hbm, 131, rfl⟩
abbrev main_call6_v10 : Ref sig .tc := ⟨.hbm, 132, rfl⟩
abbrev main_call6_v11 : Ref sig .tc := ⟨.hbm, 133, rfl⟩
abbrev main_call6_c_3 : Ref sig .tc := ⟨.hbm, 134, rfl⟩
abbrev main_call6_v12 : Ref sig .tc := ⟨.hbm, 135, rfl⟩
abbrev main_call6_v13 : Ref sig .tc := ⟨.hbm, 136, rfl⟩
abbrev main_call6_v14 : Ref sig .tc := ⟨.hbm, 137, rfl⟩
abbrev main_call6_cst : Ref sig .tc := ⟨.hbm, 138, rfl⟩
abbrev main_call6_v15 : Ref sig .tc := ⟨.hbm, 139, rfl⟩
abbrev main_v87 : Ref sig .tc := ⟨.hbm, 140, rfl⟩
abbrev main_v88 : Ref sig .tc := ⟨.hbm, 141, rfl⟩
abbrev main_v89 : Ref sig .tc := ⟨.hbm, 142, rfl⟩
abbrev main_v90 : Ref sig .tc := ⟨.hbm, 143, rfl⟩
abbrev main_v91 : Ref sig .tc := ⟨.hbm, 144, rfl⟩
abbrev main_v92 : Ref sig .tc := ⟨.hbm, 145, rfl⟩
abbrev main_v93 : Ref sig .tc := ⟨.hbm, 146, rfl⟩
abbrev main_cst_4 : Ref sig .tc := ⟨.hbm, 147, rfl⟩
abbrev main_v94 : Ref sig .tc := ⟨.hbm, 148, rfl⟩
abbrev main_c_5 : Ref sig .tc := ⟨.hbm, 149, rfl⟩
abbrev main_call8_v0 : Ref sig .tc := ⟨.hbm, 150, rfl⟩
abbrev main_v95 : Ref sig .tc := ⟨.hbm, 151, rfl⟩
abbrev main_v96 : Ref sig .tc := ⟨.hbm, 152, rfl⟩
abbrev main_v97 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_v102 : Ref sig .tc := ⟨.hbm, 158, rfl⟩
abbrev main_v103 : Ref sig .tc := ⟨.hbm, 159, rfl⟩
abbrev main_v104 : Ref sig .tc := ⟨.hbm, 160, rfl⟩
abbrev main_v105 : Ref sig .tc := ⟨.hbm, 161, rfl⟩
abbrev main_v106 : Ref sig .tc := ⟨.hbm, 162, rfl⟩
abbrev main_v107 : Ref sig .tc := ⟨.hbm, 163, rfl⟩
abbrev main_v108 : Ref sig .tc := ⟨.hbm, 164, rfl⟩
abbrev main_v109 : Ref sig .tc := ⟨.hbm, 165, rfl⟩
abbrev main_v110 : Ref sig .tc := ⟨.hbm, 166, rfl⟩
abbrev main_v111 : Ref sig .tc := ⟨.hbm, 167, rfl⟩
abbrev main_v112 : Ref sig .tc := ⟨.hbm, 168, rfl⟩
abbrev main_v113 : Ref sig .tc := ⟨.hbm, 169, rfl⟩
abbrev main_v114 : Ref sig .tc := ⟨.hbm, 170, rfl⟩
abbrev main_call9_cst : Ref sig .tc := ⟨.hbm, 171, rfl⟩
abbrev main_call9_v0 : Ref sig .tc := ⟨.hbm, 172, rfl⟩
abbrev main_v115 : Ref sig .tc := ⟨.hbm, 173, rfl⟩
abbrev main_v116 : Ref sig .tc := ⟨.hbm, 174, rfl⟩
abbrev main_v117 : Ref sig .tc := ⟨.hbm, 175, rfl⟩
abbrev main_cst_6 : Ref sig .tc := ⟨.hbm, 176, rfl⟩
abbrev main_v118 : Ref sig .tc := ⟨.hbm, 177, rfl⟩
abbrev main_c_7 : Ref sig .tc := ⟨.hbm, 178, rfl⟩
abbrev main_call11_v0 : Ref sig .tc := ⟨.hbm, 179, rfl⟩
abbrev main_v119 : Ref sig .tc := ⟨.hbm, 180, rfl⟩
abbrev main_v120 : Ref sig .tc := ⟨.hbm, 181, rfl⟩
abbrev main_v121 : Ref sig .tc := ⟨.hbm, 182, rfl⟩
abbrev main_v122 : Ref sig .tc := ⟨.hbm, 183, rfl⟩
abbrev main_v123 : Ref sig .tc := ⟨.hbm, 184, rfl⟩
abbrev main_v124 : Ref sig .tc := ⟨.hbm, 185, rfl⟩
abbrev main_v125 : Ref sig .tc := ⟨.hbm, 186, rfl⟩
abbrev main_v126 : Ref sig .tc := ⟨.hbm, 187, rfl⟩
abbrev main_v127 : Ref sig .tc := ⟨.hbm, 188, rfl⟩
abbrev main_v128 : Ref sig .tc := ⟨.hbm, 189, rfl⟩
abbrev main_v129 : Ref sig .tc := ⟨.hbm, 190, rfl⟩
abbrev main_v130 : Ref sig .tc := ⟨.hbm, 191, rfl⟩
abbrev main_v131 : Ref sig .tc := ⟨.hbm, 192, rfl⟩
abbrev main_v132 : Ref sig .tc := ⟨.hbm, 193, rfl⟩
abbrev main_v133 : Ref sig .tc := ⟨.hbm, 194, rfl⟩
abbrev main_v134 : Ref sig .tc := ⟨.hbm, 195, rfl⟩
abbrev main_v135 : Ref sig .tc := ⟨.hbm, 196, rfl⟩
abbrev main_v136 : Ref sig .tc := ⟨.hbm, 197, rfl⟩
abbrev main_v137 : Ref sig .tc := ⟨.hbm, 198, rfl⟩
abbrev main_v138 : Ref sig .tc := ⟨.hbm, 199, rfl⟩
abbrev main_v139 : Ref sig .tc := ⟨.hbm, 200, rfl⟩
abbrev main_v140 : Ref sig .tc := ⟨.hbm, 201, rfl⟩
abbrev main_v141 : Ref sig .tc := ⟨.hbm, 202, rfl⟩
abbrev main_v142 : Ref sig .tc := ⟨.hbm, 203, rfl⟩
abbrev main_call12_cst : Ref sig .tc := ⟨.hbm, 204, rfl⟩
abbrev main_call12_v0 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_cst_8 : Ref sig .tc := ⟨.hbm, 209, rfl⟩
abbrev main_v146 : Ref sig .tc := ⟨.hbm, 210, rfl⟩
abbrev main_c_9 : Ref sig .tc := ⟨.hbm, 211, rfl⟩
abbrev main_call14_v0 : Ref sig .tc := ⟨.hbm, 212, rfl⟩
abbrev main_v147 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_v154 : Ref sig .tc := ⟨.hbm, 220, rfl⟩
abbrev main_v155 : Ref sig .tc := ⟨.hbm, 221, rfl⟩
abbrev main_v156 : Ref sig .tc := ⟨.hbm, 222, rfl⟩
abbrev main_v157 : Ref sig .tc := ⟨.hbm, 223, rfl⟩
abbrev main_v158 : Ref sig .tc := ⟨.hbm, 224, rfl⟩
abbrev main_v159 : Ref sig .tc := ⟨.hbm, 225, rfl⟩
abbrev main_v160 : Ref sig .tc := ⟨.hbm, 226, rfl⟩
abbrev main_v161 : Ref sig .tc := ⟨.hbm, 227, rfl⟩
abbrev main_v162 : Ref sig .tc := ⟨.hbm, 228, rfl⟩
abbrev main_v163 : Ref sig .tc := ⟨.hbm, 229, rfl⟩
abbrev main_v164 : Ref sig .tc := ⟨.hbm, 230, rfl⟩
abbrev main_v165 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_v171 : Ref sig .tc := ⟨.hbm, 237, rfl⟩

abbrev nD : Nat := 1
abbrev τ : Topo := Topo.v7x

variable {F : FTy → Type} [FloatOps F]
-- ==== Proof.RefOps.lean ====
module

public import proofs.«01_k».proof.Proof.Gen.ReferenceIdeal
public import Idealize.ShloMosaic.Lib.StableHlo.Run
public import Idealize.ShloMosaic.Lib.Pipeline.Frame

/-! The reference program as a list of host operations, cut at the ends of its stages: three convolutions (`C1`, `C2`, `C3`), the squared
    distances (`D`), their argmin (`A`), the code vectors (`Q`), three transposed convolutions (`T1`, `T2`, `T3`). A stage that the
    printed program splits between two of its parts has a list for either piece (`a`, `b`). -/

@[expose] public section

set_option maxRecDepth 16384
set_option Elab.async false

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- The 4 shifted views of stage C1, side by side along axis 3. -/
def rowsC1 (u0 u1 u2 u3 : FVec F S8x3x112x1x226 .f32) : FVec F S8x3x112x4x226 .f32 :=
  concatenate S8x3x112x4x226 3 [⟨S8x3x112x1x226, u0⟩, ⟨S8x3x112x1x226, u1⟩, ⟨S8x3x112x1x226, u2⟩, ⟨S8x3x112x1x226, u3⟩]
    concatenates_S8x3x112x1x226_S8x3x112x1x226_S8x3x112x1x226_S8x3x112x1x226_S8x3x112x4x226_d3

/-- The 4 shifted views of stage C1, side by side along axis 5. -/
def colsC1 (u0 u1 u2 u3 : FVec F S8x3x112x4x112x1 .f32) : FVec F S8x3x112x4x112x4 .f32 :=
  concatenate S8x3x112x4x112x4 5 [⟨S8x3x112x4x112x1, u0⟩, ⟨S8x3x112x4x112x1, u1⟩, ⟨S8x3x112x4x112x1, u2⟩, ⟨S8x3x112x4x112x1, u3⟩]
    concatenates_S8x3x112x4x112x1_S8x3x112x4x112x1_S8x3x112x4x112x1_S8x3x112x4x112x1_S8x3x112x4x112x4_d5

/-- The 4 shifted views of stage C2, side by side along axis 3. -/
def rowsC2 (u0 u1 u2 u3 : FVec F S8x32x56x1x114 .f32) : FVec F S8x32x56x4x114 .f32 :=
  concatenate S8x32x56x4x114 3 [⟨S8x32x56x1x114, u0⟩, ⟨S8x32x56x1x114, u1⟩, ⟨S8x32x56x1x114, u2⟩, ⟨S8x32x56x1x114, u3⟩]
    concatenates_S8x32x56x1x114_S8x32x56x1x114_S8x32x56x1x114_S8x32x56x1x114_S8x32x56x4x114_d3

/-- The 4 shifted views of stage C2, side by side along axis 5. -/
def colsC2 (u0 u1 u2 u3 : FVec F S8x32x56x4x56x1 .f32) : FVec F S8x32x56x4x56x4 .f32 :=
  concatenate S8x32x56x4x56x4 5 [⟨S8x32x56x4x56x1, u0⟩, ⟨S8x32x56x4x56x1, u1⟩, ⟨S8x32x56x4x56x1, u2⟩, ⟨S8x32x56x4x56x1, u3⟩]
    concatenates_S8x32x56x4x56x1_S8x32x56x4x56x1_S8x32x56x4x56x1_S8x32x56x4x56x1_S8x32x56x4x56x4_d5

/-- The 3 shifted views of stage C3, side by side along axis 3. -/
def rowsC3 (u0 u1 u2 : FVec F S8x64x56x1x58 .f32) : FVec F S8x64x56x3x58 .f32 :=
  concatenate S8x64x56x3x58 3 [⟨S8x64x56x1x58, u0⟩, ⟨S8x64x56x1x58, u1⟩, ⟨S8x64x56x1x58, u2⟩]
    concatenates_S8x64x56x1x58_S8x64x56x1x58_S8x64x56x1x58_S8x64x56x3x58_d3

/-- The 3 shifted views of stage C3, side by side along axis 5. -/
def colsC3 (u0 u1 u2 : FVec F S8x64x56x3x56x1 .f32) : FVec F S8x64x56x3x56x3 .f32 :=
  concatenate S8x64x56x3x56x3 5 [⟨S8x64x56x3x56x1, u0⟩, ⟨S8x64x56x3x56x1, u1⟩, ⟨S8x64x56x3x56x1, u2⟩]
    concatenates_S8x64x56x3x56x1_S8x64x56x3x56x1_S8x64x56x3x56x1_S8x64x56x3x56x3_d5

/-- The 3 shifted views of stage T1, side by side along axis 3. -/
def rowsT1 (u0 u1 u2 : FVec F S8x64x56x1x58 .f32) : FVec F S8x64x56x3x58 .f32 :=
  concatenate S8x64x56x3x58 3 [⟨S8x64x56x1x58, u0⟩, ⟨S8x64x56x1x58, u1⟩, ⟨S8x64x56x1x58, u2⟩]
    concatenates_S8x64x56x1x58_S8x64x56x1x58_S8x64x56x1x58_S8x64x56x3x58_d3

/-- The 3 shifted views of stage T1, side by side along axis 5. -/
def colsT1 (u0 u1 u2 : FVec F S8x64x56x3x56x1 .f32) : FVec F S8x64x56x3x56x3 .f32 :=
  concatenate S8x64x56x3x56x3 5 [⟨S8x64x56x3x56x1, u0⟩, ⟨S8x64x56x3x56x1, u1⟩, ⟨S8x64x56x3x56x1, u2⟩]
    concatenates_S8x64x56x3x56x1_S8x64x56x3x56x1_S8x64x56x3x56x1_S8x64x56x3x56x3_d5

/-- The 4 shifted views of stage T2, side by side along axis 3. -/
def rowsT2 (u0 u1 u2 u3 : FVec F S8x64x112x1x115 .f32) : FVec F S8x64x112x4x115 .f32 :=
  concatenate S8x64x112x4x115 3 [⟨S8x64x112x1x115, u0⟩, ⟨S8x64x112x1x115, u1⟩, ⟨S8x64x112x1x115, u2⟩, ⟨S8x64x112x1x115, u3⟩]
    concatenates_S8x64x112x1x115_S8x64x112x1x115_S8x64x112x1x115_S8x64x112x1x115_S8x64x112x4x115_d3

/-- The 4 shifted views of stage T2, side by side along axis 5. -/
def colsT2 (u0 u1 u2 u3 : FVec F S8x64x112x4x112x1 .f32) : FVec F S8x64x112x4x112x4 .f32 :=
  concatenate S8x64x112x4x112x4 5 [⟨S8x64x112x4x112x1, u0⟩, ⟨S8x64x112x4x112x1, u1⟩, ⟨S8x64x112x4x112x1, u2⟩, ⟨S8x64x112x4x112x1, u3⟩]
    concatenates_S8x64x112x4x112x1_S8x64x112x4x112x1_S8x64x112x4x112x1_S8x64x112x4x112x1_S8x64x112x4x112x4_d5

/-- The 4 shifted views of stage T3, side by side along axis 3. -/
def rowsT3 (u0 u1 u2 u3 : FVec F S8x32x224x1x227 .f32) : FVec F S8x32x224x4x227 .f32 :=
  concatenate S8x32x224x4x227 3 [⟨S8x32x224x1x227, u0⟩, ⟨S8x32x224x1x227, u1⟩, ⟨S8x32x224x1x227, u2⟩, ⟨S8x32x224x1x227, u3⟩]
    concatenates_S8x32x224x1x227_S8x32x224x1x227_S8x32x224x1x227_S8x32x224x1x227_S8x32x224x4x227_d3

/-- The 4 shifted views of stage T3, side by side along axis 5. -/
def colsT3 (u0 u1 u2 u3 : FVec F S8x32x224x4x224x1 .f32) : FVec F S8x32x224x4x224x4 .f32 :=
  concatenate S8x32x224x4x224x4 5 [⟨S8x32x224x4x224x1, u0⟩, ⟨S8x32x224x4x224x1, u1⟩, ⟨S8x32x224x4x224x1, u2⟩, ⟨S8x32x224x4x224x1, u3⟩]
    concatenates_S8x32x224x4x224x1_S8x32x224x4x224x1_S8x32x224x4x224x1_S8x32x224x4x224x1_S8x32x224x4x224x4_d5

/-- The operations of stage C1. -/
abbrev opsC1 : List (HloOp τ sig (Elt F)) :=
  [ nullary main_c (constantI S_ 32 0#32),
    TRef.unary (TRef.of (T := ⟨S_, .i32⟩) main_c) (TRef.of (T := ⟨S_, .f32⟩) main_call0_v0) (sitofp .f32),
    TRef.binary (TRef.of (T := ⟨S8x3x224x224, .f32⟩) main_arg0) (TRef.of (T := ⟨S_, .f32⟩) main_call0_v0) (TRef.of (T := ⟨S8x3x226x226, .f32⟩) main_v0) (fun x v => pad S8x3x226x226 ![0, 0, 1, 1] ![0, 0, 1, 1] ![0, 0, 0, 0] x v pads_S8x3x224x224_S8x3x226x226_000_000_110_110 h_S_),
    unary main_v0 main_v1 ((Host.slice S8x3x112x226 ![0, 0, 0, 0] ![1, 1, 2, 1] · slicesBy_S8x3x226x226_S8x3x112x226_0s1_0s1_0s2_0s1) : (⟨S8x3x226x226, .f32⟩ : BufTy).Contents (Elt F) → (⟨S8x3x112x226, .f32⟩ : BufTy).Contents (Elt F)),
    unary main_v0 main_v2 ((Host.slice S8x3x112x226 ![0, 0, 1, 0] ![1, 1, 2, 1] · slicesBy_S8x3x226x226_S8x3x112x226_0s1_0s1_1s2_0s1) : (⟨S8x3x226x226, .f32⟩ : BufTy).Contents (Elt F) → (⟨S8x3x112x226, .f32⟩ : BufTy).Contents (Elt F)),
    unary main_v0 main_v3 ((Host.slice S8x3x112x226 ![0, 0, 2, 0] ![1, 1, 2, 1] · slicesBy_S8x3x226x226_S8x3x112x226_0s1_0s1_2s2_0s1) : (⟨S8x3x226x226, .f32⟩ : BufTy).Contents (Elt F) → (⟨S8x3x112x226, .f32⟩ : BufTy).Contents (Elt F)),
    unary main_v0 main_v4 ((Host.slice S8x3x112x226 ![0, 0, 3, 0] ![1, 1, 2, 1] · slicesBy_S8x3x226x226_S8x3x112x226_0s1_0s1_3s2_0s1) : (⟨S8x3x226x226, .f32⟩ : BufTy).Contents (Elt F) → (⟨S8x3x112x226, .f32⟩ : BufTy).Contents (Elt F)),
    unary main_v1 main_v5 (broadcastInDim S8x3x112x1x226 ![0, 1, 2, 4] bcast_S8x3x112x226_S8x3x112x1x226_0_1_2_4 : (⟨S8x3x112x226, .f32⟩ : BufTy).Contents (Elt F) → (⟨S8x3x112x1x226, .f32⟩ : BufTy).Contents (Elt F)),
    unary main_v2 main_v6 (broadcastInDim S8x3x112x1x226 ![0, 1, 2, 4] bcast_S8x3x112x226_S8x3x112x1x226_0_1_2_4 : (⟨S8x3x112x226, .f32⟩ : BufTy).Contents (Elt F) → (⟨S8x3x112x1x226, .f32⟩ : BufTy).Contents (Elt F)),
    unary main_v3 main_v7 (broadcastInDim S8x3x112x1x226 ![0, 1, 2, 4] bcast_S8x3x112x226_S8x3x112x1x226_0_1_2_4 : (⟨S8x3x112x226, .f32⟩ : BufTy).Contents (Elt F) → (⟨S8x3x112x1x226, .f32⟩ : BufTy).Contents (Elt F)),
    unary main_v4 main_v8 (broadcastInDim S8x3x112x1x226 ![0, 1, 2, 4] bcast_S8x3x112x226_S8x3x112x1x226_0_1_2_4 : (⟨S8x3x112x226, .f32⟩ : BufTy).Contents (Elt F) → (⟨S8x3x112x1x226, .f32⟩ : BufTy).Contents (Elt F)),
    nary ![main_v5, main_v6, main_v7, main_v8] main_v9 (fun u => rowsC1 (u 0) (u 1) (u 2) (u 3)),
    unary main_v9 main_v10 ((Host.slice S8x3x112x4x112 ![0, 0, 0, 0, 0] ![1, 1, 1, 1, 2] · slicesBy_S8x3x112x4x226_S8x3x112x4x112_0s1_0s1_0s1_0s1_0s2) : (⟨S8x3x112x4x226, .f32⟩ : BufTy).Contents (Elt F) → (⟨S8x3x112x4x112, .f32⟩ : BufTy).Contents (Elt F)),
    unary main_v9 main_v11 ((Host.slice S8x3x112x4x112 ![0, 0, 0, 0, 1] ![1, 1, 1, 1, 2] · slicesBy_S8x3x112x4x226_S8x3x112x4x112_0s1_0s1_0s1_0s1_1s2) : (⟨S8x3x112x4x226, .f32⟩ : BufTy).Contents (Elt F) → (⟨S8x3x112x4x112, .f32⟩ : BufTy).Contents (Elt F)),
    unary main_v9 main_v12 ((Host.slice S8x3x112x4x112 ![0, 0, 0, 0, 2] ![1, 1, 1, 1, 2] · slicesBy_S8x3x112x4x226_S8x3x112x4x112_0s1_0s1_0s1_0s1_2s2) : (⟨S8x3x112x4x226, .f32⟩ : BufTy).Contents (Elt F) → (⟨S8x3x112x4x112, .f32⟩ : BufTy).Contents (Elt F)),
    unary main_v9 main_v13 ((Host.slice S8x3x112x4x112 ![0, 0, 0, 0, 3] ![1, 1, 1, 1, 2] · slicesBy_S8x3x112x4x226_S8x3x112x4x112_0s1_0s1_0s1_0s1_3s2) : (⟨S8x3x112x4x226, .f32⟩ : BufTy).Contents (Elt F) → (⟨S8x3x112x4x112, .f32⟩ : BufTy).Contents (Elt F)),
    unary main_v10 main_v14 (broadcastInDim S8x3x112x4x112x1 ![0, 1, 2, 3, 4] bcast_S8x3x112x4x112_S8x3x112x4x112x1_0_1_2_3_4 : (⟨S8x3x112x4x112, .f32⟩ : BufTy).Contents (Elt F) → (⟨S8x3x112x4x112x1, .f32⟩ : BufTy).Contents (Elt F)),
    unary main_v11 main_v15 (broadcastInDim S8x3x112x4x112x1 ![0, 1, 2, 3, 4] bcast_S8x3x112x4x112_S8x3x112x4x112x1_0_1_2_3_4 : (⟨S8x3x112x4x112, .f32⟩ : BufTy).Contents (Elt F) → (⟨S8x3x112x4x112x1, .f32⟩ : BufTy).Contents (Elt F)),
    unary main_v12 main_v16 (broadcastInDim S8x3x112x4x112x1 ![0, 1, 2, 3, 4] bcast_S8x3x112x4x112_S8x3x112x4x112x1_0_1_2_3_4 : (⟨S8x3x112x4x112, .f32⟩ : BufTy).Contents (Elt F) → (⟨S8x3x112x4x112x1, .f32⟩ : BufTy).Contents (Elt F)),
    unary main_v13 main_v17 (broadcastInDim S8x3x112x4x112x1 ![0, 1, 2, 3, 4] bcast_S8x3x112x4x112_S8x3x112x4x112x1_0_1_2_3_4 : (⟨S8x3x112x4x112, .f32⟩ : BufTy).Contents (Elt F) → (⟨S8x3x112x4x112x1, .f32⟩ : BufTy).Contents (Elt F)),
    nary ![main_v14, main_v15, main_v16, main_v17] main_v18 (fun u => colsC1 (u 0) (u 1) (u 2) (u 3)),
    binary main_arg1 main_v18 main_v19 ((fun l r => Host.dotGeneral dot_S32x3x4x4_S8x3x112x4x112x4_S32x8x112x112_123_135_0_024_n_n none l r) : (⟨S32x3x4x4, .f32⟩ : BufTy).Contents (Elt F) → (⟨S8x3x112x4x112x4, .f32⟩ : BufTy).Contents (Elt F) → (⟨S32x8x112x112, .f32⟩ : BufTy).Contents (Elt F)),
    unary main_v19 main_v20 ((transpose S8x32x112x112 [1, 0, 2, 3] · transposes_S32x8x112x112_S8x32x112x112_1_0_2_3) : (⟨S32x8x112x112, .f32⟩ : BufTy).Contents (Elt F) → (⟨S8x32x112x112, .f32⟩ : BufTy).Contents (Elt F)),
    unary main_arg2 main_v21 (broadcastInDim S1x32x1x1 ![1] bcast_S32_S1x32x1x1_1 : (⟨S32, .f32⟩ : BufTy).Contents (Elt F) → (⟨S1x32x1x1, .f32⟩ : BufTy).Contents (Elt F)),
    unary main_v21 main_v22 (broadcastInDim S8x32x112x112 ![0, 1, 2, 3] bcast_S1x32x1x1_S8x32x112x112_0_1_2_3 : (⟨S1x32x1x1, .f32⟩ : BufTy).Contents (Elt F) → (⟨S8x32x112x112, .f32⟩ : BufTy).Contents (Elt F)),
    binary main_v20 main_v22 main_v23 (addf : (⟨S8x32x112x112, .f32⟩ : BufTy).Contents (Elt F) → (⟨S8x32x112x112, .f32⟩ : BufTy).Contents (Elt F) → (⟨S8x32x112x112, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S8x32x112x112, .f32⟩) main_call1_v0) (broadcastInDim S8x32x112x112 ![] bcast_S_S8x32x112x112),
    TRef.binary (TRef.of (T := ⟨S8x32x112x112, .f32⟩) main_v23) (TRef.of (T := ⟨S8x32x112x112, .f32⟩) main_call1_v0) (TRef.of (T := ⟨S8x32x112x112, .f32⟩) main_v24) maximumf ]

/-- The operations of stage C2. -/
abbrev opsC2 : List (HloOp τ sig (Elt F)) :=
  [ nullary main_c_0 (constantI S_ 32 0#32),
    TRef.unary (TRef.of (T := ⟨S_, .i32⟩) main_c_0) (TRef.of (T := ⟨S_, .f32⟩) main_call2_v0) (sitofp .f32),
    TRef.binary (TRef.of (T := ⟨S8x32x112x112, .f32⟩) main_v24) (TRef.of (T := ⟨S_, .f32⟩) main_call2_v0) (TRef.of (T := ⟨S8x32x114x114, .f32⟩) main_v25) (fun x v => pad S8x32x114x114 ![0, 0, 1, 1] ![0, 0, 1, 1] ![0, 0, 0, 0] x v pads_S8x32x112x112_S8x32x114x114_000_000_110_110 h_S_),
    unary main_v25 main_v26 ((Host.slice S8x32x56x114 ![0, 0, 0, 0] ![1, 1, 2, 1] · slicesBy_S8x32x114x114_S8x32x56x114_0s1_0s1_0s2_0s1) : (⟨S8x32x114x114, .f32⟩ : BufTy).Contents (Elt F) → (⟨S8x32x56x114, .f32⟩ : BufTy).Contents (Elt F)),
    unary main_v25 main_v27 ((Host.slice S8x32x56x114 ![0, 0, 1, 0] ![1, 1, 2, 1] · slicesBy_S8x32x114x114_S8x32x56x114_0s1_0s1_1s2_0s1) : (⟨S8x32x114x114, .f32⟩ : BufTy).Contents (Elt F) → (⟨S8x32x56x114, .f32⟩ : BufTy).Contents (Elt F)),
    unary main_v25 main_v28 ((Host.slice S8x32x56x114 ![0, 0, 2, 0] ![1, 1, 2, 1] · slicesBy_S8x32x114x114_S8x32x56x114_0s1_0s1_2s2_0s1) : (⟨S8x32x114x114, .f32⟩ : BufTy).Contents (Elt F) → (⟨S8x32x56x114, .f32⟩ : BufTy).Contents (Elt F)),
    unary main_v25 main_v29 ((Host.slice S8x32x56x114 ![0, 0, 3, 0] ![1, 1, 2, 1] · slicesBy_S8x32x114x114_S8x32x56x114_0s1_0s1_3s2_0s1) : (⟨S8x32x114x114, .f32⟩ : BufTy).Contents (Elt F) → (⟨S8x32x56x114, .f32⟩ : BufTy).Contents (Elt F)),
    unary main_v26 main_v30 (broadcastInDim S8x32x56x1x114 ![0, 1, 2, 4] bcast_S8x32x56x114_S8x32x56x1x114_0_1_2_4 : (⟨S8x32x56x114, .f32⟩ : BufTy).Contents (Elt F) → (⟨S8x32x56x1x114, .f32⟩ : BufTy).Contents (Elt F)),
    unary main_v27 main_v31 (broadcastInDim S8x32x56x1x114 ![0, 1, 2, 4] bcast_S8x32x56x114_S8x32x56x1x114_0_1_2_4 : (⟨S8x32x56x114, .f32⟩ : BufTy).Contents (Elt F) → (⟨S8x32x56x1x114, .f32⟩ : BufTy).Contents (Elt F)),
    unary main_v28 main_v32 (broadcastInDim S8x32x56x1x114 ![0, 1, 2, 4] bcast_S8x32x56x114_S8x32x56x1x114_0_1_2_4 : (⟨S8x32x56x114, .f32⟩ : BufTy).Contents (Elt F) → (⟨S8x32x56x1x114, .f32⟩ : BufTy).Contents (Elt F)),
    unary main_v29 main_v33 (broadcastInDim S8x32x56x1x114 ![0, 1, 2, 4] bcast_S8x32x56x114_S8x32x56x1x114_0_1_2_4 : (⟨S8x32x56x114, .f32⟩ : BufTy).Contents (Elt F) → (⟨S8x32x56x1x114, .f32⟩ : BufTy).Contents (Elt F)),
    nary ![main_v30, main_v31, main_v32, main_v33] main_v34 (fun u => rowsC2 (u 0) (u 1) (u 2) (u 3)),
    unary main_v34 main_v35 ((Host.slice S8x32x56x4x56 ![0, 0, 0, 0, 0] ![1, 1, 1, 1, 2] · slicesBy_S8x32x56x4x114_S8x32x56x4x56_0s1_0s1_0s1_0s1_0s2) : (⟨S8x32x56x4x114, .f32⟩ : BufTy).Contents (Elt F) → (⟨S8x32x56x4x56, .f32⟩ : BufTy).Contents (Elt F)),
    unary main_v34 main_v36 ((Host.slice S8x32x56x4x56 ![0, 0, 0, 0, 1] ![1, 1, 1, 1, 2] · slicesBy_S8x32x56x4x114_S8x32x56x4x56_0s1_0s1_0s1_0s1_1s2) : (⟨S8x32x56x4x114, .f32⟩ : BufTy).Contents (Elt F) → (⟨S8x32x56x4x56, .f32⟩ : BufTy).Contents (Elt F)),
    unary main_v34 main_v37 ((Host.slice S8x32x56x4x56 ![0, 0, 0, 0, 2] ![1, 1, 1, 1, 2] · slicesBy_S8x32x56x4x114_S8x32x56x4x56_0s1_0s1_0s1_0s1_2s2) : (⟨S8x32x56x4x114, .f32⟩ : BufTy).Contents (Elt F) → (⟨S8x32x56x4x56, .f32⟩ : BufTy).Contents (Elt F)),
    unary main_v34 main_v38 ((Host.slice S8x32x56x4x56 ![0, 0, 0, 0, 3] ![1, 1, 1, 1, 2] · slicesBy_S8x32x56x4x114_S8x32x56x4x56_0s1_0s1_0s1_0s1_3s2) : (⟨S8x32x56x4x114, .f32⟩ : BufTy).Contents (Elt F) → (⟨S8x32x56x4x56, .f32⟩ : BufTy).Contents (Elt F)),
    unary main_v35 main_v39 (broadcastInDim S8x32x56x4x56x1 ![0, 1, 2, 3, 4] bcast_S8x32x56x4x56_S8x32x56x4x56x1_0_1_2_3_4 : (⟨S8x32x56x4x56, .f32⟩ : BufTy).Contents (Elt F) → (⟨S8x32x56x4x56x1, .f32⟩ : BufTy).Contents (Elt F)),
    unary main_v36 main_v40 (broadcastInDim S8x32x56x4x56x1 ![0, 1, 2, 3, 4] bcast_S8x32x56x4x56_S8x32x56x4x56x1_0_1_2_3_4 : (⟨S8x32x56x4x56, .f32⟩ : BufTy).Contents (Elt F) → (⟨S8x32x56x4x56x1, .f32⟩ : BufTy).Contents (Elt F)),
    unary main_v37 main_v41 (broadcastInDim S8x32x56x4x56x1 ![0, 1, 2, 3, 4] bcast_S8x32x56x4x56_S8x32x56x4x56x1_0_1_2_3_4 : (⟨S8x32x56x4x56, .f32⟩ : BufTy).Contents (Elt F) → (⟨S8x32x56x4x56x1, .f32⟩ : BufTy).Contents (Elt F)),
    unary main_v38 main_v42 (broadcastInDim S8x32x56x4x56x1 ![0, 1, 2, 3, 4] bcast_S8x32x56x4x56_S8x32x56x4x56x1_0_1_2_3_4 : (⟨S8x32x56x4x56, .f32⟩ : BufTy).Contents (Elt F) → (⟨S8x32x56x4x56x1, .f32⟩ : BufTy).Contents (Elt F)),
    nary ![main_v39, main_v40, main_v41, main_v42] main_v43 (fun u => colsC2 (u 0) (u 1) (u 2) (u 3)),
    binary main_arg3 main_v43 main_v44 ((fun l r => Host.dotGeneral dot_S64x32x4x4_S8x32x56x4x56x4_S64x8x56x56_123_135_0_024_n_n none l r) : (⟨S64x32x4x4, .f32⟩ : BufTy).Contents (Elt F) → (⟨S8x32x56x4x56x4, .f32⟩ : BufTy).Contents (Elt F) → (⟨S64x8x56x56, .f32⟩ : BufTy).Contents (Elt F)),
    unary main_v44 main_v45 ((transpose S8x64x56x56 [1, 0, 2, 3] · transposes_S64x8x56x56_S8x64x56x56_1_0_2_3) : (⟨S64x8x56x56, .f32⟩ : BufTy).Contents (Elt F) → (⟨S8x64x56x56, .f32⟩ : BufTy).Contents (Elt F)),
    unary main_arg4 main_v46 (broadcastInDim S1x64x1x1 ![1] bcast_S64_S1x64x1x1_1 : (⟨S64, .f32⟩ : BufTy).Contents (Elt F) → (⟨S1x64x1x1, .f32⟩ : BufTy).Contents (Elt F)),
    unary main_v46 main_v47 (broadcastInDim S8x64x56x56 ![0, 1, 2, 3] bcast_S1x64x1x1_S8x64x56x56_0_1_2_3 : (⟨S1x64x1x1, .f32⟩ : BufTy).Contents (Elt F) → (⟨S8x64x56x56, .f32⟩ : BufTy).Contents (Elt F)),
    binary main_v45 main_v47 main_v48 (addf : (⟨S8x64x56x56, .f32⟩ : BufTy).Contents (Elt F) → (⟨S8x64x56x56, .f32⟩ : BufTy).Contents (Elt F) → (⟨S8x64x56x56, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S8x64x56x56, .f32⟩) main_call3_v0) (broadcastInDim S8x64x56x56 ![] bcast_S_S8x64x56x56),
    TRef.binary (TRef.of (T := ⟨S8x64x56x56, .f32⟩) main_v48) (TRef.of (T := ⟨S8x64x56x56, .f32⟩) main_call3_v0) (TRef.of (T := ⟨S8x64x56x56, .f32⟩) main_v49) maximumf ]

/-- The operations of stage C3a. -/
abbrev opsC3a : List (HloOp τ sig (Elt F)) :=
  [ nullary main_c_1 (constantI S_ 32 0#32),
    TRef.unary (TRef.of (T := ⟨S_, .i32⟩) main_c_1) (TRef.of (T := ⟨S_, .f32⟩) main_call4_v0) (sitofp .f32),
    TRef.binary (TRef.of (T := ⟨S8x64x56x56, .f32⟩) main_v49) (TRef.of (T := ⟨S_, .f32⟩) main_call4_v0) (TRef.of (T := ⟨S8x64x58x58, .f32⟩) main_v50) (fun x v => pad S8x64x58x58 ![0, 0, 1, 1] ![0, 0, 1, 1] ![0, 0, 0, 0] x v pads_S8x64x56x56_S8x64x58x58_000_000_110_110 h_S_),
    unary main_v50 main_v51 ((extractStridedSlice S8x64x56x58 ![0, 0, 0, 0] · slices_S8x64x58x58_S8x64x56x58_0_0_0_0) : (⟨S8x64x58x58, .f32⟩ : BufTy).Contents (Elt F) → (⟨S8x64x56x58, .f32⟩ : BufTy).Contents (Elt F)),
    unary main_v50 main_v52 ((extractStridedSlice S8x64x56x58 ![0, 0, 1, 0] · slices_S8x64x58x58_S8x64x56x58_0_0_1_0) : (⟨S8x64x58x58, .f32⟩ : BufTy).Contents (Elt F) → (⟨S8x64x56x58, .f32⟩ : BufTy).Contents (Elt F)),
    unary main_v50 main_v53 ((extractStridedSlice S8x64x56x58 ![0, 0, 2, 0] · slices_S8x64x58x58_S8x64x56x58_0_0_2_0) : (⟨S8x64x58x58, .f32⟩ : BufTy).Contents (Elt F) → (⟨S8x64x56x58, .f32⟩ : BufTy).Contents (Elt F)),
    unary main_v51 main_v54 (broadcastInDim S8x64x56x1x58 ![0, 1, 2, 4] bcast_S8x64x56x58_S8x64x56x1x58_0_1_2_4 : (⟨S8x64x56x58, .f32⟩ : BufTy).Contents (Elt F) → (⟨S8x64x56x1x58, .f32⟩ : BufTy).Contents (Elt F)),
    unary main_v52 main_v55 (broadcastInDim S8x64x56x1x58 ![0, 1, 2, 4] bcast_S8x64x56x58_S8x64x56x1x58_0_1_2_4 : (⟨S8x64x56x58, .f32⟩ : BufTy).Contents (Elt F) → (⟨S8x64x56x1x58, .f32⟩ : BufTy).Contents (Elt F)),
    unary main_v53 main_v56 (broadcastInDim S8x64x56x1x58 ![0, 1, 2, 4] bcast_S8x64x56x58_S8x64x56x1x58_0_1_2_4 : (⟨S8x64x56x58, .f32⟩ : BufTy).Contents (Elt F) → (⟨S8x64x56x1x58, .f32⟩ : BufTy).Contents (Elt F)) ]

/-- The operations of stage C3b. -/
abbrev opsC3b : List (HloOp τ sig (Elt F)) :=
  [ nary ![main_v54, main_v55, main_v56] main_v57 (fun u => rowsC3 (u 0) (u 1) (u 2)),
    unary main_v57 main_v58 ((extractStridedSlice S8x64x56x3x56 ![0, 0, 0, 0, 0] · slices_S8x64x56x3x58_S8x64x56x3x56_0_0_0_0_0) : (⟨S8x64x56x3x58, .f32⟩ : BufTy).Contents (Elt F) → (⟨S8x64x56x3x56, .f32⟩ : BufTy).Contents (Elt F)),
    unary main_v57 main_v59 ((extractStridedSlice S8x64x56x3x56 ![0, 0, 0, 0, 1] · slices_S8x64x56x3x58_S8x64x56x3x56_0_0_0_0_1) : (⟨S8x64x56x3x58, .f32⟩ : BufTy).Contents (Elt F) → (⟨S8x64x56x3x56, .f32⟩ : BufTy).Contents (Elt F)),
    unary main_v57 main_v60 ((extractStridedSlice S8x64x56x3x56 ![0, 0, 0, 0, 2] · slices_S8x64x56x3x58_S8x64x56x3x56_0_0_0_0_2) : (⟨S8x64x56x3x58, .f32⟩ : BufTy).Contents (Elt F) → (⟨S8x64x56x3x56, .f32⟩ : BufTy).Contents (Elt F)),
    unary main_v58 main_v61 (broadcastInDim S8x64x56x3x56x1 ![0, 1, 2, 3, 4] bcast_S8x64x56x3x56_S8x64x56x3x56x1_0_1_2_3_4 : (⟨S8x64x56x3x56, .f32⟩ : BufTy).Contents (Elt F) → (⟨S8x64x56x3x56x1, .f32⟩ : BufTy).Contents (Elt F)),
    unary main_v59 main_v62 (broadcastInDim S8x64x56x3x56x1 ![0, 1, 2, 3, 4] bcast_S8x64x56x3x56_S8x64x56x3x56x1_0_1_2_3_4 : (⟨S8x64x56x3x56, .f32⟩ : BufTy).Contents (Elt F) → (⟨S8x64x56x3x56x1, .f32⟩ : BufTy).Contents (Elt F)),
    unary main_v60 main_v63 (broadcastInDim S8x64x56x3x56x1 ![0, 1, 2, 3, 4] bcast_S8x64x56x3x56_S8x64x56x3x56x1_0_1_2_3_4 : (⟨S8x64x56x3x56, .f32⟩ : BufTy).Contents (Elt F) → (⟨S8x64x56x3x56x1, .f32⟩ : BufTy).Contents (Elt F)),
    nary ![main_v61, main_v62, main_v63] main_v64 (fun u => colsC3 (u 0) (u 1) (u 2)),
    binary main_arg5 main_v64 main_v65 ((fun l r => Host.dotGeneral dot_S64x64x3x3_S8x64x56x3x56x3_S64x8x56x56_123_135_0_024_n_n none l r) : (⟨S64x64x3x3, .f32⟩ : BufTy).Contents (Elt F) → (⟨S8x64x56x3x56x3, .f32⟩ : BufTy).Contents (Elt F) → (⟨S64x8x56x56, .f32⟩ : BufTy).Contents (Elt F)),
    unary main_v65 main_v66 ((transpose S8x64x56x56 [1, 0, 2, 3] · transposes_S64x8x56x56_S8x64x56x56_1_0_2_3) : (⟨S64x8x56x56, .f32⟩ : BufTy).Contents (Elt F) → (⟨S8x64x56x56, .f32⟩ : BufTy).Contents (Elt F)),
    unary main_arg6 main_v67 (broadcastInDim S1x64x1x1 ![1] bcast_S64_S1x64x1x1_1 : (⟨S64, .f32⟩ : BufTy).Contents (Elt F) → (⟨S1x64x1x1, .f32⟩ : BufTy).Contents (Elt F)),
    unary main_v67 main_v68 (broadcastInDim S8x64x56x56 ![0, 1, 2, 3] bcast_S1x64x1x1_S8x64x56x56_0_1_2_3 : (⟨S1x64x1x1, .f32⟩ : BufTy).Contents (Elt F) → (⟨S8x64x56x56, .f32⟩ : BufTy).Contents (Elt F)),
    binary main_v66 main_v68 main_v69 (addf : (⟨S8x64x56x56, .f32⟩ : BufTy).Contents (Elt F) → (⟨S8x64x56x56, .f32⟩ : BufTy).Contents (Elt F) → (⟨S8x64x56x56, .f32⟩ : BufTy).Contents (Elt F)),
    unary main_v69 main_v70 ((transpose S8x56x56x64 [0, 2, 3, 1] · transposes_S8x64x56x56_S8x56x56x64_0_2_3_1) : (⟨S8x64x56x56, .f32⟩ : BufTy).Contents (Elt F) → (⟨S8x56x56x64, .f32⟩ : BufTy).Contents (Elt F)),
    reshape main_v70 main_v71 (rfl : (.f32 : EltTy) = .f32) shapeCasts_S8x56x56x64_S25088x64 ]

/-- The operations of stage D. -/
abbrev opsD : List (HloOp τ sig (Elt F)) :=
  [ binary main_v71 main_v71 main_v72 (mulf : (⟨S25088x64, .f32⟩ : BufTy).Contents (Elt F) → (⟨S25088x64, .f32⟩ : BufTy).Contents (Elt F) → (⟨S25088x64, .f32⟩ : BufTy).Contents (Elt F)),
    nullary main_cst (constant S_ .f32 0x00000000#32),
    binary main_v72 main_cst main_v73 ((fun x v => Host.reduceAdd x v reducesTo_S25088x64_S25088_d1 h_S_) : (⟨S25088x64, .f32⟩ : BufTy).Contents (Elt F) → (⟨S_, .f32⟩ : BufTy).Contents (Elt F) → (⟨S25088, .f32⟩ : BufTy).Contents (Elt F)),
    unary main_v73 main_v74 (broadcastInDim S25088x1 ![0] bcast_S25088_S25088x1_0 : (⟨S25088, .f32⟩ : BufTy).Contents (Elt F) → (⟨S25088x1, .f32⟩ : BufTy).Contents (Elt F)),
    unary main_arg7 main_v75 ((transpose S64x1024 [1, 0] · transposes_S1024x64_S64x1024_1_0) : (⟨S1024x64, .f32⟩ : BufTy).Contents (Elt F) → (⟨S64x1024, .f32⟩ : BufTy).Contents (Elt F)),
    binary main_v71 main_v75 main_v76 ((fun l r => Host.dotGeneral dot_S25088x64_S64x1024_S25088x1024_1_0_0_1_n_n none l r) : (⟨S25088x64, .f32⟩ : BufTy).Contents (Elt F) → (⟨S64x1024, .f32⟩ : BufTy).Contents (Elt F) → (⟨S25088x1024, .f32⟩ : BufTy).Contents (Elt F)),
    nullary main_cst_2 (constant S_ .f32 0x40000000#32),
    unary main_cst_2 main_v77 (broadcastInDim S25088x1024 ![] bcast_S_S25088x1024 : (⟨S_, .f32⟩ : BufTy).Contents (Elt F) → (⟨S25088x1024, .f32⟩ : BufTy).Contents (Elt F)),
    binary main_v77 main_v76 main_v78 (mulf : (⟨S25088x1024, .f32⟩ : BufTy).Contents (Elt F) → (⟨S25088x1024, .f32⟩ : BufTy).Contents (Elt F) → (⟨S25088x1024, .f32⟩ : BufTy).Contents (Elt F)),
    unary main_v74 main_v79 (broadcastInDim S25088x1024 ![0, 1] bcast_S25088x1_S25088x1024_0_1 : (⟨S25088x1, .f32⟩ : BufTy).Contents (Elt F) → (⟨S25088x1024, .f32⟩ : BufTy).Contents (Elt F)),
    binary main_v79 main_v78 main_v80 (subf : (⟨S25088x1024, .f32⟩ : BufTy).Contents (Elt F) → (⟨S25088x1024, .f32⟩ : BufTy).Contents (Elt F) → (⟨S25088x1024, .f32⟩ : BufTy).Contents (Elt F)),
    binary main_arg7 main_arg7 main_v81 (mulf : (⟨S1024x64, .f32⟩ : BufTy).Contents (Elt F) → (⟨S1024x64, .f32⟩ : BufTy).Contents (Elt F) → (⟨S1024x64, .f32⟩ : BufTy).Contents (Elt F)),
    nullary main_cst_3 (constant S_ .f32 0x00000000#32),
    binary main_v81 main_cst_3 main_v82 ((fun x v => Host.reduceAdd x v reducesTo_S1024x64_S1024_d1 h_S_) : (⟨S1024x64, .f32⟩ : BufTy).Contents (Elt F) → (⟨S_, .f32⟩ : BufTy).Contents (Elt F) → (⟨S1024, .f32⟩ : BufTy).Contents (Elt F)),
    unary main_v82 main_v83 (broadcastInDim S1x1024 ![1] bcast_S1024_S1x1024_1 : (⟨S1024, .f32⟩ : BufTy).Contents (Elt F) → (⟨S1x1024, .f32⟩ : BufTy).Contents (Elt F)),
    unary main_v83 main_v84 (broadcastInDim S25088x1024 ![0, 1] bcast_S1x1024_S25088x1024_0_1 : (⟨S1x1024, .f32⟩ : BufTy).Contents (Elt F) → (⟨S25088x1024, .f32⟩ : BufTy).Contents (Elt F)),
    binary main_v80 main_v84 main_v85 (addf : (⟨S25088x1024, .f32⟩ : BufTy).Contents (Elt F) → (⟨S25088x1024, .f32⟩ : BufTy).Contents (Elt F) → (⟨S25088x1024, .f32⟩ : BufTy).Contents (Elt F)) ]

/-- The operations of stage A. -/
abbrev opsA : List (HloOp τ sig (Elt F)) :=
  [ TRef.nullary (TRef.of (T := ⟨S25088x1024, .i32⟩) main_call5_v0) (iotaInDim S25088x1024 32 1),
    TRef.nullary (TRef.of (T := ⟨S_, .f32⟩) main_call5_cst) (constant S_ .f32 0x7F800000#32),
    TRef.nullary (TRef.of (T := ⟨S_, .i32⟩) main_call5_c) (constantI S_ 32 0#32),
    TRef.quaternary (TRef.of (T := ⟨S25088x1024, .f32⟩) main_v85) (TRef.of (T := ⟨S25088x1024, .i32⟩) main_call5_v0) (TRef.of (T := ⟨S_, .f32⟩) main_call5_cst) (TRef.of (T := ⟨S_, .i32⟩) main_call5_c) (TRef.of (T := ⟨S25088, .f32⟩) main_call5_v1_0) (fun x y u v j => (Host.argReduce reducer_argmin_f32_i32 x y u v reducesTo_S25088x1024_S25088_d1 h_S_ j).1),
    TRef.quaternary (TRef.of (T := ⟨S25088x1024, .f32⟩) main_v85) (TRef.of (T := ⟨S25088x1024, .i32⟩) main_call5_v0) (TRef.of (T := ⟨S_, .f32⟩) main_call5_cst) (TRef.of (T := ⟨S_, .i32⟩) main_call5_c) (TRef.of (T := ⟨S25088, .i32⟩) main_v86) (fun x y u v j => (Host.argReduce reducer_argmin_f32_i32 x y u v reducesTo_S25088x1024_S25088_d1 h_S_ j).2) ]

/-- The operations of stage Q. -/
abbrev opsQ : List (HloOp τ sig (Elt F)) :=
  [ TRef.nullary (TRef.of (T := ⟨S_, .i32⟩) main_call6_c) (constantI S_ 32 0#32),
    TRef.unary (TRef.of (T := ⟨S_, .i32⟩) main_call6_c) (TRef.of (T := ⟨S25088, .i32⟩) main_call6_v0) (broadcastInDim S25088 ![] bcast_S_S25088),
    TRef.binary (TRef.of (T := ⟨S25088, .i32⟩) main_v86) (TRef.of (T := ⟨S25088, .i32⟩) main_call6_v0) (TRef.of (T := ⟨S25088, .i1⟩) main_call6_v1) (cmpi .slt),
    TRef.nullary (TRef.of (T := ⟨S_, .i32⟩) main_call6_c_0) (constantI S_ 32 1024#32),
    TRef.unary (TRef.of (T := ⟨S_, .i32⟩) main_call6_c_0) (TRef.of (T := ⟨S25088, .i32⟩) main_call6_v2) (broadcastInDim S25088 ![] bcast_S_S25088),
    TRef.binary (TRef.of (T := ⟨S25088, .i32⟩) main_v86) (TRef.of (T := ⟨S25088, .i32⟩) main_call6_v2) (TRef.of (T := ⟨S25088, .i32⟩) main_call6_v3) addi,
    TRef.ternary (TRef.of (T := ⟨S25088, .i1⟩) main_call6_v1) (TRef.of (T := ⟨S25088, .i32⟩) main_call6_v3) (TRef.of (T := ⟨S25088, .i32⟩) main_v86) (TRef.of (T := ⟨S25088, .i32⟩) main_call6_v4) select,
    TRef.unary (TRef.of (T := ⟨S25088, .i32⟩) main_call6_v4) (TRef.of (T := ⟨S25088x1, .i32⟩) main_call6_v5) (broadcastInDim S25088x1 ![0] bcast_S25088_S25088x1_0),
    TRef.nullary (TRef.of (T := ⟨S1, .i32⟩) main_call6_c_1) (constantI S1 32 1023#32),
    TRef.nullary (TRef.of (T := ⟨S_, .i32⟩) main_call6_c_2) (constantI S_ 32 0#32),
    TRef.unary (TRef.of (T := ⟨S_, .i32⟩) main_call6_c_2) (TRef.of (T := ⟨S25088x1, .i32⟩) main_call6_v6) (broadcastInDim S25088x1 ![] bcast_S_S25088x1),
    TRef.binary (TRef.of (T := ⟨S25088x1, .i32⟩) main_call6_v5) (TRef.of (T := ⟨S25088x1, .i32⟩) main_call6_v6) (TRef.of (T := ⟨S25088x1, .i1⟩) main_call6_v7) (cmpi .sge),
    TRef.unary (TRef.of (T := ⟨S1, .i32⟩) main_call6_c_1) (TRef.of (T := ⟨S1x1, .i32⟩) main_call6_v8) (broadcastInDim S1x1 ![1] bcast_S1_S1x1_1),
    TRef.unary (TRef.of (T := ⟨S1x1, .i32⟩) main_call6_v8) (TRef.of (T := ⟨S25088x1, .i32⟩) main_call6_v9) (broadcastInDim S25088x1 ![0, 1] bcast_S1x1_S25088x1_0_1),
    TRef.binary (TRef.of (T := ⟨S25088x1, .i32⟩) main_call6_v5) (TRef.of (T := ⟨S25088x1, .i32⟩) main_call6_v9) (TRef.of (T := ⟨S25088x1, .i1⟩) main_call6_v10) (cmpi .sle),
    TRef.binary (TRef.of (T := ⟨S25088x1, .i1⟩) main_call6_v7) (TRef.of (T := ⟨S25088x1, .i1⟩) main_call6_v10) (TRef.of (T := ⟨S25088x1, .i1⟩) main_call6_v11) andi,
    TRef.nullary (TRef.of (T := ⟨S_, .i1⟩) main_call6_c_3) (constantI S_ 1 1#1),
    TRef.binary (TRef.of (T := ⟨S25088x1, .i1⟩) main_call6_v11) (TRef.of (T := ⟨S_, .i1⟩) main_call6_c_3) (TRef.of (T := ⟨S25088, .i1⟩) main_call6_v12) (fun x v => Host.reduce IntOp.andi x v reducesTo_S25088x1_S25088_d1 h_S_),
    TRef.binary (TRef.of (T := ⟨S1024x64, .f32⟩) main_arg7) (TRef.of (T := ⟨S25088x1, .i32⟩) main_call6_v5) (TRef.of (T := ⟨S25088x64, .f32⟩) main_call6_v13) (fun x i => Host.gather gather_S1024x64_S25088x1_S25088x64_1_0_n_n_0_1_164 x i),
    TRef.unary (TRef.of (T := ⟨S25088, .i1⟩) main_call6_v12) (TRef.of (T := ⟨S25088x64, .i1⟩) main_call6_v14) (broadcastInDim S25088x64 ![0] bcast_S25088_S25088x64_0),
    TRef.nullary (TRef.of (T := ⟨S_, .f32⟩) main_call6_cst) (constant S_ .f32 0x7FC00000#32),
    TRef.unary (TRef.of (T := ⟨S_, .f32⟩) main_call6_cst) (TRef.of (T := ⟨S25088x64, .f32⟩) main_call6_v15) (broadcastInDim S25088x64 ![] bcast_S_S25088x64),
    TRef.ternary (TRef.of (T := ⟨S25088x64, .i1⟩) main_call6_v14) (TRef.of (T := ⟨S25088x64, .f32⟩) main_call6_v13) (TRef.of (T := ⟨S25088x64, .f32⟩) main_call6_v15) (TRef.of (T := ⟨S25088x64, .f32⟩) main_v87) select,
    binary main_v87 main_v71 main_v88 (subf : (⟨S25088x64, .f32⟩ : BufTy).Contents (Elt F) → (⟨S25088x64, .f32⟩ : BufTy).Contents (Elt F) → (⟨S25088x64, .f32⟩ : BufTy).Contents (Elt F)),
    binary main_v71 main_v88 main_v89 (addf : (⟨S25088x64, .f32⟩ : BufTy).Contents (Elt F) → (⟨S25088x64, .f32⟩ : BufTy).Contents (Elt F) → (⟨S25088x64, .f32⟩ : BufTy).Contents (Elt F)),
    reshape main_v89 main_v90 (rfl : (.f32 : EltTy) = .f32) shapeCasts_S25088x64_S8x56x56x64,
    unary main_v90 main_v91 ((transpose S8x64x56x56 [0, 3, 1, 2] · transposes_S8x56x56x64_S8x64x56x56_0_3_1_2) : (⟨S8x56x56x64, .f32⟩ : BufTy).Contents (Elt F) → (⟨S8x64x56x56, .f32⟩ : BufTy).Contents (Elt F)) ]

/-- The operations of stage T1a. -/
abbrev opsT1a : List (HloOp τ sig (Elt F)) :=
  [ TRef.unary (TRef.of (T := ⟨S64x64x3x3, .f32⟩) main_arg8) (TRef.of (T := ⟨S64x64x3x3, .f32⟩) main_v92) (Host.reverse [2, 3]),
    unary main_v92 main_v93 ((transpose S64x64x3x3 [1, 0, 2, 3] · transposes_S64x64x3x3_S64x64x3x3_1_0_2_3) : (⟨S64x64x3x3, .f32⟩ : BufTy).Contents (Elt F) → (⟨S64x64x3x3, .f32⟩ : BufTy).Contents (Elt F)),
    nullary main_cst_4 (constant S_ .f32 0x00000000#32),
    binary main_v91 main_cst_4 main_v94 ((fun x v => pad S8x64x56x56 ![0, 0, 0, 0] ![0, 0, 0, 0] ![0, 0, 0, 0] x v pads_S8x64x56x56_S8x64x56x56_000_000_000_000 h_S_) : (⟨S8x64x56x56, .f32⟩ : BufTy).Contents (Elt F) → (⟨S_, .f32⟩ : BufTy).Contents (Elt F) → (⟨S8x64x56x56, .f32⟩ : BufTy).Contents (Elt F)),
    nullary main_c_5 (constantI S_ 32 0#32),
    TRef.unary (TRef.of (T := ⟨S_, .i32⟩) main_c_5) (TRef.of (T := ⟨S_, .f32⟩) main_call8_v0) (sitofp .f32),
    TRef.binary (TRef.of (T := ⟨S8x64x56x56, .f32⟩) main_v94) (TRef.of (T := ⟨S_, .f32⟩) main_call8_v0) (TRef.of (T := ⟨S8x64x58x58, .f32⟩) main_v95) (fun x v => pad S8x64x58x58 ![0, 0, 1, 1] ![0, 0, 1, 1] ![0, 0, 0, 0] x v pads_S8x64x56x56_S8x64x58x58_000_000_110_110 h_S_),
    unary main_v95 main_v96 ((extractStridedSlice S8x64x56x58 ![0, 0, 0, 0] · slices_S8x64x58x58_S8x64x56x58_0_0_0_0) : (⟨S8x64x58x58, .f32⟩ : BufTy).Contents (Elt F) → (⟨S8x64x56x58, .f32⟩ : BufTy).Contents (Elt F)),
    unary main_v95 main_v97 ((extractStridedSlice S8x64x56x58 ![0, 0, 1, 0] · slices_S8x64x58x58_S8x64x56x58_0_0_1_0) : (⟨S8x64x58x58, .f32⟩ : BufTy).Contents (Elt F) → (⟨S8x64x56x58, .f32⟩ : BufTy).Contents (Elt F)),
    unary main_v95 main_v98 ((extractStridedSlice S8x64x56x58 ![0, 0, 2, 0] · slices_S8x64x58x58_S8x64x56x58_0_0_2_0) : (⟨S8x64x58x58, .f32⟩ : BufTy).Contents (Elt F) → (⟨S8x64x56x58, .f32⟩ : BufTy).Contents (Elt F)),
    unary main_v96 main_v99 (broadcastInDim S8x64x56x1x58 ![0, 1, 2, 4] bcast_S8x64x56x58_S8x64x56x1x58_0_1_2_4 : (⟨S8x64x56x58, .f32⟩ : BufTy).Contents (Elt F) → (⟨S8x64x56x1x58, .f32⟩ : BufTy).Contents (Elt F)),
    unary main_v97 main_v100 (broadcastInDim S8x64x56x1x58 ![0, 1, 2, 4] bcast_S8x64x56x58_S8x64x56x1x58_0_1_2_4 : (⟨S8x64x56x58, .f32⟩ : BufTy).Contents (Elt F) → (⟨S8x64x56x1x58, .f32⟩ : BufTy).Contents (Elt F)),
    unary main_v98 main_v101 (broadcastInDim S8x64x56x1x58 ![0, 1, 2, 4] bcast_S8x64x56x58_S8x64x56x1x58_0_1_2_4 : (⟨S8x64x56x58, .f32⟩ : BufTy).Contents (Elt F) → (⟨S8x64x56x1x58, .f32⟩ : BufTy).Contents (Elt F)),
    nary ![main_v99, main_v100, main_v101] main_v102 (fun u => rowsT1 (u 0) (u 1) (u 2)),
    unary main_v102 main_v103 ((extractStridedSlice S8x64x56x3x56 ![0, 0, 0, 0, 0] · slices_S8x64x56x3x58_S8x64x56x3x56_0_0_0_0_0) : (⟨S8x64x56x3x58, .f32⟩ : BufTy).Contents (Elt F) → (⟨S8x64x56x3x56, .f32⟩ : BufTy).Contents (Elt F)),
    unary main_v102 main_v104 ((extractStridedSlice S8x64x56x3x56 ![0, 0, 0, 0, 1] · slices_S8x64x56x3x58_S8x64x56x3x56_0_0_0_0_1) : (⟨S8x64x56x3x58, .f32⟩ : BufTy).Contents (Elt F) → (⟨S8x64x56x3x56, .f32⟩ : BufTy).Contents (Elt F)),
    unary main_v102 main_v105 ((extractStridedSlice S8x64x56x3x56 ![0, 0, 0, 0, 2] · slices_S8x64x56x3x58_S8x64x56x3x56_0_0_0_0_2) : (⟨S8x64x56x3x58, .f32⟩ : BufTy).Contents (Elt F) → (⟨S8x64x56x3x56, .f32⟩ : BufTy).Contents (Elt F)),
    unary main_v103 main_v106 (broadcastInDim S8x64x56x3x56x1 ![0, 1, 2, 3, 4] bcast_S8x64x56x3x56_S8x64x56x3x56x1_0_1_2_3_4 : (⟨S8x64x56x3x56, .f32⟩ : BufTy).Contents (Elt F) → (⟨S8x64x56x3x56x1, .f32⟩ : BufTy).Contents (Elt F)),
    unary main_v104 main_v107 (broadcastInDim S8x64x56x3x56x1 ![0, 1, 2, 3, 4] bcast_S8x64x56x3x56_S8x64x56x3x56x1_0_1_2_3_4 : (⟨S8x64x56x3x56, .f32⟩ : BufTy).Contents (Elt F) → (⟨S8x64x56x3x56x1, .f32⟩ : BufTy).Contents (Elt F)),
    unary main_v105 main_v108 (broadcastInDim S8x64x56x3x56x1 ![0, 1, 2, 3, 4] bcast_S8x64x56x3x56_S8x64x56x3x56x1_0_1_2_3_4 : (⟨S8x64x56x3x56, .f32⟩ : BufTy).Contents (Elt F) → (⟨S8x64x56x3x56x1, .f32⟩ : BufTy).Contents (Elt F)),
    nary ![main_v106, main_v107, main_v108] main_v109 (fun u => colsT1 (u 0) (u 1) (u 2)),
    binary main_v93 main_v109 main_v110 ((fun l r => Host.dotGeneral dot_S64x64x3x3_S8x64x56x3x56x3_S64x8x56x56_123_135_0_024_n_n none l r) : (⟨S64x64x3x3, .f32⟩ : BufTy).Contents (Elt F) → (⟨S8x64x56x3x56x3, .f32⟩ : BufTy).Contents (Elt F) → (⟨S64x8x56x56, .f32⟩ : BufTy).Contents (Elt F)),
    unary main_v110 main_v111 ((transpose S8x64x56x56 [1, 0, 2, 3] · transposes_S64x8x56x56_S8x64x56x56_1_0_2_3) : (⟨S64x8x56x56, .f32⟩ : BufTy).Contents (Elt F) → (⟨S8x64x56x56, .f32⟩ : BufTy).Contents (Elt F)) ]

/-- The operations of stage T1b. -/
abbrev opsT1b : List (HloOp τ sig (Elt F)) :=
  [ unary main_arg9 main_v112 (broadcastInDim S1x64x1x1 ![1] bcast_S64_S1x64x1x1_1 : (⟨S64, .f32⟩ : BufTy).Contents (Elt F) → (⟨S1x64x1x1, .f32⟩ : BufTy).Contents (Elt F)),
    unary main_v112 main_v113 (broadcastInDim S8x64x56x56 ![0, 1, 2, 3] bcast_S1x64x1x1_S8x64x56x56_0_1_2_3 : (⟨S1x64x1x1, .f32⟩ : BufTy).Contents (Elt F) → (⟨S8x64x56x56, .f32⟩ : BufTy).Contents (Elt F)),
    binary main_v111 main_v113 main_v114 (addf : (⟨S8x64x56x56, .f32⟩ : BufTy).Contents (Elt F) → (⟨S8x64x56x56, .f32⟩ : BufTy).Contents (Elt F) → (⟨S8x64x56x56, .f32⟩ : BufTy).Contents (Elt F)),
    TRef.nullary (TRef.of (T := ⟨S_, .f32⟩) main_call9_cst) (constant S_ .f32 0x00000000#32),
    TRef.unary (TRef.of (T := ⟨S_, .f32⟩) main_call9_cst) (TRef.of (T := ⟨S8x64x56x56, .f32⟩) main_call9_v0) (broadcastInDim S8x64x56x56 ![] bcast_S_S8x64x56x56),
    TRef.binary (TRef.of (T := ⟨S8x64x56x56, .f32⟩) main_v114) (TRef.of (T := ⟨S8x64x56x56, .f32⟩) main_call9_v0) (TRef.of (T := ⟨S8x64x56x56, .f32⟩) main_v115) maximumf ]

/-- The operations of stage T2. -/
abbrev opsT2 : List (HloOp τ sig (Elt F)) :=
  [ TRef.unary (TRef.of (T := ⟨S64x32x4x4, .f32⟩) main_arg10) (TRef.of (T := ⟨S64x32x4x4, .f32⟩) main_v116) (Host.reverse [2, 3]),
    unary main_v116 main_v117 ((transpose S32x64x4x4 [1, 0, 2, 3] · transposes_S64x32x4x4_S32x64x4x4_1_0_2_3) : (⟨S64x32x4x4, .f32⟩ : BufTy).Contents (Elt F) → (⟨S32x64x4x4, .f32⟩ : BufTy).Contents (Elt F)),
    nullary main_cst_6 (constant S_ .f32 0x00000000#32),
    binary main_v115 main_cst_6 main_v118 ((fun x v => pad S8x64x111x111 ![0, 0, 0, 0] ![0, 0, 0, 0] ![0, 0, 1, 1] x v pads_S8x64x56x56_S8x64x111x111_000_000_001_001 h_S_) : (⟨S8x64x56x56, .f32⟩ : BufTy).Contents (Elt F) → (⟨S_, .f32⟩ : BufTy).Contents (Elt F) → (⟨S8x64x111x111, .f32⟩ : BufTy).Contents (Elt F)),
    nullary main_c_7 (constantI S_ 32 0#32),
    TRef.unary (TRef.of (T := ⟨S_, .i32⟩) main_c_7) (TRef.of (T := ⟨S_, .f32⟩) main_call11_v0) (sitofp .f32),
    TRef.binary (TRef.of (T := ⟨S8x64x111x111, .f32⟩) main_v118) (TRef.of (T := ⟨S_, .f32⟩) main_call11_v0) (TRef.of (T := ⟨S8x64x115x115, .f32⟩) main_v119) (fun x v => pad S8x64x115x115 ![0, 0, 2, 2] ![0, 0, 2, 2] ![0, 0, 0, 0] x v pads_S8x64x111x111_S8x64x115x115_000_000_220_220 h_S_),
    unary main_v119 main_v120 ((extractStridedSlice S8x64x112x115 ![0, 0, 0, 0] · slices_S8x64x115x115_S8x64x112x115_0_0_0_0) : (⟨S8x64x115x115, .f32⟩ : BufTy).Contents (Elt F) → (⟨S8x64x112x115, .f32⟩ : BufTy).Contents (Elt F)),
    unary main_v119 main_v121 ((extractStridedSlice S8x64x112x115 ![0, 0, 1, 0] · slices_S8x64x115x115_S8x64x112x115_0_0_1_0) : (⟨S8x64x115x115, .f32⟩ : BufTy).Contents (Elt F) → (⟨S8x64x112x115, .f32⟩ : BufTy).Contents (Elt F)),
    unary main_v119 main_v122 ((extractStridedSlice S8x64x112x115 ![0, 0, 2, 0] · slices_S8x64x115x115_S8x64x112x115_0_0_2_0) : (⟨S8x64x115x115, .f32⟩ : BufTy).Contents (Elt F) → (⟨S8x64x112x115, .f32⟩ : BufTy).Contents (Elt F)),
    unary main_v119 main_v123 ((extractStridedSlice S8x64x112x115 ![0, 0, 3, 0] · slices_S8x64x115x115_S8x64x112x115_0_0_3_0) : (⟨S8x64x115x115, .f32⟩ : BufTy).Contents (Elt F) → (⟨S8x64x112x115, .f32⟩ : BufTy).Contents (Elt F)),
    unary main_v120 main_v124 (broadcastInDim S8x64x112x1x115 ![0, 1, 2, 4] bcast_S8x64x112x115_S8x64x112x1x115_0_1_2_4 : (⟨S8x64x112x115, .f32⟩ : BufTy).Contents (Elt F) → (⟨S8x64x112x1x115, .f32⟩ : BufTy).Contents (Elt F)),
    unary main_v121 main_v125 (broadcastInDim S8x64x112x1x115 ![0, 1, 2, 4] bcast_S8x64x112x115_S8x64x112x1x115_0_1_2_4 : (⟨S8x64x112x115, .f32⟩ : BufTy).Contents (Elt F) → (⟨S8x64x112x1x115, .f32⟩ : BufTy).Contents (Elt F)),
    unary main_v122 main_v126 (broadcastInDim S8x64x112x1x115 ![0, 1, 2, 4] bcast_S8x64x112x115_S8x64x112x1x115_0_1_2_4 : (⟨S8x64x112x115, .f32⟩ : BufTy).Contents (Elt F) → (⟨S8x64x112x1x115, .f32⟩ : BufTy).Contents (Elt F)),
    unary main_v123 main_v127 (broadcastInDim S8x64x112x1x115 ![0, 1, 2, 4] bcast_S8x64x112x115_S8x64x112x1x115_0_1_2_4 : (⟨S8x64x112x115, .f32⟩ : BufTy).Contents (Elt F) → (⟨S8x64x112x1x115, .f32⟩ : BufTy).Contents (Elt F)),
    nary ![main_v124, main_v125, main_v126, main_v127] main_v128 (fun u => rowsT2 (u 0) (u 1) (u 2) (u 3)),
    unary main_v128 main_v129 ((extractStridedSlice S8x64x112x4x112 ![0, 0, 0, 0, 0] · slices_S8x64x112x4x115_S8x64x112x4x112_0_0_0_0_0) : (⟨S8x64x112x4x115, .f32⟩ : BufTy).Contents (Elt F) → (⟨S8x64x112x4x112, .f32⟩ : BufTy).Contents (Elt F)),
    unary main_v128 main_v130 ((extractStridedSlice S8x64x112x4x112 ![0, 0, 0, 0, 1] · slices_S8x64x112x4x115_S8x64x112x4x112_0_0_0_0_1) : (⟨S8x64x112x4x115, .f32⟩ : BufTy).Contents (Elt F) → (⟨S8x64x112x4x112, .f32⟩ : BufTy).Contents (Elt F)),
    unary main_v128 main_v131 ((extractStridedSlice S8x64x112x4x112 ![0, 0, 0, 0, 2] · slices_S8x64x112x4x115_S8x64x112x4x112_0_0_0_0_2) : (⟨S8x64x112x4x115, .f32⟩ : BufTy).Contents (Elt F) → (⟨S8x64x112x4x112, .f32⟩ : BufTy).Contents (Elt F)),
    unary main_v128 main_v132 ((extractStridedSlice S8x64x112x4x112 ![0, 0, 0, 0, 3] · slices_S8x64x112x4x115_S8x64x112x4x112_0_0_0_0_3) : (⟨S8x64x112x4x115, .f32⟩ : BufTy).Contents (Elt F) → (⟨S8x64x112x4x112, .f32⟩ : BufTy).Contents (Elt F)),
    unary main_v129 main_v133 (broadcastInDim S8x64x112x4x112x1 ![0, 1, 2, 3, 4] bcast_S8x64x112x4x112_S8x64x112x4x112x1_0_1_2_3_4 : (⟨S8x64x112x4x112, .f32⟩ : BufTy).Contents (Elt F) → (⟨S8x64x112x4x112x1, .f32⟩ : BufTy).Contents (Elt F)),
    unary main_v130 main_v134 (broadcastInDim S8x64x112x4x112x1 ![0, 1, 2, 3, 4] bcast_S8x64x112x4x112_S8x64x112x4x112x1_0_1_2_3_4 : (⟨S8x64x112x4x112, .f32⟩ : BufTy).Contents (Elt F) → (⟨S8x64x112x4x112x1, .f32⟩ : BufTy).Contents (Elt F)),
    unary main_v131 main_v135 (broadcastInDim S8x64x112x4x112x1 ![0, 1, 2, 3, 4] bcast_S8x64x112x4x112_S8x64x112x4x112x1_0_1_2_3_4 : (⟨S8x64x112x4x112, .f32⟩ : BufTy).Contents (Elt F) → (⟨S8x64x112x4x112x1, .f32⟩ : BufTy).Contents (Elt F)),
    unary main_v132 main_v136 (broadcastInDim S8x64x112x4x112x1 ![0, 1, 2, 3, 4] bcast_S8x64x112x4x112_S8x64x112x4x112x1_0_1_2_3_4 : (⟨S8x64x112x4x112, .f32⟩ : BufTy).Contents (Elt F) → (⟨S8x64x112x4x112x1, .f32⟩ : BufTy).Contents (Elt F)),
    nary ![main_v133, main_v134, main_v135, main_v136] main_v137 (fun u => colsT2 (u 0) (u 1) (u 2) (u 3)),
    binary main_v117 main_v137 main_v138 ((fun l r => Host.dotGeneral dot_S32x64x4x4_S8x64x112x4x112x4_S32x8x112x112_123_135_0_024_n_n none l r) : (⟨S32x64x4x4, .f32⟩ : BufTy).Contents (Elt F) → (⟨S8x64x112x4x112x4, .f32⟩ : BufTy).Contents (Elt F) → (⟨S32x8x112x112, .f32⟩ : BufTy).Contents (Elt F)),
    unary main_v138 main_v139 ((transpose S8x32x112x112 [1, 0, 2, 3] · transposes_S32x8x112x112_S8x32x112x112_1_0_2_3) : (⟨S32x8x112x112, .f32⟩ : BufTy).Contents (Elt F) → (⟨S8x32x112x112, .f32⟩ : BufTy).Contents (Elt F)),
    unary main_arg11 main_v140 (broadcastInDim S1x32x1x1 ![1] bcast_S32_S1x32x1x1_1 : (⟨S32, .f32⟩ : BufTy).Contents (Elt F) → (⟨S1x32x1x1, .f32⟩ : BufTy).Contents (Elt F)),
    unary main_v140 main_v141 (broadcastInDim S8x32x112x112 ![0, 1, 2, 3] bcast_S1x32x1x1_S8x32x112x112_0_1_2_3 : (⟨S1x32x1x1, .f32⟩ : BufTy).Contents (Elt F) → (⟨S8x32x112x112, .f32⟩ : BufTy).Contents (Elt F)),
    binary main_v139 main_v141 main_v142 (addf : (⟨S8x32x112x112, .f32⟩ : BufTy).Contents (Elt F) → (⟨S8x32x112x112, .f32⟩ : BufTy).Contents (Elt F) → (⟨S8x32x112x112, .f32⟩ : BufTy).Contents (Elt F)),
    TRef.nullary (TRef.of (T := ⟨S_, .f32⟩) main_call12_cst) (constant S_ .f32 0x00000000#32),
    TRef.unary (TRef.of (T := ⟨S_, .f32⟩) main_call12_cst) (TRef.of (T := ⟨S8x32x112x112, .f32⟩) main_call12_v0) (broadcastInDim S8x32x112x112 ![] bcast_S_S8x32x112x112),
    TRef.binary (TRef.of (T := ⟨S8x32x112x112, .f32⟩) main_v142) (TRef.of (T := ⟨S8x32x112x112, .f32⟩) main_call12_v0) (TRef.of (T := ⟨S8x32x112x112, .f32⟩) main_v143) maximumf ]

/-- The operations of stage T3a. -/
abbrev opsT3a : List (HloOp τ sig (Elt F)) :=
  [ TRef.unary (TRef.of (T := ⟨S32x3x4x4, .f32⟩) main_arg12) (TRef.of (T := ⟨S32x3x4x4, .f32⟩) main_v144) (Host.reverse [2, 3]),
    unary main_v144 main_v145 ((transpose S3x32x4x4 [1, 0, 2, 3] · transposes_S32x3x4x4_S3x32x4x4_1_0_2_3) : (⟨S32x3x4x4, .f32⟩ : BufTy).Contents (Elt F) → (⟨S3x32x4x4, .f32⟩ : BufTy).Contents (Elt F)),
    nullary main_cst_8 (constant S_ .f32 0x00000000#32),
    binary main_v143 main_cst_8 main_v146 ((fun x v => pad S8x32x223x223 ![0, 0, 0, 0] ![0, 0, 0, 0] ![0, 0, 1, 1] x v pads_S8x32x112x112_S8x32x223x223_000_000_001_001 h_S_) : (⟨S8x32x112x112, .f32⟩ : BufTy).Contents (Elt F) → (⟨S_, .f32⟩ : BufTy).Contents (Elt F) → (⟨S8x32x223x223, .f32⟩ : BufTy).Contents (Elt F)),
    nullary main_c_9 (constantI S_ 32 0#32),
    TRef.unary (TRef.of (T := ⟨S_, .i32⟩) main_c_9) (TRef.of (T := ⟨S_, .f32⟩) main_call14_v0) (sitofp .f32),
    TRef.binary (TRef.of (T := ⟨S8x32x223x223, .f32⟩) main_v146) (TRef.of (T := ⟨S_, .f32⟩) main_call14_v0) (TRef.of (T := ⟨S8x32x227x227, .f32⟩) main_v147) (fun x v => pad S8x32x227x227 ![0, 0, 2, 2] ![0, 0, 2, 2] ![0, 0, 0, 0] x v pads_S8x32x223x223_S8x32x227x227_000_000_220_220 h_S_),
    unary main_v147 main_v148 ((extractStridedSlice S8x32x224x227 ![0, 0, 0, 0] · slices_S8x32x227x227_S8x32x224x227_0_0_0_0) : (⟨S8x32x227x227, .f32⟩ : BufTy).Contents (Elt F) → (⟨S8x32x224x227, .f32⟩ : BufTy).Contents (Elt F)),
    unary main_v147 main_v149 ((extractStridedSlice S8x32x224x227 ![0, 0, 1, 0] · slices_S8x32x227x227_S8x32x224x227_0_0_1_0) : (⟨S8x32x227x227, .f32⟩ : BufTy).Contents (Elt F) → (⟨S8x32x224x227, .f32⟩ : BufTy).Contents (Elt F)),
    unary main_v147 main_v150 ((extractStridedSlice S8x32x224x227 ![0, 0, 2, 0] · slices_S8x32x227x227_S8x32x224x227_0_0_2_0) : (⟨S8x32x227x227, .f32⟩ : BufTy).Contents (Elt F) → (⟨S8x32x224x227, .f32⟩ : BufTy).Contents (Elt F)),
    unary main_v147 main_v151 ((extractStridedSlice S8x32x224x227 ![0, 0, 3, 0] · slices_S8x32x227x227_S8x32x224x227_0_0_3_0) : (⟨S8x32x227x227, .f32⟩ : BufTy).Contents (Elt F) → (⟨S8x32x224x227, .f32⟩ : BufTy).Contents (Elt F)),
    unary main_v148 main_v152 (broadcastInDim S8x32x224x1x227 ![0, 1, 2, 4] bcast_S8x32x224x227_S8x32x224x1x227_0_1_2_4 : (⟨S8x32x224x227, .f32⟩ : BufTy).Contents (Elt F) → (⟨S8x32x224x1x227, .f32⟩ : BufTy).Contents (Elt F)),
    unary main_v149 main_v153 (broadcastInDim S8x32x224x1x227 ![0, 1, 2, 4] bcast_S8x32x224x227_S8x32x224x1x227_0_1_2_4 : (⟨S8x32x224x227, .f32⟩ : BufTy).Contents (Elt F) → (⟨S8x32x224x1x227, .f32⟩ : BufTy).Contents (Elt F)),
    unary main_v150 main_v154 (broadcastInDim S8x32x224x1x227 ![0, 1, 2, 4] bcast_S8x32x224x227_S8x32x224x1x227_0_1_2_4 : (⟨S8x32x224x227, .f32⟩ : BufTy).Contents (Elt F) → (⟨S8x32x224x1x227, .f32⟩ : BufTy).Contents (Elt F)),
    unary main_v151 main_v155 (broadcastInDim S8x32x224x1x227 ![0, 1, 2, 4] bcast_S8x32x224x227_S8x32x224x1x227_0_1_2_4 : (⟨S8x32x224x227, .f32⟩ : BufTy).Contents (Elt F) → (⟨S8x32x224x1x227, .f32⟩ : BufTy).Contents (Elt F)),
    nary ![main_v152, main_v153, main_v154, main_v155] main_v156 (fun u => rowsT3 (u 0) (u 1) (u 2) (u 3)),
    unary main_v156 main_v157 ((extractStridedSlice S8x32x224x4x224 ![0, 0, 0, 0, 0] · slices_S8x32x224x4x227_S8x32x224x4x224_0_0_0_0_0) : (⟨S8x32x224x4x227, .f32⟩ : BufTy).Contents (Elt F) → (⟨S8x32x224x4x224, .f32⟩ : BufTy).Contents (Elt F)),
    unary main_v156 main_v158 ((extractStridedSlice S8x32x224x4x224 ![0, 0, 0, 0, 1] · slices_S8x32x224x4x227_S8x32x224x4x224_0_0_0_0_1) : (⟨S8x32x224x4x227, .f32⟩ : BufTy).Contents (Elt F) → (⟨S8x32x224x4x224, .f32⟩ : BufTy).Contents (Elt F)),
    unary main_v156 main_v159 ((extractStridedSlice S8x32x224x4x224 ![0, 0, 0, 0, 2] · slices_S8x32x224x4x227_S8x32x224x4x224_0_0_0_0_2) : (⟨S8x32x224x4x227, .f32⟩ : BufTy).Contents (Elt F) → (⟨S8x32x224x4x224, .f32⟩ : BufTy).Contents (Elt F)),
    unary main_v156 main_v160 ((extractStridedSlice S8x32x224x4x224 ![0, 0, 0, 0, 3] · slices_S8x32x224x4x227_S8x32x224x4x224_0_0_0_0_3) : (⟨S8x32x224x4x227, .f32⟩ : BufTy).Contents (Elt F) → (⟨S8x32x224x4x224, .f32⟩ : BufTy).Contents (Elt F)),
    unary main_v157 main_v161 (broadcastInDim S8x32x224x4x224x1 ![0, 1, 2, 3, 4] bcast_S8x32x224x4x224_S8x32x224x4x224x1_0_1_2_3_4 : (⟨S8x32x224x4x224, .f32⟩ : BufTy).Contents (Elt F) → (⟨S8x32x224x4x224x1, .f32⟩ : BufTy).Contents (Elt F)),
    unary main_v158 main_v162 (broadcastInDim S8x32x224x4x224x1 ![0, 1, 2, 3, 4] bcast_S8x32x224x4x224_S8x32x224x4x224x1_0_1_2_3_4 : (⟨S8x32x224x4x224, .f32⟩ : BufTy).Contents (Elt F) → (⟨S8x32x224x4x224x1, .f32⟩ : BufTy).Contents (Elt F)),
    unary main_v159 main_v163 (broadcastInDim S8x32x224x4x224x1 ![0, 1, 2, 3, 4] bcast_S8x32x224x4x224_S8x32x224x4x224x1_0_1_2_3_4 : (⟨S8x32x224x4x224, .f32⟩ : BufTy).Contents (Elt F) → (⟨S8x32x224x4x224x1, .f32⟩ : BufTy).Contents (Elt F)),
    unary main_v160 main_v164 (broadcastInDim S8x32x224x4x224x1 ![0, 1, 2, 3, 4] bcast_S8x32x224x4x224_S8x32x224x4x224x1_0_1_2_3_4 : (⟨S8x32x224x4x224, .f32⟩ : BufTy).Contents (Elt F) → (⟨S8x32x224x4x224x1, .f32⟩ : BufTy).Contents (Elt F)),
    nary ![main_v161, main_v162, main_v163, main_v164] main_v165 (fun u => colsT3 (u 0) (u 1) (u 2) (u 3)),
    binary main_v145 main_v165 main_v166 ((fun l r => Host.dotGeneral dot_S3x32x4x4_S8x32x224x4x224x4_S3x8x224x224_123_135_0_024_n_n none l r) : (⟨S3x32x4x4, .f32⟩ : BufTy).Contents (Elt F) → (⟨S8x32x224x4x224x4, .f32⟩ : BufTy).Contents (Elt F) → (⟨S3x8x224x224, .f32⟩ : BufTy).Contents (Elt F)),
    unary main_v166 main_v167 ((transpose S8x3x224x224 [1, 0, 2, 3] · transposes_S3x8x224x224_S8x3x224x224_1_0_2_3) : (⟨S3x8x224x224, .f32⟩ : BufTy).Contents (Elt F) → (⟨S8x3x224x224, .f32⟩ : BufTy).Contents (Elt F)) ]

/-- The operations of stage T3b. -/
abbrev opsT3b : List (HloOp τ sig (Elt F)) :=
  [ unary main_arg13 main_v168 (broadcastInDim S1x3x1x1 ![1] bcast_S3_S1x3x1x1_1 : (⟨S3, .f32⟩ : BufTy).Contents (Elt F) → (⟨S1x3x1x1, .f32⟩ : BufTy).Contents (Elt F)),
    unary main_v168 main_v169 (broadcastInDim S8x3x224x224 ![0, 1, 2, 3] bcast_S1x3x1x1_S8x3x224x224_0_1_2_3 : (⟨S1x3x1x1, .f32⟩ : BufTy).Contents (Elt F) → (⟨S8x3x224x224, .f32⟩ : BufTy).Contents (Elt F)),
    binary main_v167 main_v169 main_v170 (addf : (⟨S8x3x224x224, .f32⟩ : BufTy).Contents (Elt F) → (⟨S8x3x224x224, .f32⟩ : BufTy).Contents (Elt F) → (⟨S8x3x224x224, .f32⟩ : BufTy).Contents (Elt F)),
    reshape main_v170 main_v171 (rfl : (.f32 : EltTy) = .f32) shapeCasts_S8x3x224x224_S8x3x112x2x224 ]

/-- The buffers that stage C1 writes. -/
abbrev bufsC1 : List (Ref sig .tc) :=
  [main_c, main_call0_v0, main_v0, main_v1, main_v2, main_v3, main_v4, main_v5, main_v6, main_v7, main_v8, main_v9, main_v10, main_v11, main_v12, main_v13, main_v14, main_v15, main_v16, main_v17, main_v18, main_v19, main_v20, main_v21, main_v22, main_v23, main_call1_cst, main_call1_v0, main_v24]

/-- The buffers that stage C2 writes. -/
abbrev bufsC2 : List (Ref sig .tc) :=
  [main_c_0, main_call2_v0, main_v25, main_v26, main_v27, main_v28, main_v29, main_v30, main_v31, main_v32, main_v33, main_v34, main_v35, main_v36, main_v37, main_v38, main_v39, main_v40, main_v41, main_v42, main_v43, main_v44, main_v45, main_v46, main_v47, main_v48, main_call3_cst, main_call3_v0, main_v49]

/-- The buffers that stage C3a writes. -/
abbrev bufsC3a : List (Ref sig .tc) :=
  [main_c_1, main_call4_v0, main_v50, main_v51, main_v52, main_v53, main_v54, main_v55, main_v56]

/-- The buffers that stage C3b writes. -/
abbrev bufsC3b : List (Ref sig .tc) :=
  [main_v57, main_v58, main_v59, main_v60, main_v61, main_v62, main_v63, main_v64, main_v65, main_v66, main_v67, main_v68, main_v69, main_v70, main_v71]

/-- The buffers that stage D writes. -/
abbrev bufsD : List (Ref sig .tc) :=
  [main_v72, main_cst, main_v73, main_v74, main_v75, main_v76, main_cst_2, main_v77, main_v78, main_v79, main_v80, main_v81, main_cst_3, main_v82, main_v83, main_v84, main_v85]

/-- The buffers that stage A writes. -/
abbrev bufsA : List (Ref sig .tc) :=
  [main_call5_v0, main_call5_cst, main_call5_c, main_call5_v1_0, main_v86]

/-- The buffers that stage Q writes. -/
abbrev bufsQ : List (Ref sig .tc) :=
  [main_call6_c, main_call6_v0, main_call6_v1, main_call6_c_0, main_call6_v2, main_call6_v3, main_call6_v4, main_call6_v5, main_call6_c_1, main_call6_c_2, main_call6_v6, main_call6_v7, main_call6_v8, main_call6_v9, main_call6_v10, main_call6_v11, main_call6_c_3, main_call6_v12, main_call6_v13, main_call6_v14, main_call6_cst, main_call6_v15, main_v87, main_v88, main_v89, main_v90, main_v91]

/-- The buffers that stage T1a writes. -/
abbrev bufsT1a : List (Ref sig .tc) :=
  [main_v92, main_v93, main_cst_4, main_v94, main_c_5, main_call8_v0, main_v95, main_v96, main_v97, main_v98, main_v99, main_v100, main_v101, main_v102, main_v103, main_v104, main_v105, main_v106, main_v107, main_v108, main_v109, main_v110, main_v111]

/-- The buffers that stage T1b writes. -/
abbrev bufsT1b : List (Ref sig .tc) :=
  [main_v112, main_v113, main_v114, main_call9_cst, main_call9_v0, main_v115]

/-- The buffers that stage T2 writes. -/
abbrev bufsT2 : List (Ref sig .tc) :=
  [main_v116, main_v117, main_cst_6, main_v118, main_c_7, main_call11_v0, main_v119, main_v120, main_v121, main_v122, main_v123, main_v124, main_v125, main_v126, main_v127, main_v128, main_v129, main_v130, main_v131, main_v132, main_v133, main_v134, main_v135, main_v136, main_v137, main_v138, main_v139, main_v140, main_v141, main_v142, main_call12_cst, main_call12_v0, main_v143]

/-- The buffers that stage T3a writes. -/
abbrev bufsT3a : List (Ref sig .tc) :=
  [main_v144, main_v145, main_cst_8, main_v146, main_c_9, main_call14_v0, main_v147, main_v148, main_v149, main_v150, main_v151, main_v152, main_v153, main_v154, main_v155, main_v156, main_v157, main_v158, main_v159, main_v160, main_v161, main_v162, main_v163, main_v164, main_v165, main_v166, main_v167]

/-- The buffers that stage T3b writes. -/
abbrev bufsT3b : List (Ref sig .tc) :=
  [main_v168, main_v169, main_v170, main_v171]

/-- The whole program's operations. -/
abbrev ops : List (HloOp τ sig (Elt F)) :=
  (opsC1 ++ (opsC2 ++ opsC3a)) ++ ((opsC3b ++ (opsD ++ (opsA ++ (opsQ ++ opsT1a)))) ++ ((opsT1b ++ (opsT2 ++ opsT3a)) ++ opsT3b))

set_option maxHeartbeats 8000000 in
/-- The first part of the program is its stages up to the first views of the third convolution. -/
theorem part0_eq (c : Dev nD) : main_part0 (F := F) c = seq (opsC1 ++ (opsC2 ++ opsC3a)) := rfl

set_option maxHeartbeats 8000000 in
/-- The second part ends inside the first transposed convolution. -/
theorem part1_eq (c : Dev nD) : main_part1 (F := F) c = seq (opsC3b ++ (opsD ++ (opsA ++ (opsQ ++ opsT1a)))) := rfl

set_option maxHeartbeats 8000000 in
/-- The third part ends inside the last transposed convolution. -/
theorem part2_eq (c : Dev nD) : main_part2 (F := F) c = seq (opsT1b ++ (opsT2 ++ opsT3a)) := rfl

/-- The last part. -/
theorem part3_eq (c : Dev nD) : main_part3 (F := F) c = seq opsT3b := rfl

/-- The program is its operations in order. -/
theorem main_eq (c : Dev nD) : main (F := F) c = seq ops := by
  rw [ops, seq_append, seq_append (opsC3b ++ _), seq_append (opsT1b ++ _), ← part0_eq c, ← part1_eq c, ← part2_eq c, ← part3_eq c]
  rfl

/-- The program declares no scoped buffer. -/
theorem scopedRefs_eq : (Finset.univ.filter fun b : Ref sig .tc => b.isScoped) = ∅ := by decide
/-- The program declares no scoped semaphore. -/
theorem scopedSems_eq : (Finset.univ.filter fun sm : SemLoc sig => sm.isScoped .tc) = ∅ := by decide

end Cert.ReferenceIdeal.Hand

end
-- ==== Proof.RefStages.lean ====
module

public import proofs.«01_k».proof.Proof.RefOps

/-! What each stage of the reference leaves in its result buffer, as a function of the stage's inputs, for any contents before it. -/

@[expose] public section

set_option maxRecDepth 65536

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- Stage C1: the input with its border of zeros. -/
def padC1 (x : FVec F S8x3x224x224 .f32) : FVec F S8x3x226x226 .f32 :=
  pad S8x3x226x226 ![0, 0, 1, 1] ![0, 0, 1, 1] ![0, 0, 0, 0] x (sitofp .f32 (constantI S_ 32 0#32 )) pads_S8x3x224x224_S8x3x226x226_000_000_110_110 h_S_

/-- Stage C1: the row windows of the padded input. -/
def rowC1 (x : FVec F S8x3x226x226 .f32) : FVec F S8x3x112x4x226 .f32 :=
  rowsC1 (broadcastInDim S8x3x112x1x226 ![0, 1, 2, 4] bcast_S8x3x112x226_S8x3x112x1x226_0_1_2_4 (Host.slice S8x3x112x226 ![0, 0, 0, 0] ![1, 1, 2, 1] x slicesBy_S8x3x226x226_S8x3x112x226_0s1_0s1_0s2_0s1)) (broadcastInDim S8x3x112x1x226 ![0, 1, 2, 4] bcast_S8x3x112x226_S8x3x112x1x226_0_1_2_4 (Host.slice S8x3x112x226 ![0, 0, 1, 0] ![1, 1, 2, 1] x slicesBy_S8x3x226x226_S8x3x112x226_0s1_0s1_1s2_0s1)) (broadcastInDim S8x3x112x1x226 ![0, 1, 2, 4] bcast_S8x3x112x226_S8x3x112x1x226_0_1_2_4 (Host.slice S8x3x112x226 ![0, 0, 2, 0] ![1, 1, 2, 1] x slicesBy_S8x3x226x226_S8x3x112x226_0s1_0s1_2s2_0s1)) (broadcastInDim S8x3x112x1x226 ![0, 1, 2, 4] bcast_S8x3x112x226_S8x3x112x1x226_0_1_2_4 (Host.slice S8x3x112x226 ![0, 0, 3, 0] ![1, 1, 2, 1] x slicesBy_S8x3x226x226_S8x3x112x226_0s1_0s1_3s2_0s1))

/-- Stage C1: the column windows of the row windows. -/
def colC1 (x : FVec F S8x3x112x4x226 .f32) : FVec F S8x3x112x4x112x4 .f32 :=
  colsC1 (broadcastInDim S8x3x112x4x112x1 ![0, 1, 2, 3, 4] bcast_S8x3x112x4x112_S8x3x112x4x112x1_0_1_2_3_4 (Host.slice S8x3x112x4x112 ![0, 0, 0, 0, 0] ![1, 1, 1, 1, 2] x slicesBy_S8x3x112x4x226_S8x3x112x4x112_0s1_0s1_0s1_0s1_0s2)) (broadcastInDim S8x3x112x4x112x1 ![0, 1, 2, 3, 4] bcast_S8x3x112x4x112_S8x3x112x4x112x1_0_1_2_3_4 (Host.slice S8x3x112x4x112 ![0, 0, 0, 0, 1] ![1, 1, 1, 1, 2] x slicesBy_S8x3x112x4x226_S8x3x112x4x112_0s1_0s1_0s1_0s1_1s2)) (broadcastInDim S8x3x112x4x112x1 ![0, 1, 2, 3, 4] bcast_S8x3x112x4x112_S8x3x112x4x112x1_0_1_2_3_4 (Host.slice S8x3x112x4x112 ![0, 0, 0, 0, 2] ![1, 1, 1, 1, 2] x slicesBy_S8x3x112x4x226_S8x3x112x4x112_0s1_0s1_0s1_0s1_2s2)) (broadcastInDim S8x3x112x4x112x1 ![0, 1, 2, 3, 4] bcast_S8x3x112x4x112_S8x3x112x4x112x1_0_1_2_3_4 (Host.slice S8x3x112x4x112 ![0, 0, 0, 0, 3] ![1, 1, 1, 1, 2] x slicesBy_S8x3x112x4x226_S8x3x112x4x112_0s1_0s1_0s1_0s1_3s2))

/-- Stage C1: weights times windows, the bias, and what follows up to the stage's result. -/
def linC1 (x : FVec F S8x3x112x4x112x4 .f32) (w : FVec F S32x3x4x4 .f32) (b : FVec F S32 .f32) : FVec F S8x32x112x112 .f32 :=
  maximumf (addf (transpose S8x32x112x112 [1, 0, 2, 3] (Host.dotGeneral dot_S32x3x4x4_S8x3x112x4x112x4_S32x8x112x112_123_135_0_024_n_n none w x) transposes_S32x8x112x112_S8x32x112x112_1_0_2_3) (broadcastInDim S8x32x112x112 ![0, 1, 2, 3] bcast_S1x32x1x1_S8x32x112x112_0_1_2_3 (broadcastInDim S1x32x1x1 ![1] bcast_S32_S1x32x1x1_1 b))) (broadcastInDim S8x32x112x112 ![] bcast_S_S8x32x112x112 (constant S_ .f32 0x00000000#32 ))

/-- Stage C1 as one function of its input, weights and bias. -/
def refC1 (x : FVec F S8x3x224x224 .f32) (w : FVec F S32x3x4x4 .f32) (b : FVec F S32 .f32) : FVec F S8x32x112x112 .f32 :=
  linC1 (colC1 (rowC1 (padC1 x))) w b

/-- Stage C2: the input with its border of zeros. -/
def padC2 (x : FVec F S8x32x112x112 .f32) : FVec F S8x32x114x114 .f32 :=
  pad S8x32x114x114 ![0, 0, 1, 1] ![0, 0, 1, 1] ![0, 0, 0, 0] x (sitofp .f32 (constantI S_ 32 0#32 )) pads_S8x32x112x112_S8x32x114x114_000_000_110_110 h_S_

/-- Stage C2: the row windows of the padded input. -/
def rowC2 (x : FVec F S8x32x114x114 .f32) : FVec F S8x32x56x4x114 .f32 :=
  rowsC2 (broadcastInDim S8x32x56x1x114 ![0, 1, 2, 4] bcast_S8x32x56x114_S8x32x56x1x114_0_1_2_4 (Host.slice S8x32x56x114 ![0, 0, 0, 0] ![1, 1, 2, 1] x slicesBy_S8x32x114x114_S8x32x56x114_0s1_0s1_0s2_0s1)) (broadcastInDim S8x32x56x1x114 ![0, 1, 2, 4] bcast_S8x32x56x114_S8x32x56x1x114_0_1_2_4 (Host.slice S8x32x56x114 ![0, 0, 1, 0] ![1, 1, 2, 1] x slicesBy_S8x32x114x114_S8x32x56x114_0s1_0s1_1s2_0s1)) (broadcastInDim S8x32x56x1x114 ![0, 1, 2, 4] bcast_S8x32x56x114_S8x32x56x1x114_0_1_2_4 (Host.slice S8x32x56x114 ![0, 0, 2, 0] ![1, 1, 2, 1] x slicesBy_S8x32x114x114_S8x32x56x114_0s1_0s1_2s2_0s1)) (broadcastInDim S8x32x56x1x114 ![0, 1, 2, 4] bcast_S8x32x56x114_S8x32x56x1x114_0_1_2_4 (Host.slice S8x32x56x114 ![0, 0, 3, 0] ![1, 1, 2, 1] x slicesBy_S8x32x114x114_S8x32x56x114_0s1_0s1_3s2_0s1))

/-- Stage C2: the column windows of the row windows. -/
def colC2 (x : FVec F S8x32x56x4x114 .f32) : FVec F S8x32x56x4x56x4 .f32 :=
  colsC2 (broadcastInDim S8x32x56x4x56x1 ![0, 1, 2, 3, 4] bcast_S8x32x56x4x56_S8x32x56x4x56x1_0_1_2_3_4 (Host.slice S8x32x56x4x56 ![0, 0, 0, 0, 0] ![1, 1, 1, 1, 2] x slicesBy_S8x32x56x4x114_S8x32x56x4x56_0s1_0s1_0s1_0s1_0s2)) (broadcastInDim S8x32x56x4x56x1 ![0, 1, 2, 3, 4] bcast_S8x32x56x4x56_S8x32x56x4x56x1_0_1_2_3_4 (Host.slice S8x32x56x4x56 ![0, 0, 0, 0, 1] ![1, 1, 1, 1, 2] x slicesBy_S8x32x56x4x114_S8x32x56x4x56_0s1_0s1_0s1_0s1_1s2)) (broadcastInDim S8x32x56x4x56x1 ![0, 1, 2, 3, 4] bcast_S8x32x56x4x56_S8x32x56x4x56x1_0_1_2_3_4 (Host.slice S8x32x56x4x56 ![0, 0, 0, 0, 2] ![1, 1, 1, 1, 2] x slicesBy_S8x32x56x4x114_S8x32x56x4x56_0s1_0s1_0s1_0s1_2s2)) (broadcastInDim S8x32x56x4x56x1 ![0, 1, 2, 3, 4] bcast_S8x32x56x4x56_S8x32x56x4x56x1_0_1_2_3_4 (Host.slice S8x32x56x4x56 ![0, 0, 0, 0, 3] ![1, 1, 1, 1, 2] x slicesBy_S8x32x56x4x114_S8x32x56x4x56_0s1_0s1_0s1_0s1_3s2))

/-- Stage C2: weights times windows, the bias, and what follows up to the stage's result. -/
def linC2 (x : FVec F S8x32x56x4x56x4 .f32) (w : FVec F S64x32x4x4 .f32) (b : FVec F S64 .f32) : FVec F S8x64x56x56 .f32 :=
  maximumf (addf (transpose S8x64x56x56 [1, 0, 2, 3] (Host.dotGeneral dot_S64x32x4x4_S8x32x56x4x56x4_S64x8x56x56_123_135_0_024_n_n none w x) transposes_S64x8x56x56_S8x64x56x56_1_0_2_3) (broadcastInDim S8x64x56x56 ![0, 1, 2, 3] bcast_S1x64x1x1_S8x64x56x56_0_1_2_3 (broadcastInDim S1x64x1x1 ![1] bcast_S64_S1x64x1x1_1 b))) (broadcastInDim S8x64x56x56 ![] bcast_S_S8x64x56x56 (constant S_ .f32 0x00000000#32 ))

/-- Stage C2 as one function of its input, weights and bias. -/
def refC2 (x : FVec F S8x32x112x112 .f32) (w : FVec F S64x32x4x4 .f32) (b : FVec F S64 .f32) : FVec F S8x64x56x56 .f32 :=
  linC2 (colC2 (rowC2 (padC2 x))) w b

/-- Stage C3: the input with its border of zeros. -/
def padC3 (x : FVec F S8x64x56x56 .f32) : FVec F S8x64x58x58 .f32 :=
  pad S8x64x58x58 ![0, 0, 1, 1] ![0, 0, 1, 1] ![0, 0, 0, 0] x (sitofp .f32 (constantI S_ 32 0#32 )) pads_S8x64x56x56_S8x64x58x58_000_000_110_110 h_S_

/-- Stage C3: the row windows of the padded input. -/
def rowC3 (x : FVec F S8x64x58x58 .f32) : FVec F S8x64x56x3x58 .f32 :=
  rowsC3 (broadcastInDim S8x64x56x1x58 ![0, 1, 2, 4] bcast_S8x64x56x58_S8x64x56x1x58_0_1_2_4 (extractStridedSlice S8x64x56x58 ![0, 0, 0, 0] x slices_S8x64x58x58_S8x64x56x58_0_0_0_0)) (broadcastInDim S8x64x56x1x58 ![0, 1, 2, 4] bcast_S8x64x56x58_S8x64x56x1x58_0_1_2_4 (extractStridedSlice S8x64x56x58 ![0, 0, 1, 0] x slices_S8x64x58x58_S8x64x56x58_0_0_1_0)) (broadcastInDim S8x64x56x1x58 ![0, 1, 2, 4] bcast_S8x64x56x58_S8x64x56x1x58_0_1_2_4 (extractStridedSlice S8x64x56x58 ![0, 0, 2, 0] x slices_S8x64x58x58_S8x64x56x58_0_0_2_0))

/-- Stage C3: the column windows of the row windows. -/
def colC3 (x : FVec F S8x64x56x3x58 .f32) : FVec F S8x64x56x3x56x3 .f32 :=
  colsC3 (broadcastInDim S8x64x56x3x56x1 ![0, 1, 2, 3, 4] bcast_S8x64x56x3x56_S8x64x56x3x56x1_0_1_2_3_4 (extractStridedSlice S8x64x56x3x56 ![0, 0, 0, 0, 0] x slices_S8x64x56x3x58_S8x64x56x3x56_0_0_0_0_0)) (broadcastInDim S8x64x56x3x56x1 ![0, 1, 2, 3, 4] bcast_S8x64x56x3x56_S8x64x56x3x56x1_0_1_2_3_4 (extractStridedSlice S8x64x56x3x56 ![0, 0, 0, 0, 1] x slices_S8x64x56x3x58_S8x64x56x3x56_0_0_0_0_1)) (broadcastInDim S8x64x56x3x56x1 ![0, 1, 2, 3, 4] bcast_S8x64x56x3x56_S8x64x56x3x56x1_0_1_2_3_4 (extractStridedSlice S8x64x56x3x56 ![0, 0, 0, 0, 2] x slices_S8x64x56x3x58_S8x64x56x3x56_0_0_0_0_2))

/-- Stage C3: weights times windows, the bias, and what follows up to the stage's result. -/
def linC3 (x : FVec F S8x64x56x3x56x3 .f32) (w : FVec F S64x64x3x3 .f32) (b : FVec F S64 .f32) : FVec F S25088x64 .f32 :=
  shapeCast _ (transpose S8x56x56x64 [0, 2, 3, 1] (addf (transpose S8x64x56x56 [1, 0, 2, 3] (Host.dotGeneral dot_S64x64x3x3_S8x64x56x3x56x3_S64x8x56x56_123_135_0_024_n_n none w x) transposes_S64x8x56x56_S8x64x56x56_1_0_2_3) (broadcastInDim S8x64x56x56 ![0, 1, 2, 3] bcast_S1x64x1x1_S8x64x56x56_0_1_2_3 (broadcastInDim S1x64x1x1 ![1] bcast_S64_S1x64x1x1_1 b))) transposes_S8x64x56x56_S8x56x56x64_0_2_3_1) shapeCasts_S8x56x56x64_S25088x64

/-- Stage C3 as one function of its input, weights and bias. -/
def refC3 (x : FVec F S8x64x56x56 .f32) (w : FVec F S64x64x3x3 .f32) (b : FVec F S64 .f32) : FVec F S25088x64 .f32 :=
  linC3 (colC3 (rowC3 (padC3 x))) w b

/-- Stage T1: the input with its border of zeros. -/
def padT1 (x : FVec F S8x64x56x56 .f32) : FVec F S8x64x58x58 .f32 :=
  pad S8x64x58x58 ![0, 0, 1, 1] ![0, 0, 1, 1] ![0, 0, 0, 0] (pad S8x64x56x56 ![0, 0, 0, 0] ![0, 0, 0, 0] ![0, 0, 0, 0] x (constant S_ .f32 0x00000000#32 ) pads_S8x64x56x56_S8x64x56x56_000_000_000_000 h_S_) (sitofp .f32 (constantI S_ 32 0#32 )) pads_S8x64x56x56_S8x64x58x58_000_000_110_110 h_S_

/-- Stage T1: the row windows of the padded input. -/
def rowT1 (x : FVec F S8x64x58x58 .f32) : FVec F S8x64x56x3x58 .f32 :=
  rowsT1 (broadcastInDim S8x64x56x1x58 ![0, 1, 2, 4] bcast_S8x64x56x58_S8x64x56x1x58_0_1_2_4 (extractStridedSlice S8x64x56x58 ![0, 0, 0, 0] x slices_S8x64x58x58_S8x64x56x58_0_0_0_0)) (broadcastInDim S8x64x56x1x58 ![0, 1, 2, 4] bcast_S8x64x56x58_S8x64x56x1x58_0_1_2_4 (extractStridedSlice S8x64x56x58 ![0, 0, 1, 0] x slices_S8x64x58x58_S8x64x56x58_0_0_1_0)) (broadcastInDim S8x64x56x1x58 ![0, 1, 2, 4] bcast_S8x64x56x58_S8x64x56x1x58_0_1_2_4 (extractStridedSlice S8x64x56x58 ![0, 0, 2, 0] x slices_S8x64x58x58_S8x64x56x58_0_0_2_0))

/-- Stage T1: the column windows of the row windows. -/
def colT1 (x : FVec F S8x64x56x3x58 .f32) : FVec F S8x64x56x3x56x3 .f32 :=
  colsT1 (broadcastInDim S8x64x56x3x56x1 ![0, 1, 2, 3, 4] bcast_S8x64x56x3x56_S8x64x56x3x56x1_0_1_2_3_4 (extractStridedSlice S8x64x56x3x56 ![0, 0, 0, 0, 0] x slices_S8x64x56x3x58_S8x64x56x3x56_0_0_0_0_0)) (broadcastInDim S8x64x56x3x56x1 ![0, 1, 2, 3, 4] bcast_S8x64x56x3x56_S8x64x56x3x56x1_0_1_2_3_4 (extractStridedSlice S8x64x56x3x56 ![0, 0, 0, 0, 1] x slices_S8x64x56x3x58_S8x64x56x3x56_0_0_0_0_1)) (broadcastInDim S8x64x56x3x56x1 ![0, 1, 2, 3, 4] bcast_S8x64x56x3x56_S8x64x56x3x56x1_0_1_2_3_4 (extractStridedSlice S8x64x56x3x56 ![0, 0, 0, 0, 2] x slices_S8x64x56x3x58_S8x64x56x3x56_0_0_0_0_2))

/-- Stage T1: weights times windows, the bias, and what follows up to the stage's result. -/
def linT1 (x : FVec F S8x64x56x3x56x3 .f32) (w : FVec F S64x64x3x3 .f32) (b : FVec F S64 .f32) : FVec F S8x64x56x56 .f32 :=
  maximumf (addf (transpose S8x64x56x56 [1, 0, 2, 3] (Host.dotGeneral dot_S64x64x3x3_S8x64x56x3x56x3_S64x8x56x56_123_135_0_024_n_n none (transpose S64x64x3x3 [1, 0, 2, 3] (Host.reverse [2, 3] w) transposes_S64x64x3x3_S64x64x3x3_1_0_2_3) x) transposes_S64x8x56x56_S8x64x56x56_1_0_2_3) (broadcastInDim S8x64x56x56 ![0, 1, 2, 3] bcast_S1x64x1x1_S8x64x56x56_0_1_2_3 (broadcastInDim S1x64x1x1 ![1] bcast_S64_S1x64x1x1_1 b))) (broadcastInDim S8x64x56x56 ![] bcast_S_S8x64x56x56 (constant S_ .f32 0x00000000#32 ))

/-- Stage T1 as one function of its input, weights and bias. -/
def refT1 (x : FVec F S8x64x56x56 .f32) (w : FVec F S64x64x3x3 .f32) (b : FVec F S64 .f32) : FVec F S8x64x56x56 .f32 :=
  linT1 (colT1 (rowT1 (padT1 x))) w b

/-- Stage T2: the input with its border of zeros. -/
def padT2 (x : FVec F S8x64x56x56 .f32) : FVec F S8x64x115x115 .f32 :=
  pad S8x64x115x115 ![0, 0, 2, 2] ![0, 0, 2, 2] ![0, 0, 0, 0] (pad S8x64x111x111 ![0, 0, 0, 0] ![0, 0, 0, 0] ![0, 0, 1, 1] x (constant S_ .f32 0x00000000#32 ) pads_S8x64x56x56_S8x64x111x111_000_000_001_001 h_S_) (sitofp .f32 (constantI S_ 32 0#32 )) pads_S8x64x111x111_S8x64x115x115_000_000_220_220 h_S_

/-- Stage T2: the row windows of the padded input. -/
def rowT2 (x : FVec F S8x64x115x115 .f32) : FVec F S8x64x112x4x115 .f32 :=
  rowsT2 (broadcastInDim S8x64x112x1x115 ![0, 1, 2, 4] bcast_S8x64x112x115_S8x64x112x1x115_0_1_2_4 (extractStridedSlice S8x64x112x115 ![0, 0, 0, 0] x slices_S8x64x115x115_S8x64x112x115_0_0_0_0)) (broadcastInDim S8x64x112x1x115 ![0, 1, 2, 4] bcast_S8x64x112x115_S8x64x112x1x115_0_1_2_4 (extractStridedSlice S8x64x112x115 ![0, 0, 1, 0] x slices_S8x64x115x115_S8x64x112x115_0_0_1_0)) (broadcastInDim S8x64x112x1x115 ![0, 1, 2, 4] bcast_S8x64x112x115_S8x64x112x1x115_0_1_2_4 (extractStridedSlice S8x64x112x115 ![0, 0, 2, 0] x slices_S8x64x115x115_S8x64x112x115_0_0_2_0)) (broadcastInDim S8x64x112x1x115 ![0, 1, 2, 4] bcast_S8x64x112x115_S8x64x112x1x115_0_1_2_4 (extractStridedSlice S8x64x112x115 ![0, 0, 3, 0] x slices_S8x64x115x115_S8x64x112x115_0_0_3_0))

/-- Stage T2: the column windows of the row windows. -/
def colT2 (x : FVec F S8x64x112x4x115 .f32) : FVec F S8x64x112x4x112x4 .f32 :=
  colsT2 (broadcastInDim S8x64x112x4x112x1 ![0, 1, 2, 3, 4] bcast_S8x64x112x4x112_S8x64x112x4x112x1_0_1_2_3_4 (extractStridedSlice S8x64x112x4x112 ![0, 0, 0, 0, 0] x slices_S8x64x112x4x115_S8x64x112x4x112_0_0_0_0_0)) (broadcastInDim S8x64x112x4x112x1 ![0, 1, 2, 3, 4] bcast_S8x64x112x4x112_S8x64x112x4x112x1_0_1_2_3_4 (extractStridedSlice S8x64x112x4x112 ![0, 0, 0, 0, 1] x slices_S8x64x112x4x115_S8x64x112x4x112_0_0_0_0_1)) (broadcastInDim S8x64x112x4x112x1 ![0, 1, 2, 3, 4] bcast_S8x64x112x4x112_S8x64x112x4x112x1_0_1_2_3_4 (extractStridedSlice S8x64x112x4x112 ![0, 0, 0, 0, 2] x slices_S8x64x112x4x115_S8x64x112x4x112_0_0_0_0_2)) (broadcastInDim S8x64x112x4x112x1 ![0, 1, 2, 3, 4] bcast_S8x64x112x4x112_S8x64x112x4x112x1_0_1_2_3_4 (extractStridedSlice S8x64x112x4x112 ![0, 0, 0, 0, 3] x slices_S8x64x112x4x115_S8x64x112x4x112_0_0_0_0_3))

/-- Stage T2: weights times windows, the bias, and what follows up to the stage's result. -/
def linT2 (x : FVec F S8x64x112x4x112x4 .f32) (w : FVec F S64x32x4x4 .f32) (b : FVec F S32 .f32) : FVec F S8x32x112x112 .f32 :=
  maximumf (addf (transpose S8x32x112x112 [1, 0, 2, 3] (Host.dotGeneral dot_S32x64x4x4_S8x64x112x4x112x4_S32x8x112x112_123_135_0_024_n_n none (transpose S32x64x4x4 [1, 0, 2, 3] (Host.reverse [2, 3] w) transposes_S64x32x4x4_S32x64x4x4_1_0_2_3) x) transposes_S32x8x112x112_S8x32x112x112_1_0_2_3) (broadcastInDim S8x32x112x112 ![0, 1, 2, 3] bcast_S1x32x1x1_S8x32x112x112_0_1_2_3 (broadcastInDim S1x32x1x1 ![1] bcast_S32_S1x32x1x1_1 b))) (broadcastInDim S8x32x112x112 ![] bcast_S_S8x32x112x112 (constant S_ .f32 0x00000000#32 ))

/-- Stage T2 as one function of its input, weights and bias. -/
def refT2 (x : FVec F S8x64x56x56 .f32) (w : FVec F S64x32x4x4 .f32) (b : FVec F S32 .f32) : FVec F S8x32x112x112 .f32 :=
  linT2 (colT2 (rowT2 (padT2 x))) w b

/-- Stage T3: the input with its border of zeros. -/
def padT3 (x : FVec F S8x32x112x112 .f32) : FVec F S8x32x227x227 .f32 :=
  pad S8x32x227x227 ![0, 0, 2, 2] ![0, 0, 2, 2] ![0, 0, 0, 0] (pad S8x32x223x223 ![0, 0, 0, 0] ![0, 0, 0, 0] ![0, 0, 1, 1] x (constant S_ .f32 0x00000000#32 ) pads_S8x32x112x112_S8x32x223x223_000_000_001_001 h_S_) (sitofp .f32 (constantI S_ 32 0#32 )) pads_S8x32x223x223_S8x32x227x227_000_000_220_220 h_S_

/-- Stage T3: the row windows of the padded input. -/
def rowT3 (x : FVec F S8x32x227x227 .f32) : FVec F S8x32x224x4x227 .f32 :=
  rowsT3 (broadcastInDim S8x32x224x1x227 ![0, 1, 2, 4] bcast_S8x32x224x227_S8x32x224x1x227_0_1_2_4 (extractStridedSlice S8x32x224x227 ![0, 0, 0, 0] x slices_S8x32x227x227_S8x32x224x227_0_0_0_0)) (broadcastInDim S8x32x224x1x227 ![0, 1, 2, 4] bcast_S8x32x224x227_S8x32x224x1x227_0_1_2_4 (extractStridedSlice S8x32x224x227 ![0, 0, 1, 0] x slices_S8x32x227x227_S8x32x224x227_0_0_1_0)) (broadcastInDim S8x32x224x1x227 ![0, 1, 2, 4] bcast_S8x32x224x227_S8x32x224x1x227_0_1_2_4 (extractStridedSlice S8x32x224x227 ![0, 0, 2, 0] x slices_S8x32x227x227_S8x32x224x227_0_0_2_0)) (broadcastInDim S8x32x224x1x227 ![0, 1, 2, 4] bcast_S8x32x224x227_S8x32x224x1x227_0_1_2_4 (extractStridedSlice S8x32x224x227 ![0, 0, 3, 0] x slices_S8x32x227x227_S8x32x224x227_0_0_3_0))

/-- Stage T3: the column windows of the row windows. -/
def colT3 (x : FVec F S8x32x224x4x227 .f32) : FVec F S8x32x224x4x224x4 .f32 :=
  colsT3 (broadcastInDim S8x32x224x4x224x1 ![0, 1, 2, 3, 4] bcast_S8x32x224x4x224_S8x32x224x4x224x1_0_1_2_3_4 (extractStridedSlice S8x32x224x4x224 ![0, 0, 0, 0, 0] x slices_S8x32x224x4x227_S8x32x224x4x224_0_0_0_0_0)) (broadcastInDim S8x32x224x4x224x1 ![0, 1, 2, 3, 4] bcast_S8x32x224x4x224_S8x32x224x4x224x1_0_1_2_3_4 (extractStridedSlice S8x32x224x4x224 ![0, 0, 0, 0, 1] x slices_S8x32x224x4x227_S8x32x224x4x224_0_0_0_0_1)) (broadcastInDim S8x32x224x4x224x1 ![0, 1, 2, 3, 4] bcast_S8x32x224x4x224_S8x32x224x4x224x1_0_1_2_3_4 (extractStridedSlice S8x32x224x4x224 ![0, 0, 0, 0, 2] x slices_S8x32x224x4x227_S8x32x224x4x224_0_0_0_0_2)) (broadcastInDim S8x32x224x4x224x1 ![0, 1, 2, 3, 4] bcast_S8x32x224x4x224_S8x32x224x4x224x1_0_1_2_3_4 (extractStridedSlice S8x32x224x4x224 ![0, 0, 0, 0, 3] x slices_S8x32x224x4x227_S8x32x224x4x224_0_0_0_0_3))

/-- Stage T3: weights times windows, the bias, and what follows up to the stage's result. -/
def linT3 (x : FVec F S8x32x224x4x224x4 .f32) (w : FVec F S32x3x4x4 .f32) (b : FVec F S3 .f32) : FVec F S8x3x112x2x224 .f32 :=
  shapeCast _ (addf (transpose S8x3x224x224 [1, 0, 2, 3] (Host.dotGeneral dot_S3x32x4x4_S8x32x224x4x224x4_S3x8x224x224_123_135_0_024_n_n none (transpose S3x32x4x4 [1, 0, 2, 3] (Host.reverse [2, 3] w) transposes_S32x3x4x4_S3x32x4x4_1_0_2_3) x) transposes_S3x8x224x224_S8x3x224x224_1_0_2_3) (broadcastInDim S8x3x224x224 ![0, 1, 2, 3] bcast_S1x3x1x1_S8x3x224x224_0_1_2_3 (broadcastInDim S1x3x1x1 ![1] bcast_S3_S1x3x1x1_1 b))) shapeCasts_S8x3x224x224_S8x3x112x2x224

/-- Stage T3 as one function of its input, weights and bias. -/
def refT3 (x : FVec F S8x32x112x112 .f32) (w : FVec F S32x3x4x4 .f32) (b : FVec F S3 .f32) : FVec F S8x3x112x2x224 .f32 :=
  linT3 (colT3 (rowT3 (padT3 x))) w b

/-- The squared distance of every row to every code vector. -/
def refD (z : FVec F S25088x64 .f32) (e : FVec F S1024x64 .f32) : FVec F S25088x1024 .f32 :=
  addf (subf (broadcastInDim S25088x1024 ![0, 1] bcast_S25088x1_S25088x1024_0_1 (broadcastInDim S25088x1 ![0] bcast_S25088_S25088x1_0 (Host.reduceAdd (mulf z z) (constant S_ .f32 0x00000000#32 ) reducesTo_S25088x64_S25088_d1 h_S_))) (mulf (broadcastInDim S25088x1024 ![] bcast_S_S25088x1024 (constant S_ .f32 0x40000000#32 )) (Host.dotGeneral dot_S25088x64_S64x1024_S25088x1024_1_0_0_1_n_n none z (transpose S64x1024 [1, 0] e transposes_S1024x64_S64x1024_1_0)))) (broadcastInDim S25088x1024 ![0, 1] bcast_S1x1024_S25088x1024_0_1 (broadcastInDim S1x1024 ![1] bcast_S1024_S1x1024_1 (Host.reduceAdd (mulf e e) (constant S_ .f32 0x00000000#32 ) reducesTo_S1024x64_S1024_d1 h_S_)))

/-- The index of the nearest code vector. -/
def refA (d : FVec F S25088x1024 .f32) : IVec S25088 32 :=
  (fun x y u v j => (Host.argReduce reducer_argmin_f32_i32 x y u v reducesTo_S25088x1024_S25088_d1 h_S_ j).2) d (iotaInDim S25088x1024 32 1 ) (constant S_ .f32 0x7F800000#32 ) (constantI S_ 32 0#32 )

/-- The index, wrapped when negative, as a column. -/
def refQi (i : IVec S25088 32) : IVec S25088x1 32 :=
  broadcastInDim S25088x1 ![0] bcast_S25088_S25088x1_0 (select (cmpi .slt i (broadcastInDim S25088 ![] bcast_S_S25088 (constantI S_ 32 0#32 ))) (addi i (broadcastInDim S25088 ![] bcast_S_S25088 (constantI S_ 32 1024#32 ))) i)

/-- The code vectors at the indices. -/
def refQt (e : FVec F S1024x64 .f32) (i : IVec S25088x1 32) : FVec F S25088x64 .f32 :=
  select (broadcastInDim S25088x64 ![0] bcast_S25088_S25088x64_0 (Host.reduce IntOp.andi (andi (cmpi .sge i (broadcastInDim S25088x1 ![] bcast_S_S25088x1 (constantI S_ 32 0#32 ))) (cmpi .sle i (broadcastInDim S25088x1 ![0, 1] bcast_S1x1_S25088x1_0_1 (broadcastInDim S1x1 ![1] bcast_S1_S1x1_1 (constantI S1 32 1023#32 ))))) (constantI S_ 1 1#1 ) reducesTo_S25088x1_S25088_d1 h_S_)) (Host.gather gather_S1024x64_S25088x1_S25088x64_1_0_n_n_0_1_164 e i) (broadcastInDim S25088x64 ![] bcast_S_S25088x64 (constant S_ .f32 0x7FC00000#32 ))

/-- The straight-through sum, in image order. -/
def refQs (z q : FVec F S25088x64 .f32) : FVec F S8x64x56x56 .f32 :=
  transpose S8x64x56x56 [0, 3, 1, 2] (shapeCast _ (addf z (subf q z)) shapeCasts_S25088x64_S8x56x56x64) transposes_S8x56x56x64_S8x64x56x56_0_3_1_2

/-- The code vectors of the indices, straight through, in image order. -/
def refQ (z : FVec F S25088x64 .f32) (e : FVec F S1024x64 .f32) (i : IVec S25088 32) : FVec F S8x64x56x56 .f32 :=
  refQs z (refQt e (refQi i))

set_option maxHeartbeats 4000000 in
/-- Stage C1 leaves `refC1` of its inputs. -/
theorem after_C1 (V : Valuation τ sig (Elt F)) :
    (after opsC1 V) (Proc.devRef .tc main_v24) = refC1 (V (Proc.devRef .tc main_arg0)) (V (Proc.devRef .tc main_arg1)) (V (Proc.devRef .tc main_arg2)) := by
  simp only [opsC1, TRef.binary, TRef.nullary, TRef.unary, TRef.ternary, TRef.quaternary, TRef.toBuf, TRef.ofBuf, cast_eq]
  after_results_simp
  rfl

set_option maxHeartbeats 4000000 in
/-- Stage C2 leaves `refC2` of its inputs. -/
theorem after_C2 (V : Valuation τ sig (Elt F)) :
    (after opsC2 V) (Proc.devRef .tc main_v49) = refC2 (V (Proc.devRef .tc main_v24)) (V (Proc.devRef .tc main_arg3)) (V (Proc.devRef .tc main_arg4)) := by
  simp only [opsC2, TRef.binary, TRef.nullary, TRef.unary, TRef.ternary, TRef.quaternary, TRef.toBuf, TRef.ofBuf, cast_eq]
  after_results_simp
  rfl

set_option maxHeartbeats 4000000 in
/-- Stage C3 leaves `refC3` of its inputs. -/
theorem after_C3 (V : Valuation τ sig (Elt F)) :
    (after opsC3b (after opsC3a V)) (Proc.devRef .tc main_v71) = refC3 (V (Proc.devRef .tc main_v49)) (V (Proc.devRef .tc main_arg5)) (V (Proc.devRef .tc main_arg6)) := by
  simp only [opsC3a, opsC3b, TRef.binary, TRef.nullary, TRef.unary, TRef.ternary, TRef.quaternary, TRef.toBuf, TRef.ofBuf, cast_eq]
  after_results_simp
  rfl

set_option maxHeartbeats 4000000 in
/-- Stage D leaves `refD` of its inputs. -/
theorem after_D (V : Valuation τ sig (Elt F)) :
    (after opsD V) (Proc.devRef .tc main_v85) = refD (V (Proc.devRef .tc main_v71)) (V (Proc.devRef .tc main_arg7)) := by
  simp only [opsD, TRef.binary, TRef.nullary, TRef.unary, TRef.ternary, TRef.quaternary, TRef.toBuf, TRef.ofBuf, cast_eq]
  after_results_simp
  rfl

set_option maxHeartbeats 4000000 in
/-- Stage A leaves `refA` of its inputs. -/
theorem after_A (V : Valuation τ sig (Elt F)) :
    (after opsA V) (Proc.devRef .tc main_v86) = refA (V (Proc.devRef .tc main_v85)) := by
  simp only [opsA, TRef.binary, TRef.nullary, TRef.unary, TRef.ternary, TRef.quaternary, TRef.toBuf, TRef.ofBuf, cast_eq]
  after_results_simp
  rfl

set_option maxHeartbeats 4000000 in
/-- Stage Q leaves `refQ` of its inputs. -/
theorem after_Q (V : Valuation τ sig (Elt F)) :
    (after opsQ V) (Proc.devRef .tc main_v91) = refQ (V (Proc.devRef .tc main_v71)) (V (Proc.devRef .tc main_arg7)) (V (Proc.devRef .tc main_v86)) := by
  simp only [opsQ, TRef.binary, TRef.nullary, TRef.unary, TRef.ternary, TRef.quaternary, TRef.toBuf, TRef.ofBuf, cast_eq]
  after_results_simp
  rfl

set_option maxHeartbeats 4000000 in
/-- Stage T1 leaves `refT1` of its inputs. -/
theorem after_T1 (V : Valuation τ sig (Elt F)) :
    (after opsT1b (after opsT1a V)) (Proc.devRef .tc main_v115) = refT1 (V (Proc.devRef .tc main_v91)) (V (Proc.devRef .tc main_arg8)) (V (Proc.devRef .tc main_arg9)) := by
  simp only [opsT1a, opsT1b, TRef.binary, TRef.nullary, TRef.unary, TRef.ternary, TRef.quaternary, TRef.toBuf, TRef.ofBuf, cast_eq]
  after_results_simp
  rfl

set_option maxHeartbeats 4000000 in
/-- Stage T2 leaves `refT2` of its inputs. -/
theorem after_T2 (V : Valuation τ sig (Elt F)) :
    (after opsT2 V) (Proc.devRef .tc main_v143) = refT2 (V (Proc.devRef .tc main_v115)) (V (Proc.devRef .tc main_arg10)) (V (Proc.devRef .tc main_arg11)) := by
  simp only [opsT2, TRef.binary, TRef.nullary, TRef.unary, TRef.ternary, TRef.quaternary, TRef.toBuf, TRef.ofBuf, cast_eq]
  after_results_simp
  rfl

set_option maxHeartbeats 4000000 in
/-- Stage T3 leaves `refT3` of its inputs. -/
theorem after_T3 (V : Valuation τ sig (Elt F)) :
    (after opsT3b (after opsT3a V)) (Proc.devRef .tc main_v171) = refT3 (V (Proc.devRef .tc main_v143)) (V (Proc.devRef .tc main_arg12)) (V (Proc.devRef .tc main_arg13)) := by
  simp only [opsT3a, opsT3b, TRef.binary, TRef.nullary, TRef.unary, TRef.ternary, TRef.quaternary, TRef.toBuf, TRef.ofBuf, cast_eq]
  after_results_simp
  rfl

end Cert.ReferenceIdeal.Hand

end
-- ==== Proof.RefRun.lean ====
module

public import proofs.«01_k».proof.Proof.RefStages

/-! The reference program's run: what its result buffer holds at the end, and that its arguments are unchanged. -/

@[expose] public section

set_option maxRecDepth 16384
set_option Elab.async false

noncomputable section

namespace Cert.ReferenceIdeal.Hand

open Cert.ReferenceIdeal Cert.ReferenceIdeal.Gen Idealize.ShloMosaic Idealize.ShloMosaic.TcCoe Idealize.SL.Sem
  Idealize.ShloMosaic.StableHlo

variable {F : FTy → Type} [FloatOps F]

/-- What the run rule asks of a list of operations that write the buffers `W`: they name only the core's buffers, allocate nothing, and
    write nothing else. -/
structure Plain (l : List (HloOp τ sig (Elt F))) (W : List (Ref sig .tc)) : Prop where
  sub : l.Forall fun op => op.bufs ⊆ tcRefs τ sig
  fresh : l.Forall fun op => op.fresh = ∅
  writes : l.Forall fun op => op.writes ⊆ (W.map (Proc.devRef (τ := τ) .tc)).toFinset

/-- A list of such operations keeps a buffer it does not write. -/
theorem Plain.keep {l : List (HloOp τ sig (Elt F))} {W : List (Ref sig .tc)} (h : Plain l W) (V : Valuation τ sig (Elt F))
    (r : Ref sig .tc) (hr : r ∉ W) : after l V (Proc.devRef .tc r) = V (Proc.devRef .tc r) :=
  after_of_writes_sub l _ h.writes hr

/-- Two such lists one after the other. -/
theorem Plain.append {l l' : List (HloOp τ sig (Elt F))} {W W' : List (Ref sig .tc)} (h : Plain l W) (h' : Plain l' W') :
    Plain (l ++ l') (W ++ W') where
  sub := List.forall_iff_forall_mem.mpr fun op ho => (List.mem_append.mp ho).elim
    (List.forall_iff_forall_mem.mp h.sub op) (List.forall_iff_forall_mem.mp h'.sub op)
  fresh := List.forall_iff_forall_mem.mpr fun op ho => (List.mem_append.mp ho).elim
    (List.forall_iff_forall_mem.mp h.fresh op) (List.forall_iff_forall_mem.mp h'.fresh op)
  writes := List.forall_iff_forall_mem.mpr fun op ho => (List.mem_append.mp ho).elim
    (fun k => (List.forall_iff_forall_mem.mp h.writes op k).trans (by
      intro x; simp only [List.mem_toFinset, List.map_append, List.mem_append]; exact Or.inl))
    (fun k => (List.forall_iff_forall_mem.mp h'.writes op k).trans (by
      intro x; simp only [List.mem_toFinset, List.map_append, List.mem_append]; exact Or.inr))

/-- Stage C1's operations are plain. -/
theorem plainC1 : Plain (F := F) opsC1 bufsC1 where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage C2's operations are plain. -/
theorem plainC2 : Plain (F := F) opsC2 bufsC2 where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage C3a's operations are plain. -/
theorem plainC3a : Plain (F := F) opsC3a bufsC3a where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage C3b's operations are plain. -/
theorem plainC3b : Plain (F := F) opsC3b bufsC3b where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage D's operations are plain. -/
theorem plainD : Plain (F := F) opsD bufsD where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage A's operations are plain. -/
theorem plainA : Plain (F := F) opsA bufsA where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage Q's operations are plain. -/
theorem plainQ : Plain (F := F) opsQ bufsQ where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage T1a's operations are plain. -/
theorem plainT1a : Plain (F := F) opsT1a bufsT1a where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage T1b's operations are plain. -/
theorem plainT1b : Plain (F := F) opsT1b bufsT1b where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage T2's operations are plain. -/
theorem plainT2 : Plain (F := F) opsT2 bufsT2 where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage T3a's operations are plain. -/
theorem plainT3a : Plain (F := F) opsT3a bufsT3a where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- Stage T3b's operations are plain. -/
theorem plainT3b : Plain (F := F) opsT3b bufsT3b where
  sub := by
    simp only [List.Forall, nullary_bufs_sub, unary_bufs_sub, binary_bufs_sub, ternary_bufs_sub, quaternary_bufs_sub, reshape_bufs_sub,
      nary_bufs_sub, TRef.nullary, TRef.unary, TRef.binary, TRef.ternary, TRef.quaternary, and_self]
  fresh := by simp only [List.Forall]; repeat' constructor
  writes := by
    simp only [List.Forall, TRef.nullary, TRef.unary, TRef.binary, TRef.ternary, TRef.quaternary, nullary_writes, unary_writes,
      binary_writes, ternary_writes, quaternary_writes, reshape_writes, nary_writes, Finset.singleton_subset_iff, List.mem_toFinset]
    repeat' apply And.intro
    all_goals exact List.mem_map_of_mem (by decide)

/-- The whole program's operations are plain. -/
theorem plain_ops : Plain (F := F) ops ((bufsC1 ++ (bufsC2 ++ bufsC3a)) ++
    ((bufsC3b ++ (bufsD ++ (bufsA ++ (bufsQ ++ bufsT1a)))) ++ ((bufsT1b ++ (bufsT2 ++ bufsT3a)) ++ bufsT3b))) :=
  (plainC1.append (plainC2.append plainC3a)).append
    ((plainC3b.append (plainD.append (plainA.append (plainQ.append plainT1a)))).append
      ((plainT1b.append (plainT2.append plainT3a)).append plainT3b))

/-- The reference's result as one term of its fourteen arguments. -/
def refAll (a0 : FVec F S8x3x224x224 .f32) (a1 : FVec F S32x3x4x4 .f32) (a2 : FVec F S32 .f32) (a3 : FVec F S64x32x4x4 .f32)
    (a4 : FVec F S64 .f32) (a5 : FVec F S64x64x3x3 .f32) (a6 : FVec F S64 .f32) (a7 : FVec F S1024x64 .f32)
    (a8 : FVec F S64x64x3x3 .f32) (a9 : FVec F S64 .f32) (a10 : FVec F S64x32x4x4 .f32) (a11 : FVec F S32 .f32)
    (a12 : FVec F S32x3x4x4 .f32) (a13 : FVec F S3 .f32) : FVec F S8x3x112x2x224 .f32 :=
  let z := refC3 (refC2 (refC1 a0 a1 a2) a3 a4) a5 a6
  refT3 (refT2 (refT1 (refQ z a7 (refA (refD z a7))) a8 a9) a10 a11) a12 a13

/-- The operations leave the reference's term in the result buffer. -/
theorem after_result (V : Valuation τ sig (Elt F)) :
    after ops V (Proc.devRef .tc main_v171)
      = refAll (V (Proc.devRef .tc main_arg0)) (V (Proc.devRef .tc main_arg1)) (V (Proc.devRef .tc main_arg2))
          (V (Proc.devRef .tc main_arg3)) (V (Proc.devRef .tc main_arg4)) (V (Proc.devRef .tc main_arg5))
          (V (Proc.devRef .tc main_arg6)) (V (Proc.devRef .tc main_arg7)) (V (Proc.devRef .tc main_arg8))
          (V (Proc.devRef .tc main_arg9)) (V (Proc.devRef .tc main_arg10)) (V (Proc.devRef .tc main_arg11))
          (V (Proc.devRef .tc main_arg12)) (V (Proc.devRef .tc main_arg13)) := by
  have h (W : Valuation τ sig (Elt F)) :
      after ops W = after opsT3b (after opsT3a (after opsT2 (after opsT1b (after opsT1a (after opsQ (after opsA (after opsD
        (after opsC3b (after opsC3a (after opsC2 (after opsC1 W))))))))))) := by
    simp only [ops, after_append]
  rw [h, after_T3, plainT2.keep _ main_arg12 (by decide), plainT2.keep _ main_arg13 (by decide), after_T2,
    after_T1]
  have k1 (W : Valuation τ sig (Elt F)) (r : Ref sig .tc) (hb : r ∉ bufsT1b) (ha : r ∉ bufsT1a) :
      after opsT1b (after opsT1a W) (Proc.devRef .tc r) = W (Proc.devRef .tc r) :=
    (plainT1b.keep _ r hb).trans (plainT1a.keep _ r ha)
  have k3 (W : Valuation τ sig (Elt F)) (r : Ref sig .tc) (hb : r ∉ bufsC3b) (ha : r ∉ bufsC3a) :
      after opsC3b (after opsC3a W) (Proc.devRef .tc r) = W (Proc.devRef .tc r) :=
    (plainC3b.keep _ r hb).trans (plainC3a.keep _ r ha)
  have kq (W : Valuation τ sig (Elt F)) (r : Ref sig .tc) (h1 : r ∉ bufsQ) (h2 : r ∉ bufsA) (h3 : r ∉ bufsD)
      (h4 : r ∉ bufsC3b) (h5 : r ∉ bufsC3a) (h6 : r ∉ bufsC2) (h7 : r ∉ bufsC1) :
      after opsQ (after opsA (after opsD (after opsC3b (after opsC3a (after opsC2 (after opsC1 W))))))
        (Proc.devRef .tc r) = W (Proc.devRef .tc r) :=
    (plainQ.keep _ r h1).trans <| (plainA.keep _ r h2).trans <| (plainD.keep _ r h3).trans <| (k3 _ r h4 h5).trans <|
      (plainC2.keep _ r h6).trans (plainC1.keep _ r h7)
  rw [k1 _ main_arg10 (by decide) (by decide), k1 _ main_arg11 (by decide) (by decide), k1 _ main_arg12 (by decide) (by decide),
    k1 _ main_arg13 (by decide) (by decide)]
  rw [kq _ main_arg8 (by decide) (by decide) (by decide) (by decide) (by decide) (by decide) (by decide),
    kq _ main_arg9 (by decide) (by decide) (by decide) (by decide) (by decide) (by decide) (by decide),
    kq _ main_arg10 (by decide) (by decide) (by decide) (by decide) (by decide) (by decide) (by decide),
    kq _ main_arg11 (by decide) (by decide) (by decide) (by decide) (by decide) (by decide) (by decide),
    kq _ main_arg12 (by decide) (by decide) (by decide) (by decide) (by decide) (by decide) (by decide),
    kq _ main_arg13 (by decide) (by decide) (by decide) (by decide) (by decide) (by decide) (by decide)]
  rw [after_Q, after_A, plainA.keep _ main_v71 (by decide), plainA.keep _ main_arg7 (by decide), after_D,
    plainD.keep _ main_v71 (by decide), plainD.keep _ main_arg7 (by decide), after_C3, k3 _ main_arg7 (by decide) (by decide),
    after_C2, plainC2.keep _ main_arg5 (by decide), plainC2.keep _ main_arg6 (by decide), plainC2.keep _ main_arg7 (by decide),
    after_C1, plainC1.keep _ main_arg3 (by decide), plainC1.keep _ main_arg4 (by decide), plainC1.keep _ main_arg5 (by decide),
    plainC1.keep _ main_arg6 (by decide), plainC1.keep _ main_arg7 (by decide)]
  rfl

/-- The arguments' buffers. -/
abbrev argBufs : List (Ref sig .tc) :=
  [main_arg0, main_arg1, main_arg2, main_arg3, main_arg4, main_arg5, main_arg6, main_arg7, main_arg8, main_arg9, main_arg10, main_arg11,
    main_arg12, main_arg13]

/-- The operations write none of the arguments. -/
theorem after_arg (V : Valuation τ sig (Elt F)) (r : Ref sig .tc) (hr : r ∈ argBufs) :
    after ops V (Proc.devRef .tc r) = V (Proc.devRef .tc r) :=
  plain_ops.keep V r (by revert r; decide)

/-- Every fair execution of the reference ends with its result at the term of the launch contents and with the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v171) = refAll (m ((c.tc : Thread nD τ).loc main_arg0))
          (m ((c.tc : Thread nD τ).loc main_arg1)) (m ((c.tc : Thread nD τ).loc main_arg2))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
          (m ((c.tc : Thread nD τ).loc main_arg9)) (m ((c.tc : Thread nD τ).loc main_arg10))
          (m ((c.tc : Thread nD τ).loc main_arg11)) (m ((c.tc : Thread nD τ).loc main_arg12))
          (m ((c.tc : Thread nD τ).loc main_arg13))
      ∧ ∀ b ∈ argBufs, r.2.mem ((c.tc : Thread nD τ).loc b) = m ((c.tc : Thread nD τ).loc b) :=
  (θ_run defs _ _).mono (fun _ h c => ⟨(h c main_v171).trans (after_result (launchContents m c)),
      fun b hb => (h c b).trans (after_arg (launchContents m c) b hb)⟩)
    (run_seq scopedRefs_eq scopedSems_eq defs main (fun _ => ops) main_eq (fun _ => plain_ops.sub) m ρ
      fun _ => List.forall_iff_forall_mem.mp plain_ops.fresh)

end Cert.ReferenceIdeal.Hand

end
-- ==== Proof.Frames.lean ====
module

public import proofs.«01_k».proof.Pre_finite_inputs
public import proofs.«01_k».proof.Proof.RefRun
public import Idealize.ShloMosaic.Lib.Quiescent
public import Idealize.ShloMosaic.PureOps.Ideal

/-! The reference's frame, and the facts of the precondition. -/

@[expose] public section
noncomputable section
namespace Cert.Proof
open Idealize.ShloMosaic Idealize.SL.Sem

/-- The shapes of the precondition's operations fit. -/
theorem preFacts : Cert.Pre_finite_inputs.Facts where
  bcast_S_S8x3x224x224 := by decide
  bcast_S_S32x3x4x4 := by decide
  bcast_S_S32 := by decide
  bcast_S_S64x32x4x4 := by decide
  bcast_S_S64 := by decide
  bcast_S_S64x64x3x3 := by decide

open Cert.ReferenceIdeal in
/-- The reference runs, leaves its arguments unchanged and every counter at zero. -/
theorem frameRef (m : (ℓ : Loc nD τ sig) → Buf (Elt Ideal) ℓ) (ρ : Dev nD → PrngReg) :
    θ_run (defs (F := Ideal)) (onTc (τ := τ) (main (F := Ideal))) ⟨m, fun _ => 0, ρ⟩ fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0 :=
  (θ_run defs _ _).mono (fun r h => ⟨fun c => by
      have k := (h c).2
      refine ⟨?_, ?_, ?_, ?_, ?_, ?_, ?_, ?_, ?_, ?_, ?_, ?_, ?_, ?_⟩ <;> exact k _ (by decide),
    sem_eq_zero_of_no_sems (by decide) r.2⟩) (Cert.ReferenceIdeal.Hand.run (F := Ideal) m ρ)

end Cert.Proof
end
-- ==== Proof.Model.lean ====
module

public import Idealize.ShloMosaic.PureOps.Ideal.Laws
public import Mathlib.Algebra.BigOperators.Fin

/-! The convolutions of the network over extended reals, with images and weights read at natural numbers: the sums as the reference writes
    them (`conv`, `convT`), and the orders in which the kernel adds the same products. -/

@[expose] public section

noncomputable section

namespace Cert.Model

open Finset

/-- An image (channel, row, column) with a border of `p` zeros around its `H` rows and `H` columns. -/
def border (p H : ℕ) (img : ℕ → ℕ → ℕ → EReal) (c y x : ℕ) : EReal :=
  if (p ≤ y ∧ y < p + H) ∧ (p ≤ x ∧ x < p + H) then img c (y - p) (x - p) else 0

/-- A convolution with `C` input channels, a `K × K` window and stride `s` of a bordered image. -/
def conv (C K s : ℕ) (P : ℕ → ℕ → ℕ → EReal) (w : ℕ → ℕ → ℕ → ℕ → EReal) (o y x : ℕ) : EReal :=
  ∑ c ∈ range C, ∑ u ∈ range K, ∑ v ∈ range K, P c (s * y + u) (s * x + v) * w o c u v

/-- The convolution as one sum over the triples (channel, row tap, column tap). -/
theorem conv_eq_prod (C K s : ℕ) (P : ℕ → ℕ → ℕ → EReal) (w : ℕ → ℕ → ℕ → ℕ → EReal) (o y x : ℕ) :
    conv C K s P w o y x
      = ∑ t ∈ range C ×ˢ (range K ×ˢ range K), P t.1 (s * y + t.2.1) (s * x + t.2.2) * w o t.1 t.2.1 t.2.2 := by
  simp only [conv, sum_product]

/-- The products in the order "taps outside, channels inside", counted by one number. -/
theorem conv_flat (C K s : ℕ) (hC : 0 < C) (hK : 0 < K) (P : ℕ → ℕ → ℕ → EReal) (w : ℕ → ℕ → ℕ → ℕ → EReal) (o y x : ℕ) :
    ∑ k ∈ range (K * K * C), P (k % C) (s * y + k / C / K) (s * x + k / C % K) * w o (k % C) (k / C / K) (k / C % K)
      = conv C K s P w o y x := by
  rw [conv_eq_prod]
  refine sum_nbij' (fun k => (k % C, k / C / K, k / C % K)) (fun t => (t.2.1 * K + t.2.2) * C + t.1) ?_ ?_ ?_ ?_ ?_
  · intro k hk
    have hk : k < K * K * C := by simpa using hk
    simp only [mem_product, mem_range]
    refine ⟨Nat.mod_lt _ hC, ?_, Nat.mod_lt _ hK⟩
    rw [Nat.div_lt_iff_lt_mul hK, Nat.div_lt_iff_lt_mul hC]; exact hk
  · rintro ⟨c, u, v⟩ h
    simp only [mem_product, mem_range] at h ⊢
    obtain ⟨hc, hu, hv⟩ := h
    have h1 : u * K + v + 1 ≤ K * K := by nlinarith
    nlinarith
  · intro k _
    simp only
    rw [mul_comm (k / C / K), Nat.div_add_mod, mul_comm, Nat.div_add_mod]
  · rintro ⟨c, u, v⟩ h
    simp only [mem_product, mem_range] at h
    obtain ⟨hc, hu, hv⟩ := h
    have e1 : ((u * K + v) * C + c) / C = u * K + v := by
      rw [add_comm, Nat.add_mul_div_right _ _ hC, Nat.div_eq_of_lt hc, zero_add]
    have e2 : ((u * K + v) * C + c) % C = c := by
      rw [add_comm, Nat.add_mul_mod_self_right, Nat.mod_eq_of_lt hc]
    have e3 : (u * K + v) / K = u := by
      rw [add_comm, Nat.add_mul_div_right _ _ hK, Nat.div_eq_of_lt hv, zero_add]
    have e4 : (u * K + v) % K = v := by
      rw [add_comm, Nat.add_mul_mod_self_right, Nat.mod_eq_of_lt hv]
    simp only [e1, e2, e3, e4]
  · intro k _; rfl

/-- The first convolution over the space-to-depth image: a `2 × 2` window of twelve channels (row parity, column parity, channel). -/
theorem conv_s2d (P : ℕ → ℕ → ℕ → EReal) (w : ℕ → ℕ → ℕ → ℕ → EReal) (o y x : ℕ) :
    ∑ k ∈ range 48, P (k % 12 % 3) (2 * (y + k / 24) + k % 12 / 6) (2 * (x + k / 12 % 2) + k % 12 / 3 % 2)
        * w o (k % 3) (2 * (k / 24) + k / 6 % 2) (2 * (k / 12 % 2) + k / 3 % 2)
      = conv 3 4 2 P w o y x := by
  rw [conv_eq_prod]
  refine sum_nbij' (fun k => (k % 3, 2 * (k / 24) + k / 6 % 2, 2 * (k / 12 % 2) + k / 3 % 2))
    (fun t => (((t.2.1 / 2 * 2 + t.2.2 / 2) * 2 + t.2.1 % 2) * 2 + t.2.2 % 2) * 3 + t.1) ?_ ?_ ?_ ?_ ?_
  · intro k hk
    simp only [mem_product, mem_range] at hk ⊢
    omega
  · rintro ⟨c, u, v⟩ h
    simp only [mem_product, mem_range] at h ⊢
    omega
  · intro k hk
    simp only [mem_range] at hk ⊢
    omega
  · rintro ⟨c, u, v⟩ h
    simp only [mem_product, mem_range, Prod.mk.injEq] at h ⊢
    omega
  · intro k hk
    simp only [mem_range] at hk
    have e1 : k % 12 % 3 = k % 3 := by omega
    have e2 : 2 * (y + k / 24) + k % 12 / 6 = 2 * y + (2 * (k / 24) + k / 6 % 2) := by omega
    have e3 : 2 * (x + k / 12 % 2) + k % 12 / 3 % 2 = 2 * x + (2 * (k / 12 % 2) + k / 3 % 2) := by omega
    rw [e1, e2, e3]

/-- An image with zeros between its rows and between its columns, and a border of two: what a transposed convolution of stride two reads.
    `P` is the image with a border of one. -/
def dilate (P : ℕ → ℕ → ℕ → EReal) (c y x : ℕ) : EReal :=
  if y % 2 = 0 ∧ x % 2 = 0 then P c (y / 2) (x / 2) else 0

/-- A transposed convolution of stride two with a `4 × 4` window: a plain convolution of the dilated image. -/
def convT (C : ℕ) (P : ℕ → ℕ → ℕ → EReal) (w : ℕ → ℕ → ℕ → ℕ → EReal) (o y x : ℕ) : EReal :=
  conv C 4 1 (dilate P) w o y x

/-- The weights of the four output phases side by side: tap `(t, u)` of the `3 × 3` window, phase `(r, s)`. -/
def comb (w : ℕ → ℕ → ℕ → ℕ → EReal) (r s o c t u : ℕ) : EReal :=
  if (r ≤ t ∧ t ≤ r + 1) ∧ (s ≤ u ∧ u ≤ s + 1) then w o c (2 * t - r) (2 * u - s) else 0

/-- Two of four taps meet a row that is not a dilation zero. -/
theorem taps_even (r : ℕ) (hr : r < 2) (a : ℕ) (f : ℕ → ℕ → EReal) :
    ∑ k ∈ range 4, (if (2 * a + r + k) % 2 = 0 then f ((2 * a + r + k) / 2) k else 0)
      = ∑ t ∈ range 3, (if r ≤ t ∧ t ≤ r + 1 then f (a + t) (2 * t - r) else 0) := by
  obtain rfl | rfl : r = 0 ∨ r = 1 := by omega
  · have h0 : (2 * a + 0 + 0) % 2 = 0 := by omega
    have h1 : ¬ (2 * a + 0 + 1) % 2 = 0 := by omega
    have h2 : (2 * a + 0 + 2) % 2 = 0 := by omega
    have h3 : ¬ (2 * a + 0 + 3) % 2 = 0 := by omega
    have e0 : (2 * a + 0 + 0) / 2 = a + 0 := by omega
    have e2 : (2 * a + 0 + 2) / 2 = a + 1 := by omega
    simp only [sum_range_succ, sum_range_zero, if_pos h0, if_neg h1, if_pos h2, if_neg h3, e0, e2]
    simp
  · have h0 : ¬ (2 * a + 1 + 0) % 2 = 0 := by omega
    have h1 : (2 * a + 1 + 1) % 2 = 0 := by omega
    have h2 : ¬ (2 * a + 1 + 2) % 2 = 0 := by omega
    have h3 : (2 * a + 1 + 3) % 2 = 0 := by omega
    have e0 : (2 * a + 1 + 1) / 2 = a + 1 := by omega
    have e2 : (2 * a + 1 + 3) / 2 = a + 2 := by omega
    simp only [sum_range_succ, sum_range_zero, if_neg h0, if_pos h1, if_neg h2, if_pos h3, e0, e2]
    simp

/-- A transposed convolution at a pixel of phase `(r, s)` is the `3 × 3` convolution with that phase's weights. -/
theorem conv_comb (C : ℕ) (P : ℕ → ℕ → ℕ → EReal) (w : ℕ → ℕ → ℕ → ℕ → EReal) (o y x r s : ℕ) (hr : r < 2) (hs : s < 2) :
    conv C 3 1 P (fun o c t u => comb w r s o c t u) o y x = convT C P w o (2 * y + r) (2 * x + s) := by
  refine sum_congr rfl fun c _ => ?_
  have hin (a k b l : ℕ) : dilate P c (1 * a + k) (1 * b + l) * w o c k l
      = if (a + k) % 2 = 0 then (if (b + l) % 2 = 0 then P c ((a + k) / 2) ((b + l) / 2) * w o c k l else 0) else 0 := by
    simp only [dilate, one_mul]
    split_ifs <;> simp_all
  simp only [hin]
  have h1 (k : ℕ) : ∑ l ∈ range 4, (if (2 * y + r + k) % 2 = 0 then
        (if (2 * x + s + l) % 2 = 0 then P c ((2 * y + r + k) / 2) ((2 * x + s + l) / 2) * w o c k l else 0) else 0)
      = if (2 * y + r + k) % 2 = 0 then
        (∑ u ∈ range 3, if s ≤ u ∧ u ≤ s + 1 then P c ((2 * y + r + k) / 2) (x + u) * w o c k (2 * u - s) else 0) else 0 := by
    split_ifs
    · exact taps_even s hs x fun b l => P c ((2 * y + r + k) / 2) b * w o c k l
    · simp
  simp only [h1]
  rw [taps_even r hr y fun a k => ∑ u ∈ range 3, if s ≤ u ∧ u ≤ s + 1 then P c a (x + u) * w o c k (2 * u - s) else 0]
  refine sum_congr rfl fun t _ => ?_
  by_cases ht : r ≤ t ∧ t ≤ r + 1
  · rw [if_pos ht]
    refine sum_congr rfl fun u _ => ?_
    by_cases hu : s ≤ u ∧ u ≤ s + 1
    · rw [if_pos hu, comb, if_pos ⟨ht, hu⟩, one_mul, one_mul]
    · rw [if_neg hu, comb, if_neg (fun h => hu h.2), mul_zero]
  · rw [if_neg ht]
    refine sum_eq_zero fun u _ => ?_
    rw [comb, if_neg (fun h => ht h.1), mul_zero]

/-- A convolution depends on the image only where its window reads. -/
theorem conv_congr (C K s : ℕ) {P P' : ℕ → ℕ → ℕ → EReal} {w w' : ℕ → ℕ → ℕ → ℕ → EReal} (o y x : ℕ)
    (h : ∀ c < C, ∀ u < K, ∀ v < K, P c (s * y + u) (s * x + v) * w o c u v = P' c (s * y + u) (s * x + v) * w' o c u v) :
    conv C K s P w o y x = conv C K s P' w' o y x :=
  sum_congr rfl fun c hc => sum_congr rfl fun u hu => sum_congr rfl fun v hv =>
    h c (mem_range.mp hc) u (mem_range.mp hu) v (mem_range.mp hv)

end Cert.Model

end
-- ==== Proof.KDefs.lean ====
module

public import proofs.«01_k».proof.Proof.Model
public import proofs.«01_k».proof.Proof.Gen.KernelIdeal.Frame
public import Idealize.ShloMosaic.Lib.Pointwise
public import Idealize.ShloMosaic.Lib.Pipeline.ValueKit

/-! The stages of the kernel's body as functions of arrays, and each generated payload as a composition of them. -/

@[expose] public section
set_option maxRecDepth 16384
noncomputable section
namespace Cert.KernelIdeal.Hand
open Cert.KernelIdeal Cert.KernelIdeal.Gen Idealize.ShloMosaic

/-- Sixteen tap images side by side along the channel axis. -/
def cat16 (v : Fin 16 → FVec Ideal S56x56x32 .f32) : FVec Ideal S56x56x512 .f32 :=
  concatenate S56x56x512 2 (List.ofFn fun n => ⟨S56x56x32, v n⟩)
    concatenates_S56x56x32_S56x56x32_S56x56x32_S56x56x32_S56x56x32_S56x56x32_S56x56x32_S56x56x32_S56x56x32_S56x56x32_S56x56x32_S56x56x32_S56x56x32_S56x56x32_S56x56x32_S56x56x32_S56x56x512_d2

/-- The nine windows of a 58 × 58 image fit in it. -/
theorem fits9 (n : Fin 9) : S58x58x64.Slices ![n.val / 3, n.val % 3, 0] S56x56x64 := by revert n; decide

/-- The nine 3 × 3 tap images of a bordered 56 × 56 image. -/
def cat9 (X : FVec Ideal S58x58x64 .f32) : FVec Ideal S56x56x576 .f32 :=
  concatenate S56x56x576 2 (List.ofFn fun n : Fin 9 => ⟨S56x56x64, extractStridedSlice S56x56x64 ![n.val / 3, n.val % 3, 0] X (fits9 n)⟩)
    concatenates_S56x56x64_S56x56x64_S56x56x64_S56x56x64_S56x56x64_S56x56x64_S56x56x64_S56x56x64_S56x56x64_S56x56x576_d2

/-- The nine windows of a 58 × 114 image fit in it. -/
theorem fits9w (n : Fin 9) : S58x114x32.Slices ![n.val / 3, n.val % 3, 0] S56x112x32 := by revert n; decide

/-- The nine 3 × 3 tap images of half of the bordered 112 × 112 image. -/
def cat9w (X : FVec Ideal S58x114x32 .f32) : FVec Ideal S56x112x288 .f32 :=
  concatenate S56x112x288 2 (List.ofFn fun n : Fin 9 => ⟨S56x112x32, extractStridedSlice S56x112x32 ![n.val / 3, n.val % 3, 0] X (fits9w n)⟩)
    concatenates_S56x112x32_S56x112x32_S56x112x32_S56x112x32_S56x112x32_S56x112x32_S56x112x32_S56x112x32_S56x112x32_S56x112x288_d2

/-- A product with a 512-row weight matrix, plus a bias, clipped at zero. -/
def lin512 (X : FVec Ideal S56x56x512 .f32) (w : FVec Ideal S512x64 .f32) (b : FVec Ideal S1x64 .f32) : FVec Ideal S56x56x64 .f32 :=
  shapeCast S56x56x64 (maximumf (addf (matmul dot_S3136x512_S512x64_S3136x64_1_0_0_1_n_n none (shapeCast S3136x512 X shapeCasts_S56x56x512_S3136x512)
    (shapeCast S512x64 w shapeCasts_S512x64_S512x64) (constant S3136x64 .f32 0x00000000#32))
    (broadcastTo S3136x64 (shapeCast S1x64 b shapeCasts_S1x64_S1x64) broadcasts_S1x64_S3136x64))
    (broadcast S3136x64 (Scalar.ofBits .f32 0x00000000#32))) shapeCasts_S3136x64_S56x56x64

/-- A product with a 576-row weight matrix plus a bias. -/
def lin576 (X : FVec Ideal S56x56x576 .f32) (w : FVec Ideal S576x64 .f32) (b : FVec Ideal S1x64 .f32) : FVec Ideal S3136x64 .f32 :=
  addf (matmul dot_S3136x576_S576x64_S3136x64_1_0_0_1_n_n none (shapeCast S3136x576 X shapeCasts_S56x56x576_S3136x576)
    (shapeCast S576x64 w shapeCasts_S576x64_S576x64) (constant S3136x64 .f32 0x00000000#32))
    (broadcastTo S3136x64 (shapeCast S1x64 b shapeCasts_S1x64_S1x64) broadcasts_S1x64_S3136x64)

/-- A 3136-row matrix clipped at zero and read as a 56 × 56 image. -/
def relu56 (a : FVec Ideal S3136x64 .f32) : FVec Ideal S56x56x64 .f32 :=
  shapeCast S56x56x64 (maximumf a (broadcast S3136x64 (Scalar.ofBits .f32 0x00000000#32))) shapeCasts_S3136x64_S56x56x64

/-- A product with the 128-lane matrix of the four phases plus its bias. -/
def lin128 (X : FVec Ideal S56x56x576 .f32) (w : FVec Ideal S576x128 .f32) (b : FVec Ideal S1x128 .f32) : FVec Ideal S3136x128 .f32 :=
  addf (matmul dot_S3136x576_S576x128_S3136x128_1_0_0_1_n_n none (shapeCast S3136x576 X shapeCasts_S56x56x576_S3136x576)
    (shapeCast S576x128 w shapeCasts_S576x128_S576x128) (constant S3136x128 .f32 0x00000000#32))
    (broadcastTo S3136x128 (shapeCast S1x128 b shapeCasts_S1x128_S1x128) broadcasts_S1x128_S3136x128)

/-- A product with the 32-lane matrix of the four phases of the last layer plus its bias. -/
def lin288 (X : FVec Ideal S56x112x288 .f32) (w : FVec Ideal S288x32 .f32) (b : FVec Ideal S1x32 .f32) : FVec Ideal S56x112x32 .f32 :=
  shapeCast S56x112x32 (addf (matmul dot_S6272x288_S288x32_S6272x32_1_0_0_1_n_n none (shapeCast S6272x288 X shapeCasts_S56x112x288_S6272x288)
    (shapeCast S288x32 w shapeCasts_S288x32_S288x32) (constant S6272x32 .f32 0x00000000#32))
    (broadcastTo S6272x32 (shapeCast S1x32 b shapeCasts_S1x32_S1x32) broadcasts_S1x32_S6272x32)) shapeCasts_S6272x32_S56x112x32

/-- A 56 × 56 image with a border of zeros one pixel wide. -/
def pad58 (X : FVec Ideal S56x56x64 .f32) : FVec Ideal S58x58x64 .f32 :=
  have z : Ideal .f32 := Scalar.sitofp .f32 0#32
  concatenate S58x58x64 1 [⟨S58x57x64, concatenate S58x57x64 1 [⟨S58x1x64, broadcast S58x1x64 z⟩, ⟨S58x56x64,
    concatenate S58x56x64 0 [⟨S57x56x64, concatenate S57x56x64 0 [⟨S1x56x64, broadcast S1x56x64 z⟩, ⟨S56x56x64, X⟩]
      concatenates_S1x56x64_S56x56x64_S57x56x64_d0⟩, ⟨S1x56x64, broadcast S1x56x64 z⟩] concatenates_S57x56x64_S1x56x64_S58x56x64_d0⟩]
    concatenates_S58x1x64_S58x56x64_S58x57x64_d1⟩, ⟨S58x1x64, broadcast S58x1x64 z⟩] concatenates_S58x57x64_S58x1x64_S58x58x64_d1

/-- The distances, up to a term that depends on the row alone, of 392 rows from the codebook's rows. -/
def dist (z : FVec Ideal S392x64 .f32) (cbt : FVec Ideal S64x1024 .f32) (n2 : FVec Ideal S1x1024 .f32) : FVec Ideal S392x1024 .f32 :=
  subf (broadcastTo S392x1024 n2 broadcasts_S1x1024_S392x1024) (mulf (broadcast S392x1024 (Scalar.ofBits .f32 0x40000000#32))
    (matmul dot_S392x64_S64x1024_S392x1024_1_0_0_1_n_n none z cbt (constant S392x1024 .f32 0x00000000#32)))

/-- Where the distance does not exceed the row's least one. -/
def leastMask (d : FVec Ideal S392x1024 .f32) : IVec S392x1024 1 :=
  cmpf .ole d (broadcastTo S392x1024 (shapeCast S392x1 (multiReduction .minimumf [1] S392 d 0x7F800000#32 reduces_S392x1024_S392 (.inl rfl) rfl)
    shapeCasts_S392_S392x1) broadcasts_S392x1_S392x1024)

/-- The column numbers. -/
def cols : IVec S392x1024 32 := iota .tc S392x1024 32 [1] iota_S392x1024_d1_w32

/-- In each row the first column of a mask. -/
def firstCol (m : IVec S392x1024 1) : IVec S392 32 :=
  multiReductionI .minsi [1] S392 (select m cols (broadcast S392x1024 1024#32)) 2147483647#32 reduces_S392x1024_S392 rfl

/-- The rows of the codebook that the given columns name, taken by a product with a matrix of zeros and ones. -/
def pick (i : IVec S392 32) (cb : FVec Ideal S1024x64 .f32) : FVec Ideal S392x64 .f32 :=
  matmul dot_S392x1024_S1024x64_S392x64_1_0_0_1_n_n none
    (sitofp .f32 (extui 32 (cmpi .eq cols (broadcastTo S392x1024 (shapeCast S392x1 i shapeCasts_S392_S392x1) broadcasts_S392x1_S392x1024)) natLt_1_32))
    cb (constant S392x64 .f32 0x00000000#32)

/-- The codebook's nearest rows to 392 rows. -/
def nearest (z : FVec Ideal S392x64 .f32) (cbt : FVec Ideal S64x1024 .f32) (n2 : FVec Ideal S1x1024 .f32) (cb : FVec Ideal S1024x64 .f32) :
    FVec Ideal S392x64 .f32 :=
  pick (firstCol (leastMask (dist z cbt n2))) cb

/-- The eight groups of 392 rows fit in the 3136 rows. -/
theorem fits8 (n : Fin 8) : S3136x64.Slices ![392 * n.val, 0] S392x64 := by revert n; decide

/-- A group of 392 rows. -/
def group (Z : FVec Ideal S3136x64 .f32) (n : Fin 8) : FVec Ideal S392x64 .f32 :=
  extractStridedSlice S392x64 ![392 * n.val, 0] Z (fits8 n)

/-- The quantised image: the nearest rows for all eight groups. -/
def quant (Z : FVec Ideal S3136x64 .f32) (cbt : FVec Ideal S64x1024 .f32) (n2 : FVec Ideal S1x1024 .f32) (cb : FVec Ideal S1024x64 .f32) :
    FVec Ideal S56x56x64 .f32 :=
  shapeCast S56x56x64 (concatenate S3136x64 0 (List.ofFn fun n => ⟨S392x64, nearest (group Z n) cbt n2 cb⟩)
    concatenates_S392x64_S392x64_S392x64_S392x64_S392x64_S392x64_S392x64_S392x64_S3136x64_d0) shapeCasts_S3136x64_S56x56x64

/-- Two 56-lane halves woven together by a gather. -/
def weave (g : IVec S56x128 32) (A : FVec Ideal S56x112 .f32) : FVec Ideal S56x112 .f32 :=
  extractStridedSlice S56x112 ![0, 0] (dynamicGather 1
    (concatenate S56x128 1 [⟨S56x112, A⟩, ⟨S56x16, broadcast S56x16 (Scalar.sitofp .f32 0#32)⟩] concatenates_S56x112_S56x16_S56x128_d1)
    (shapeCast S56x128 (shapeCast S56x128x1 (select (cmpi .slt g (broadcast S56x128 0#32)) (addi g (broadcast S56x128 128#32)) g)
      shapeCasts_S56x128_S56x128x1) shapeCasts_S56x128x1_S56x128)) slices_S56x128_o0_0_S56x112

/-- One lane of the last layer's accumulator as an image. -/
def lane (l : ℕ) (h : S56x112x32.Slices ![0, 0, l] S56x112x1) (a : FVec Ideal S56x112x32 .f32) : FVec Ideal S56x112 .f32 :=
  shapeCast S56x112 (extractStridedSlice S56x112x1 ![0, 0, l] a h) shapeCasts_S56x112x1_S56x112

/-- The left halves of two images side by side. -/
def lefts (a b : FVec Ideal S56x112 .f32) : FVec Ideal S56x112 .f32 :=
  concatenate S56x112 1 [⟨S56x56, extractStridedSlice S56x56 ![0, 0] a slices_S56x112_o0_0_S56x56⟩,
    ⟨S56x56, extractStridedSlice S56x56 ![0, 0] b slices_S56x112_o0_0_S56x56⟩] concatenates_S56x56_S56x56_S56x112_d1

/-- The right halves of two images side by side. -/
def rights (a b : FVec Ideal S56x112 .f32) : FVec Ideal S56x112 .f32 :=
  concatenate S56x112 1 [⟨S56x56, extractStridedSlice S56x56 ![0, 56] a slices_S56x112_o0_56_S56x56⟩,
    ⟨S56x56, extractStridedSlice S56x56 ![0, 56] b slices_S56x112_o0_56_S56x56⟩] concatenates_S56x56_S56x56_S56x112_d1

/-- The columns of two images alternately: every second output row of one channel. -/
def rowsOut (g : IVec S56x128 32) (a b : FVec Ideal S56x112 .f32) : FVec Ideal S1x1x56x1x224 .f32 :=
  shapeCast S1x1x56x1x224 (shapeCast S1x56x1x224 (concatenate S56x224 1 [⟨S56x112, weave g (lefts a b)⟩, ⟨S56x112, weave g (rights a b)⟩]
    concatenates_S56x112_S56x112_S56x224_d1) shapeCasts_S56x224_S1x56x1x224) shapeCasts_S1x56x1x224_S1x1x56x1x224

/-- The second layer's payload. -/
theorem pay8_eq (v : Fin 16 → FVec Ideal S56x56x32 .f32) (w : Vec Ideal S512x64 .f32) (b : Vec Ideal S1x64 .f32) :
    k0_pay8 (F := Ideal) (v 0) (v 1) (v 2) (v 3) (v 4) (v 5) (v 6) (v 7) (v 8) (v 9) (v 10) (v 11) (v 12) (v 13) (v 14) (v 15) w b
      = pad58 (lin512 (cat16 v) w b) := rfl

/-- The payload of the first transposed layer and the second one's product. -/
theorem pay32_eq (Q : FVec Ideal S58x58x64 .f32) (w1 : Vec Ideal S576x64 .f32) (b1 : Vec Ideal S1x64 .f32) (w2 : Vec Ideal S576x128 .f32)
    (b2 : Vec Ideal S1x128 .f32) :
    k0_pay32 (F := Ideal) Q w1 b1 w2 b2 = lin128 (cat9 (pad58 (relu56 (lin576 (cat9 Q) w1 b1)))) w2 b2 := rfl

/-- The payload of the last layer. -/
theorem pay42_eq (X : FVec Ideal S58x114x32 .f32) (w : Vec Ideal S288x32 .f32) (b : Vec Ideal S1x32 .f32) :
    k0_pay42 (F := Ideal) (k0_pay40 X w) (k0_pay41 b) = lin288 (cat9w X) w b := rfl

end Cert.KernelIdeal.Hand
end
-- ==== Proof.KBlock.lean ====
module

public import proofs.«01_k».proof.Proof.KDefs

/-! What one grid point writes, as a list of pieces over the stages of the body. -/

@[expose] public section
set_option maxRecDepth 65536
noncomputable section
namespace Cert.KernelIdeal.Hand
open Cert.KernelIdeal Cert.KernelIdeal.Gen Idealize.ShloMosaic Idealize.SL Idealize.SL.Sem

/-- The writes that put the first layer's image, with its border of zeros, into the scratch array (last first). -/
def firstWrites (h1 : FVec Ideal S112x112x32 .f32) : List (View.Piece (Elt Ideal) S114x114x32 .f32) :=
  [⟨Rect.unit ![1, 113, 0] S112x1x32.size inb_S114x114x32_S112x1x32_1_113_0, k0_pay7 (F := Ideal)⟩,
    ⟨Rect.unit ![1, 0, 0] S112x1x32.size inb_S114x114x32_S112x1x32_1_0_0, k0_pay6 (F := Ideal) (k0_pay5 (F := Ideal))⟩,
    ⟨Rect.unit ![113, 0, 0] S1x114x32.size inb_S114x114x32_S1x114x32_113_0_0, k0_pay4 (F := Ideal)⟩,
    ⟨Rect.unit ![0, 0, 0] S1x114x32.size inb_S114x114x32_S1x114x32_0_0_0, k0_pay3 (F := Ideal)⟩,
    ⟨Rect.unit ![1, 1, 0] S112x112x32.size inb_S114x114x32_S112x112x32_1_1_0, h1⟩]

/-- The writes that put the four phases of the second transposed layer over the scratch array's interior. -/
def phaseWrites (a : FVec Ideal S3136x128 .f32) (h1 : FVec Ideal S112x112x32 .f32) : List (View.Piece (Elt Ideal) S114x114x32 .f32) :=
  ⟨{ off := ![2, 2, 0], size := S56x56x32.size, stride := ![2, 2, 1], inb := inb_S114x114x32_S56x56x32_2_2_0_s_2_2_1, stride_pos := spos_2_2_1 }, k0_pay37 a⟩ ::
  ⟨{ off := ![2, 1, 0], size := S56x56x32.size, stride := ![2, 2, 1], inb := inb_S114x114x32_S56x56x32_2_1_0_s_2_2_1, stride_pos := spos_2_2_1 }, k0_pay36 a⟩ ::
  ⟨{ off := ![1, 2, 0], size := S56x56x32.size, stride := ![2, 2, 1], inb := inb_S114x114x32_S56x56x32_1_2_0_s_2_2_1, stride_pos := spos_2_2_1 }, k0_pay35 a⟩ ::
  ⟨{ off := ![1, 1, 0], size := S56x56x32.size, stride := ![2, 2, 1], inb := inb_S114x114x32_S56x56x32_1_1_0_s_2_2_1, stride_pos := spos_2_2_1 }, k0_pay34 a⟩ ::
  firstWrites h1

/-- The encoder's bordered second image. -/
def enc2 (v : View sig .tc .vmem S114x114x32 .f32) (h1 : FVec Ideal S112x112x32 .f32) (w : Vec Ideal S512x64 .f32) (b : Vec Ideal S1x64 .f32) : FVec Ideal S58x58x64 .f32 :=
  pad58 (lin512 (cat16 ![v.readCov (firstWrites h1) { off := ![0, 0, 0], size := S56x56x32.size, stride := ![2, 2, 1], inb := inb_S114x114x32_S56x56x32_0_0_0_s_2_2_1 }, v.readCov (firstWrites h1) { off := ![0, 1, 0], size := S56x56x32.size, stride := ![2, 2, 1], inb := inb_S114x114x32_S56x56x32_0_1_0_s_2_2_1 }, v.readCov (firstWrites h1) { off := ![0, 2, 0], size := S56x56x32.size, stride := ![2, 2, 1], inb := inb_S114x114x32_S56x56x32_0_2_0_s_2_2_1 }, v.readCov (firstWrites h1) { off := ![0, 3, 0], size := S56x56x32.size, stride := ![2, 2, 1], inb := inb_S114x114x32_S56x56x32_0_3_0_s_2_2_1 }, v.readCov (firstWrites h1) { off := ![1, 0, 0], size := S56x56x32.size, stride := ![2, 2, 1], inb := inb_S114x114x32_S56x56x32_1_0_0_s_2_2_1 }, v.readCov (firstWrites h1) { off := ![1, 1, 0], size := S56x56x32.size, stride := ![2, 2, 1], inb := inb_S114x114x32_S56x56x32_1_1_0_s_2_2_1 }, v.readCov (firstWrites h1) { off := ![1, 2, 0], size := S56x56x32.size, stride := ![2, 2, 1], inb := inb_S114x114x32_S56x56x32_1_2_0_s_2_2_1 }, v.readCov (firstWrites h1) { off := ![1, 3, 0], size := S56x56x32.size, stride := ![2, 2, 1], inb := inb_S114x114x32_S56x56x32_1_3_0_s_2_2_1 }, v.readCov (firstWrites h1) { off := ![2, 0, 0], size := S56x56x32.size, stride := ![2, 2, 1], inb := inb_S114x114x32_S56x56x32_2_0_0_s_2_2_1 }, v.readCov (firstWrites h1) { off := ![2, 1, 0], size := S56x56x32.size, stride := ![2, 2, 1], inb := inb_S114x114x32_S56x56x32_2_1_0_s_2_2_1 }, v.readCov (firstWrites h1) { off := ![2, 2, 0], size := S56x56x32.size, stride := ![2, 2, 1], inb := inb_S114x114x32_S56x56x32_2_2_0_s_2_2_1 }, v.readCov (firstWrites h1) { off := ![2, 3, 0], size := S56x56x32.size, stride := ![2, 2, 1], inb := inb_S114x114x32_S56x56x32_2_3_0_s_2_2_1 }, v.readCov (firstWrites h1) { off := ![3, 0, 0], size := S56x56x32.size, stride := ![2, 2, 1], inb := inb_S114x114x32_S56x56x32_3_0_0_s_2_2_1 }, v.readCov (firstWrites h1) { off := ![3, 1, 0], size := S56x56x32.size, stride := ![2, 2, 1], inb := inb_S114x114x32_S56x56x32_3_1_0_s_2_2_1 }, v.readCov (firstWrites h1) { off := ![3, 2, 0], size := S56x56x32.size, stride := ![2, 2, 1], inb := inb_S114x114x32_S56x56x32_3_2_0_s_2_2_1 }, v.readCov (firstWrites h1) { off := ![3, 3, 0], size := S56x56x32.size, stride := ![2, 2, 1], inb := inb_S114x114x32_S56x56x32_3_3_0_s_2_2_1 }]) w b)

/-- The rows to be quantised. -/
def rowsZ (h2 : FVec Ideal S58x58x64 .f32) (w : Vec Ideal S576x64 .f32) (b : Vec Ideal S1x64 .f32) : FVec Ideal S3136x64 .f32 :=
  shapeCast S3136x64 (shapeCast S56x56x64 (lin576 (cat9 h2) w b) shapeCasts_S3136x64_S56x56x64) shapeCasts_S56x56x64_S3136x64

/-- The four phases of the second transposed layer before clipping. -/
def phases (v : View sig .tc .vmem S114x114x32 .f32) (y0 : Vec Ideal S1x113x113x12 .f32) (y1 : Vec Ideal S48x32 .f32) (y2 : Vec Ideal S1x32 .f32) (y3 : Vec Ideal S512x64 .f32) (y4 : Vec Ideal S1x64 .f32) (y5 : Vec Ideal S576x64 .f32) (y6 : Vec Ideal S1x64 .f32) (y7 : Vec Ideal S64x1024 .f32) (y8 : Vec Ideal S1024x64 .f32) (y9 : Vec Ideal S576x64 .f32) (y10 : Vec Ideal S1x64 .f32) (y11 : Vec Ideal S576x128 .f32) (y12 : Vec Ideal S1x128 .f32) (y13 : Vec Ideal S288x32 .f32) (y14 : Vec Ideal S1x32 .f32) : FVec Ideal S3136x128 .f32 :=
  lin128 (cat9 (pad58 (relu56 (lin576 (cat9 (pad58 (quant (rowsZ (enc2 v (k0_pay2 y0 y1 y2) y3 y4) y5 y6) (k0_pay19 y7) (k0_pay20 y7) y8))) y9 y10)))) y11 y12

/-- The weaving indices. -/
def weaveIdx : IVec S56x128 32 := k0_pay39 (iota .tc S56x128 32 [1] iota_S56x128_d1_w32) k0_pay38 56#32

/-- The upper 58 rows of the scratch array. -/
abbrev topRect : LoadRect S114x114x32 := (Rect.unit (s := S114x114x32) ![0, 0, 0] S58x114x32.size inb_S114x114x32_S58x114x32_0_0_0).toLoadRect

/-- The lower 58 rows of the scratch array. -/
abbrev botRect : LoadRect S114x114x32 := (Rect.unit (s := S114x114x32) ![56, 0, 0] S58x114x32.size inb_S114x114x32_S58x114x32_56_0_0).toLoadRect

/-- The upper half of the last layer's four phases. -/
def lastTop (v : View sig .tc .vmem S114x114x32 .f32) (y0 : Vec Ideal S1x113x113x12 .f32) (y1 : Vec Ideal S48x32 .f32) (y2 : Vec Ideal S1x32 .f32) (y3 : Vec Ideal S512x64 .f32) (y4 : Vec Ideal S1x64 .f32) (y5 : Vec Ideal S576x64 .f32) (y6 : Vec Ideal S1x64 .f32) (y7 : Vec Ideal S64x1024 .f32) (y8 : Vec Ideal S1024x64 .f32) (y9 : Vec Ideal S576x64 .f32) (y10 : Vec Ideal S1x64 .f32) (y11 : Vec Ideal S576x128 .f32) (y12 : Vec Ideal S1x128 .f32) (y13 : Vec Ideal S288x32 .f32) (y14 : Vec Ideal S1x32 .f32) : FVec Ideal S56x112x32 .f32 :=
  lin288 (cat9w (v.readCov (phaseWrites (phases v y0 y1 y2 y3 y4 y5 y6 y7 y8 y9 y10 y11 y12 y13 y14) (k0_pay2 y0 y1 y2)) topRect)) y13 y14

/-- The lower half of the last layer's four phases. -/
def lastBot (v : View sig .tc .vmem S114x114x32 .f32) (y0 : Vec Ideal S1x113x113x12 .f32) (y1 : Vec Ideal S48x32 .f32) (y2 : Vec Ideal S1x32 .f32) (y3 : Vec Ideal S512x64 .f32) (y4 : Vec Ideal S1x64 .f32) (y5 : Vec Ideal S576x64 .f32) (y6 : Vec Ideal S1x64 .f32) (y7 : Vec Ideal S64x1024 .f32) (y8 : Vec Ideal S1024x64 .f32) (y9 : Vec Ideal S576x64 .f32) (y10 : Vec Ideal S1x64 .f32) (y11 : Vec Ideal S576x128 .f32) (y12 : Vec Ideal S1x128 .f32) (y13 : Vec Ideal S288x32 .f32) (y14 : Vec Ideal S1x32 .f32) : FVec Ideal S56x112x32 .f32 :=
  lin288 (cat9w (v.readCov (phaseWrites (phases v y0 y1 y2 y3 y4 y5 y6 y7 y8 y9 y10 y11 y12 y13 y14) (k0_pay2 y0 y1 y2)) botRect)) y13 y14

/-- The twelve writes of the output block from the two halves of the last layer (last first). -/
def outWrites (a0 a1 : FVec Ideal S56x112x32 .f32) : List (View.Piece (Elt Ideal) S1x3x112x2x224 .f32) :=
  [⟨Rect.unit ![0, 2, 56, 1, 0] S1x1x56x1x224.size inb_S1x3x112x2x224_S1x1x56x1x224_0_2_56_1_0, rowsOut weaveIdx (lane 18 slices_S56x112x32_o0_0_18_S56x112x1 a1) (lane 26 slices_S56x112x32_o0_0_26_S56x112x1 a1)⟩,
    ⟨Rect.unit ![0, 1, 56, 1, 0] S1x1x56x1x224.size inb_S1x3x112x2x224_S1x1x56x1x224_0_1_56_1_0, rowsOut weaveIdx (lane 17 slices_S56x112x32_o0_0_17_S56x112x1 a1) (lane 25 slices_S56x112x32_o0_0_25_S56x112x1 a1)⟩,
    ⟨Rect.unit ![0, 0, 56, 1, 0] S1x1x56x1x224.size inb_S1x3x112x2x224_S1x1x56x1x224_0_0_56_1_0, rowsOut weaveIdx (lane 16 slices_S56x112x32_o0_0_16_S56x112x1 a1) (lane 24 slices_S56x112x32_o0_0_24_S56x112x1 a1)⟩,
    ⟨Rect.unit ![0, 2, 56, 0, 0] S1x1x56x1x224.size inb_S1x3x112x2x224_S1x1x56x1x224_0_2_56_0_0, rowsOut weaveIdx (lane 2 slices_S56x112x32_o0_0_2_S56x112x1 a1) (lane 10 slices_S56x112x32_o0_0_10_S56x112x1 a1)⟩,
    ⟨Rect.unit ![0, 1, 56, 0, 0] S1x1x56x1x224.size inb_S1x3x112x2x224_S1x1x56x1x224_0_1_56_0_0, rowsOut weaveIdx (lane 1 slices_S56x112x32_o0_0_1_S56x112x1 a1) (lane 9 slices_S56x112x32_o0_0_9_S56x112x1 a1)⟩,
    ⟨Rect.unit ![0, 0, 56, 0, 0] S1x1x56x1x224.size inb_S1x3x112x2x224_S1x1x56x1x224_0_0_56_0_0, rowsOut weaveIdx (lane 0 slices_S56x112x32_o0_0_0_S56x112x1 a1) (lane 8 slices_S56x112x32_o0_0_8_S56x112x1 a1)⟩,
    ⟨Rect.unit ![0, 2, 0, 1, 0] S1x1x56x1x224.size inb_S1x3x112x2x224_S1x1x56x1x224_0_2_0_1_0, rowsOut weaveIdx (lane 18 slices_S56x112x32_o0_0_18_S56x112x1 a0) (lane 26 slices_S56x112x32_o0_0_26_S56x112x1 a0)⟩,
    ⟨Rect.unit ![0, 1, 0, 1, 0] S1x1x56x1x224.size inb_S1x3x112x2x224_S1x1x56x1x224_0_1_0_1_0, rowsOut weaveIdx (lane 17 slices_S56x112x32_o0_0_17_S56x112x1 a0) (lane 25 slices_S56x112x32_o0_0_25_S56x112x1 a0)⟩,
    ⟨Rect.unit ![0, 0, 0, 1, 0] S1x1x56x1x224.size inb_S1x3x112x2x224_S1x1x56x1x224_0_0_0_1_0, rowsOut weaveIdx (lane 16 slices_S56x112x32_o0_0_16_S56x112x1 a0) (lane 24 slices_S56x112x32_o0_0_24_S56x112x1 a0)⟩,
    ⟨Rect.unit ![0, 2, 0, 0, 0] S1x1x56x1x224.size inb_S1x3x112x2x224_S1x1x56x1x224_0_2_0_0_0, rowsOut weaveIdx (lane 2 slices_S56x112x32_o0_0_2_S56x112x1 a0) (lane 10 slices_S56x112x32_o0_0_10_S56x112x1 a0)⟩,
    ⟨Rect.unit ![0, 1, 0, 0, 0] S1x1x56x1x224.size inb_S1x3x112x2x224_S1x1x56x1x224_0_1_0_0_0, rowsOut weaveIdx (lane 1 slices_S56x112x32_o0_0_1_S56x112x1 a0) (lane 9 slices_S56x112x32_o0_0_9_S56x112x1 a0)⟩,
    ⟨Rect.unit ![0, 0, 0, 0, 0] S1x1x56x1x224.size inb_S1x3x112x2x224_S1x1x56x1x224_0_0_0_0_0, rowsOut weaveIdx (lane 0 slices_S56x112x32_o0_0_0_S56x112x1 a0) (lane 8 slices_S56x112x32_o0_0_8_S56x112x1 a0)⟩]

/-- One grid point's writes. -/
theorem writes_eq (c : Dev nD) (i : grid0.Coords) (arg1 : Memref sig .tc .vmem S1x113x113x12 .f32) (harg1 : arg1.IsWhole) (arg2 : Memref sig .tc .vmem S48x32 .f32) (harg2 : arg2.IsWhole) (arg3 : Memref sig .tc .vmem S1x32 .f32) (harg3 : arg3.IsWhole) (arg4 : Memref sig .tc .vmem S512x64 .f32) (harg4 : arg4.IsWhole) (arg5 : Memref sig .tc .vmem S1x64 .f32) (harg5 : arg5.IsWhole) (arg6 : Memref sig .tc .vmem S576x64 .f32) (harg6 : arg6.IsWhole) (arg7 : Memref sig .tc .vmem S1x64 .f32) (harg7 : arg7.IsWhole) (arg8 : Memref sig .tc .vmem S64x1024 .f32) (harg8 : arg8.IsWhole) (arg9 : Memref sig .tc .vmem S1024x64 .f32) (harg9 : arg9.IsWhole) (arg10 : Memref sig .tc .vmem S576x64 .f32) (harg10 : arg10.IsWhole) (arg11 : Memref sig .tc .vmem S1x64 .f32) (harg11 : arg11.IsWhole) (arg12 : Memref sig .tc .vmem S576x128 .f32) (harg12 : arg12.IsWhole) (arg13 : Memref sig .tc .vmem S1x128 .f32) (harg13 : arg13.IsWhole) (arg14 : Memref sig .tc .vmem S288x32 .f32) (harg14 : arg14.IsWhole) (arg15 : Memref sig .tc .vmem S1x32 .f32) (harg15 : arg15.IsWhole) (arg16 : Memref sig .tc .vmem S1x3x112x2x224 .f32) (harg16 : arg16.IsWhole) (arg17 : Memref sig .tc .vmem S114x114x32 .f32) (harg17 : arg17.IsWhole)
    (x0 : Vec Ideal S1x113x113x12 .f32) (x1 : Vec Ideal S48x32 .f32) (x2 : Vec Ideal S1x32 .f32) (x3 : Vec Ideal S512x64 .f32) (x4 : Vec Ideal S1x64 .f32) (x5 : Vec Ideal S576x64 .f32) (x6 : Vec Ideal S1x64 .f32) (x7 : Vec Ideal S64x1024 .f32) (x8 : Vec Ideal S1024x64 .f32) (x9 : Vec Ideal S576x64 .f32) (x10 : Vec Ideal S1x64 .f32) (x11 : Vec Ideal S576x128 .f32) (x12 : Vec Ideal S1x128 .f32) (x13 : Vec Ideal S288x32 .f32) (x14 : Vec Ideal S1x32 .f32)
    (y0 : Vec Ideal S1x113x113x12 .f32) (y1 : Vec Ideal S48x32 .f32) (y2 : Vec Ideal S1x32 .f32) (y3 : Vec Ideal S512x64 .f32) (y4 : Vec Ideal S1x64 .f32) (y5 : Vec Ideal S576x64 .f32) (y6 : Vec Ideal S1x64 .f32) (y7 : Vec Ideal S64x1024 .f32) (y8 : Vec Ideal S1024x64 .f32) (y9 : Vec Ideal S576x64 .f32) (y10 : Vec Ideal S1x64 .f32) (y11 : Vec Ideal S576x128 .f32) (y12 : Vec Ideal S1x128 .f32) (y13 : Vec Ideal S288x32 .f32) (y14 : Vec Ideal S1x32 .f32)
    (h0 : View.readAt (Elt Ideal) arg1.view (Rect.unit ![0, 0, 0, 0] S1x113x113x12.size inb_S1x113x113x12_S1x113x113x12_0_0_0_0).toLoadRect (harg1.unread x0) = y0)
    (h1 : View.readAt (Elt Ideal) arg2.view (Rect.unit ![0, 0] S48x32.size inb_S48x32_S48x32_0_0).toLoadRect (harg2.unread x1) = y1)
    (h2 : View.readAt (Elt Ideal) arg3.view (Rect.unit ![0, 0] S1x32.size inb_S1x32_S1x32_0_0).toLoadRect (harg3.unread x2) = y2)
    (h3 : View.readAt (Elt Ideal) arg4.view (Rect.unit ![0, 0] S512x64.size inb_S512x64_S512x64_0_0).toLoadRect (harg4.unread x3) = y3)
    (h4 : View.readAt (Elt Ideal) arg5.view (Rect.unit ![0, 0] S1x64.size inb_S1x64_S1x64_0_0).toLoadRect (harg5.unread x4) = y4)
    (h5 : View.readAt (Elt Ideal) arg6.view (Rect.unit ![0, 0] S576x64.size inb_S576x64_S576x64_0_0).toLoadRect (harg6.unread x5) = y5)
    (h6 : View.readAt (Elt Ideal) arg7.view (Rect.unit ![0, 0] S1x64.size inb_S1x64_S1x64_0_0).toLoadRect (harg7.unread x6) = y6)
    (h7 : View.readAt (Elt Ideal) arg8.view (Rect.unit ![0, 0] S64x1024.size inb_S64x1024_S64x1024_0_0).toLoadRect (harg8.unread x7) = y7)
    (h8 : View.readAt (Elt Ideal) arg9.view (Rect.unit ![0, 0] S1024x64.size inb_S1024x64_S1024x64_0_0).toLoadRect (harg9.unread x8) = y8)
    (h9 : View.readAt (Elt Ideal) arg10.view (Rect.unit ![0, 0] S576x64.size inb_S576x64_S576x64_0_0).toLoadRect (harg10.unread x9) = y9)
    (h10 : View.readAt (Elt Ideal) arg11.view (Rect.unit ![0, 0] S1x64.size inb_S1x64_S1x64_0_0).toLoadRect (harg11.unread x10) = y10)
    (h11 : View.readAt (Elt Ideal) arg12.view (Rect.unit ![0, 0] S576x128.size inb_S576x128_S576x128_0_0).toLoadRect (harg12.unread x11) = y11)
    (h12 : View.readAt (Elt Ideal) arg13.view (Rect.unit ![0, 0] S1x128.size inb_S1x128_S1x128_0_0).toLoadRect (harg13.unread x12) = y12)
    (h13 : View.readAt (Elt Ideal) arg14.view (Rect.unit ![0, 0] S288x32.size inb_S288x32_S288x32_0_0).toLoadRect (harg14.unread x13) = y13)
    (h14 : View.readAt (Elt Ideal) arg15.view (Rect.unit ![0, 0] S1x32.size inb_S1x32_S1x32_0_0).toLoadRect (harg15.unread x14) = y14) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 x0 x1 x2 x3 x4 x5 x6 x7 x8 x9 x10 x11 x12 x13 x14).1
      = outWrites (lastTop arg17.view y0 y1 y2 y3 y4 y5 y6 y7 y8 y9 y10 y11 y12 y13 y14) (lastBot arg17.view y0 y1 y2 y3 y4 y5 y6 y7 y8 y9 y10 y11 y12 y13 y14) := by
  subst h0 h1 h2 h3 h4 h5 h6 h7 h8 h9 h10 h11 h12 h13 h14
  rfl

end Cert.KernelIdeal.Hand
end
-- ==== Proof.KScratch.lean ====
module

public import proofs.«01_k».proof.Proof.KBlock

/-! What the scratch array holds after the first layer's writes and after the four phases' writes. -/

@[expose] public section
set_option maxRecDepth 16384
noncomputable section
namespace Cert.KernelIdeal.Hand
open Cert.KernelIdeal Cert.KernelIdeal.Gen Idealize.ShloMosaic Idealize.SL.Sem Cert.Model

/-- The contents left by a list of writes at an index: the last write's payload where it lands there, else the earlier writes'. -/
theorem canon_at {s : Shape} {e : EltTy} (r : Rect s) (w : r.shape.Idx → Elt Ideal e) (L : List (View.Piece (Elt Ideal) s e)) (y : s.Idx) (v : Elt Ideal e)
    (hit : ∀ x, r.emb x = y → w x = v) (miss : (∀ x, r.emb x ≠ y) → View.canon L y = v) : View.canon (⟨r, w⟩ :: L) y = v := by
  by_cases h : y ∈ r.set
  · obtain ⟨x, rfl⟩ : ∃ x, r.emb x = y := r.exists_idx_of_mem h
    rw [View.canon_cons_emb]
    exact hit x rfl
  · rw [View.canon_cons_of_not_mem ⟨r, w⟩ L h]
    exact miss fun x hx => h (by rw [← Rect.map_emb_univ, ← hx]; exact Finset.mem_map_of_mem _ (Finset.mem_univ x))

/-- The coordinates of a rectangle's index in the scratch array. -/
theorem emb_coords {r : Rect S114x114x32} {j : r.shape.Idx} {y x : Fin 114} {o : Fin 32} (h : r.emb j = ix3 y x o) :
    r.off 0 + r.stride 0 * (j 0).val = y.val ∧ r.off 1 + r.stride 1 * (j 1).val = x.val ∧ r.off 2 + r.stride 2 * (j 2).val = o.val := by
  have e0 := congrArg (fun i => (i 0).val) h
  have e1 := congrArg (fun i => (i 1).val) h
  have e2 := congrArg (fun i => (i 2).val) h
  simp only [Rect.emb_apply] at e0 e1 e2
  exact ⟨e0, e1, e2⟩

/-- Two indices of the scratch array with the same coordinates are one. -/
theorem emb_of_coords {r : Rect S114x114x32} {j : r.shape.Idx} {y x : Fin 114} {o : Fin 32}
    (h : r.off 0 + r.stride 0 * (j 0).val = y.val ∧ r.off 1 + r.stride 1 * (j 1).val = x.val ∧ r.off 2 + r.stride 2 * (j 2).val = o.val) :
    r.emb j = ix3 y x o := by
  funext a
  apply Fin.ext
  rw [Rect.emb_apply]
  fin_cases a
  exacts [h.1, h.2.1, h.2.2]

/-- After the first layer's writes the scratch array is the layer's image with a border of zeros. -/
theorem canon_first (h1 : FVec Ideal S112x112x32 .f32) (H : ℕ → ℕ → ℕ → EReal)
    (hH : ∀ (y x : Fin 112) (o : Fin 32), h1 (ix3 y x o) = H o y x) (y x : Fin 114) (o : Fin 32) :
    View.canon (firstWrites h1) (ix3 y x o) = border 1 112 H o y x := by
  have z3 (j) : k0_pay3 (F := Ideal) j = 0 := by idx_vars j; pointwise [k0_pay3]
  have z4 (j) : k0_pay4 (F := Ideal) j = 0 := by idx_vars j; pointwise [k0_pay4]
  have z7 (j) : k0_pay7 (F := Ideal) j = 0 := by idx_vars j; pointwise [k0_pay7]
  have z6 (j) : k0_pay6 (F := Ideal) (k0_pay5 (F := Ideal)) j = 0 := by idx_vars j; pointwise [k0_pay6, k0_pay5]
  have hy := y.isLt
  have hx := x.isLt
  unfold firstWrites
  refine canon_at _ _ _ _ _ (fun j hj => ?_) fun n7 => canon_at _ _ _ _ _ (fun j hj => ?_) fun n6 => canon_at _ _ _ _ _ (fun j hj => ?_) fun n4 =>
    canon_at _ _ _ _ _ (fun j hj => ?_) fun n3 => canon_at _ _ _ _ _ (fun j hj => ?_) fun n2 => ?_
  · obtain ⟨e0, e1, e2⟩ := emb_coords hj
    simp at e0 e1 e2
    rw [z7, border, if_neg (by omega)]
  · obtain ⟨e0, e1, e2⟩ := emb_coords hj
    simp at e0 e1 e2
    rw [z6, border, if_neg (by omega)]
  · obtain ⟨e0, e1, e2⟩ := emb_coords hj
    simp at e0 e1 e2
    rw [z4, border, if_neg (by omega)]
  · obtain ⟨e0, e1, e2⟩ := emb_coords hj
    simp at e0 e1 e2
    rw [z3, border, if_neg (by omega)]
  · obtain ⟨e0, e1, e2⟩ := emb_coords hj
    simp at e0 e1 e2
    obtain ⟨a, b, c, rfl⟩ : ∃ (a b : Fin 112) (c : Fin 32), j = ix3 a b c := ⟨j 0, j 1, j 2, (ix3_eta _).symm⟩
    simp at e0 e1 e2
    rw [hH, border, if_pos (by omega)]
    congr 1 <;> omega
  · exfalso
    by_cases h0 : y.val = 0
    · exact n3 (ix3 0 x o) (emb_of_coords (by simp [h0]))
    by_cases h113 : y.val = 113
    · exact n4 (ix3 0 x o) (emb_of_coords (by simp [h113]))
    by_cases k0 : x.val = 0
    · exact n6 (ix3 ⟨y.val - 1, by omega⟩ 0 o) (emb_of_coords (by simp [k0]; omega))
    by_cases k113 : x.val = 113
    · exact n7 (ix3 ⟨y.val - 1, by omega⟩ 0 o) (emb_of_coords (by simp [k113]; omega))
    exact n2 (ix3 ⟨y.val - 1, by omega⟩ ⟨x.val - 1, by omega⟩ o) (emb_of_coords (by simp; omega))

/-- After the four phases' writes the scratch array is the interleaved image with a border of zeros. -/
theorem canon_phases (a : FVec Ideal S3136x128 .f32) (h1 : FVec Ideal S112x112x32 .f32) (G : ℕ → ℕ → ℕ → EReal)
    (ha : ∀ (n : Fin 3136) (l : Fin 128), max (a (ix2 n l)) 0 = G (l % 32) (2 * (n / 56) + l / 64) (2 * (n % 56) + l / 32 % 2))
    (y x : Fin 114) (o : Fin 32) :
    View.canon (phaseWrites a h1) (ix3 y x o) = border 1 112 G o y x := by
  have p34 (i j : Fin 56) (o : Fin 32) : k0_pay34 a (ix3 i j o) = G o (2 * i) (2 * j) := by
    pointwise [k0_pay34, k0_pay33]
    rw [ha]; congr 1 <;> simp <;> omega
  have p35 (i j : Fin 56) (o : Fin 32) : k0_pay35 a (ix3 i j o) = G o (2 * i) (2 * j + 1) := by
    pointwise [k0_pay35, k0_pay33]
    rw [ha]; congr 1 <;> simp <;> omega
  have p36 (i j : Fin 56) (o : Fin 32) : k0_pay36 a (ix3 i j o) = G o (2 * i + 1) (2 * j) := by
    pointwise [k0_pay36, k0_pay33]
    rw [ha]; congr 1 <;> simp <;> omega
  have p37 (i j : Fin 56) (o : Fin 32) : k0_pay37 a (ix3 i j o) = G o (2 * i + 1) (2 * j + 1) := by
    pointwise [k0_pay37, k0_pay33]
    rw [ha]; congr 1 <;> simp <;> omega
  have hy := y.isLt
  have hx := x.isLt
  have hit {r s : ℕ} (hr : r < 2) (hs : s < 2) {w : FVec Ideal S56x56x32 .f32} (hw : ∀ (i j : Fin 56) (o : Fin 32), w (ix3 i j o) = G o (2 * i + r) (2 * j + s))
      (i j : Fin 56) (c : Fin 32) (e0 : 1 + r + 2 * i.val = y) (e1 : 1 + s + 2 * j.val = x) (e2 : c.val = o) :
      w (ix3 i j c) = border 1 112 G o y x := by
    rw [hw, border, if_pos (by omega)]
    congr 1 <;> omega
  unfold phaseWrites
  refine canon_at _ _ _ _ _ (fun j hj => ?_) fun n7 => canon_at _ _ _ _ _ (fun j hj => ?_) fun n6 => canon_at _ _ _ _ _ (fun j hj => ?_) fun n4 =>
    canon_at _ _ _ _ _ (fun j hj => ?_) fun n3 => ?_
  · obtain ⟨e0, e1, e2⟩ := emb_coords hj
    obtain ⟨a, b, c, rfl⟩ : ∃ (a b : Fin 56) (c : Fin 32), j = ix3 a b c := ⟨j 0, j 1, j 2, (ix3_eta _).symm⟩
    exact hit (r := 1) (s := 1) (by omega) (by omega) p37 a b c (by simpa using e0) (by simpa using e1) (by simpa using e2)
  · obtain ⟨e0, e1, e2⟩ := emb_coords hj
    obtain ⟨a, b, c, rfl⟩ : ∃ (a b : Fin 56) (c : Fin 32), j = ix3 a b c := ⟨j 0, j 1, j 2, (ix3_eta _).symm⟩
    exact hit (r := 1) (s := 0) (by omega) (by omega) p36 a b c (by simpa using e0) (by simpa using e1) (by simpa using e2)
  · obtain ⟨e0, e1, e2⟩ := emb_coords hj
    obtain ⟨a, b, c, rfl⟩ : ∃ (a b : Fin 56) (c : Fin 32), j = ix3 a b c := ⟨j 0, j 1, j 2, (ix3_eta _).symm⟩
    exact hit (r := 0) (s := 1) (by omega) (by omega) p35 a b c (by simpa using e0) (by simpa using e1) (by simpa using e2)
  · obtain ⟨e0, e1, e2⟩ := emb_coords hj
    obtain ⟨a, b, c, rfl⟩ : ∃ (a b : Fin 56) (c : Fin 32), j = ix3 a b c := ⟨j 0, j 1, j 2, (ix3_eta _).symm⟩
    exact hit (r := 0) (s := 0) (by omega) (by omega) p34 a b c (by simpa using e0) (by simpa using e1) (by simpa using e2)
  · rw [canon_first h1 (fun o y x => if h : (y < 112 ∧ x < 112) ∧ o < 32 then h1 (ix3 ⟨y, h.1.1⟩ ⟨x, h.1.2⟩ ⟨o, h.2⟩) else 0)
      (fun y x o => by simp)]
    have out : ¬ ((1 ≤ y.val ∧ y.val < 1 + 112) ∧ (1 ≤ x.val ∧ x.val < 1 + 112)) := by
      rintro ⟨⟨a0, a1⟩, b0, b1⟩
      rcases Nat.mod_two_eq_zero_or_one y.val with hy2 | hy2 <;> rcases Nat.mod_two_eq_zero_or_one x.val with hx2 | hx2
      · exact n7 (ix3 ⟨(y.val - 1) / 2, by omega⟩ ⟨(x.val - 1) / 2, by omega⟩ o) (emb_of_coords (by simp; omega))
      · exact n6 (ix3 ⟨(y.val - 1) / 2, by omega⟩ ⟨(x.val - 1) / 2, by omega⟩ o) (emb_of_coords (by simp; omega))
      · exact n4 (ix3 ⟨(y.val - 1) / 2, by omega⟩ ⟨(x.val - 1) / 2, by omega⟩ o) (emb_of_coords (by simp; omega))
      · exact n3 (ix3 ⟨(y.val - 1) / 2, by omega⟩ ⟨(x.val - 1) / 2, by omega⟩ o) (emb_of_coords (by simp; omega))
    rw [border, border, if_neg out, if_neg out]

end Cert.KernelIdeal.Hand
end
-- ==== Proof.KConv.lean ====
module

public import proofs.«01_k».proof.Proof.Model
public import proofs.«01_k».proof.Proof.Gen.KernelIdeal.Frame
public import Idealize.ShloMosaic.Lib.Pointwise
public import Idealize.ShloMosaic.Lib.Pipeline.ValueKit

@[expose] public section
set_option maxRecDepth 16384
noncomputable section
namespace Cert.KernelIdeal.Hand
open Cert.KernelIdeal Cert.KernelIdeal.Gen Idealize.ShloMosaic Cert.Model Finset

/-- The first convolution's block, read at an index. -/
theorem conv1_at (v0 : Vec Ideal S1x113x113x12 .f32) (v2 : Vec Ideal S48x32 .f32) (v4 : Vec Ideal S1x32 .f32)
    (P : ℕ → ℕ → ℕ → EReal) (w : ℕ → ℕ → ℕ → ℕ → EReal) (b : ℕ → EReal)
    (h0 : ∀ (y x : Fin 113) (k : Fin 12), v0 (ix4 0 y x k) = P (k % 3) (2 * y + k / 6) (2 * x + k / 3 % 2))
    (h2 : ∀ (k : Fin 48) (o : Fin 32), v2 (ix2 k o) = w o (k % 3) (2 * (k / 24) + k / 6 % 2) (2 * (k / 12 % 2) + k / 3 % 2))
    (h4 : ∀ o : Fin 32, v4 (ix2 0 o) = b o) (y x : Fin 112) (o : Fin 32) :
    k0_pay2 (F := Ideal) v0 v2 v4 (ix3 y x o) = max (conv 3 4 2 P w o y x + b o) 0 := by
  pointwise [k0_pay2]
  rw [h4, ← conv_s2d, ← Fin.sum_univ_eq_sum_range (fun k => P (k % 12 % 3) (2 * (y + k / 24) + k % 12 / 6) (2 * (x + k / 12 % 2) + k % 12 / 3 % 2)
        * w o (k % 3) (2 * (k / 24) + k / 6 % 2) (2 * (k / 12 % 2) + k / 3 % 2))]
  congr 2
  refine sum_congr rfl fun k _ => ?_
  rw [h2]
  congr 1
  split_ifs <;> rw [h0] <;> congr 1 <;> simp <;> omega

end Cert.KernelIdeal.Hand
end
-- ==== Proof.First.lean ====
module

public import Idealize.ShloMosaic.PureOps.Ideal.Laws

/-! The first place where a finite family of extended reals is least. -/

@[expose] public section
noncomputable section
namespace Cert.Model

/-- `k` is the first of the places `0 … n-1` where `f` is least. -/
def IsFirst (n : ℕ) (f : ℕ → EReal) (k : ℕ) : Prop := k < n ∧ (∀ j < n, f k ≤ f j) ∧ ∀ j < k, f k < f j

/-- There is at most one such place. -/
theorem IsFirst.unique {n : ℕ} {f : ℕ → EReal} {j k : ℕ} (hj : IsFirst n f j) (hk : IsFirst n f k) : j = k := by
  rcases lt_trichotomy j k with h | h | h
  · exact absurd (hj.2.1 k hk.1) (not_le.2 (hk.2.2 j h))
  · exact h
  · exact absurd (hk.2.1 j hj.1) (not_le.2 (hj.2.2 k h))

/-- There is such a place as soon as there is any place. -/
theorem IsFirst.exists {n : ℕ} (hn : 0 < n) (f : ℕ → EReal) : ∃ k, IsFirst n f k := by
  classical
  obtain ⟨m, hm, hmin⟩ := Finset.exists_min_image (Finset.range n) f ⟨0, Finset.mem_range.2 hn⟩
  have hm' : m < n := Finset.mem_range.1 hm
  have h : ∃ k, k < n ∧ ∀ j < n, f k ≤ f j := ⟨m, hm', fun j hj => hmin j (Finset.mem_range.2 hj)⟩
  refine ⟨Nat.find h, (Nat.find_spec h).1, (Nat.find_spec h).2, fun j hj => ?_⟩
  by_contra hc
  exact Nat.find_min h hj ⟨hj.trans (Nat.find_spec h).1, fun i hi => (not_lt.1 hc).trans ((Nat.find_spec h).2 i hi)⟩

open Classical in
/-- The first place where `f` is least. -/
def amin (n : ℕ) (f : ℕ → EReal) : ℕ := if h : ∃ k, IsFirst n f k then h.choose else 0

/-- `amin` is that place. -/
theorem isFirst_amin {n : ℕ} (hn : 0 < n) (f : ℕ → EReal) : IsFirst n f (amin n f) := by
  have h := IsFirst.exists hn f
  rw [amin, dif_pos h]
  exact h.choose_spec

/-- Two families that order their places alike have the same first least place. -/
theorem amin_congr {n : ℕ} (hn : 0 < n) (f g : ℕ → EReal) (h : ∀ j < n, ∀ k < n, (f j ≤ f k ↔ g j ≤ g k)) : amin n f = amin n g := by
  have hf := isFirst_amin hn f
  refine IsFirst.unique (n := n) (f := g) ⟨hf.1, fun j hj => (h _ hf.1 j hj).1 (hf.2.1 j hj), fun j hj => ?_⟩ (isFirst_amin hn g)
  have hj' : j < n := hj.trans hf.1
  rw [← not_le, ← h j hj' _ hf.1, not_le]
  exact hf.2.2 j hj

end Cert.Model
end
-- ==== Proof.KRead.lean ====
module

public import proofs.«01_k».proof.Proof.KScratch
public import proofs.«01_k».proof.Proof.KConv
public import proofs.«01_k».proof.Proof.First

/-! The stages of the body read at an index. -/

@[expose] public section
set_option maxRecDepth 16384
noncomputable section
namespace Cert.KernelIdeal.Hand
open Cert.KernelIdeal Cert.KernelIdeal.Gen Idealize.ShloMosaic Idealize.SL.Sem Cert.Model Finset

/-- The sixteen tap images at an index. -/
theorem cat16_at (v : Fin 16 → FVec Ideal S56x56x32 .f32) (y x : Fin 56) (k : Fin 512) :
    cat16 v (ix3 y x k) = v ⟨k / 32, by omega⟩ (ix3 y x ⟨k % 32, by omega⟩) := by
  unfold cat16
  refine concatenate_ofFn_apply (t := S56x56x512) 2 v _ rfl 32 rfl _ _ rfl _ rfl fun b hb => ?_
  fin_cases b
  exacts [rfl, rfl, absurd rfl hb]

/-- The nine tap images at an index. -/
theorem cat9_at (X : FVec Ideal S58x58x64 .f32) (y x : Fin 56) (k : Fin 576) :
    cat9 X (ix3 y x k) = X (ix3 ⟨y + k / 64 / 3, by omega⟩ ⟨x + k / 64 % 3, by omega⟩ ⟨k % 64, by omega⟩) := by
  unfold cat9
  refine (concatenate_ofFn_apply (t := S56x56x576) 2 (fun n : Fin 9 => extractStridedSlice S56x56x64 ![n.val / 3, n.val % 3, 0] X (fits9 n)) _ rfl 64 rfl
    (ix3 y x k) ⟨k / 64, by omega⟩ rfl (ix3 y x ⟨k % 64, by omega⟩) rfl fun b hb => by
      fin_cases b
      exacts [rfl, rfl, absurd rfl hb]).trans ?_
  unfold extractStridedSlice
  congr 1
  funext a
  apply Fin.ext
  fin_cases a
  · exact Nat.add_comm _ _
  · exact Nat.add_comm _ _
  · exact Nat.zero_add _

/-- The nine wide tap images at an index. -/
theorem cat9w_at (X : FVec Ideal S58x114x32 .f32) (y : Fin 56) (x : Fin 112) (k : Fin 288) :
    cat9w X (ix3 y x k) = X (ix3 ⟨y + k / 32 / 3, by omega⟩ ⟨x + k / 32 % 3, by omega⟩ ⟨k % 32, by omega⟩) := by
  unfold cat9w
  refine (concatenate_ofFn_apply (t := S56x112x288) 2 (fun n : Fin 9 => extractStridedSlice S56x112x32 ![n.val / 3, n.val % 3, 0] X (fits9w n)) _ rfl 32 rfl
    (ix3 y x k) ⟨k / 32, by omega⟩ rfl (ix3 y x ⟨k % 32, by omega⟩) rfl fun b hb => by
      fin_cases b
      exacts [rfl, rfl, absurd rfl hb]).trans ?_
  unfold extractStridedSlice
  congr 1
  funext a
  apply Fin.ext
  fin_cases a
  · exact Nat.add_comm _ _
  · exact Nat.add_comm _ _
  · exact Nat.zero_add _

/-- The 512-row product at an index. -/
theorem lin512_at (X : FVec Ideal S56x56x512 .f32) (w : FVec Ideal S512x64 .f32) (b : FVec Ideal S1x64 .f32) (y x : Fin 56) (o : Fin 64) :
    lin512 X w b (ix3 y x o) = max ((∑ k : Fin 512, X (ix3 y x k) * w (ix2 k o)) + b (ix2 0 o)) 0 := by
  pointwise [lin512]

/-- The 576-row product at a row of pixels. -/
theorem lin576_at (X : FVec Ideal S56x56x576 .f32) (w : FVec Ideal S576x64 .f32) (b : FVec Ideal S1x64 .f32) (n : Fin 3136) (o : Fin 64) :
    lin576 X w b (ix2 n o) = (∑ k : Fin 576, X (ix3 ⟨n / 56, by omega⟩ ⟨n % 56, by omega⟩ k) * w (ix2 k o)) + b (ix2 0 o) := by
  pointwise [lin576]

/-- Clipping at an index. -/
theorem relu56_at (a : FVec Ideal S3136x64 .f32) (y x : Fin 56) (o : Fin 64) :
    relu56 a (ix3 y x o) = max (a (ix2 ⟨y * 56 + x, by omega⟩ o)) 0 := by
  pointwise [relu56]

/-- The product of the four phases at a row of pixels. -/
theorem lin128_at (X : FVec Ideal S56x56x576 .f32) (w : FVec Ideal S576x128 .f32) (b : FVec Ideal S1x128 .f32) (n : Fin 3136) (o : Fin 128) :
    lin128 X w b (ix2 n o) = (∑ k : Fin 576, X (ix3 ⟨n / 56, by omega⟩ ⟨n % 56, by omega⟩ k) * w (ix2 k o)) + b (ix2 0 o) := by
  pointwise [lin128]

/-- The last product at an index. -/
theorem lin288_at (X : FVec Ideal S56x112x288 .f32) (w : FVec Ideal S288x32 .f32) (b : FVec Ideal S1x32 .f32) (y : Fin 56) (x : Fin 112) (o : Fin 32) :
    lin288 X w b (ix3 y x o) = (∑ k : Fin 288, X (ix3 y x k) * w (ix2 k o)) + b (ix2 0 o) := by
  pointwise [lin288]

/-- The bordered image at an index. -/
theorem pad58_at (X : FVec Ideal S56x56x64 .f32) (H : ℕ → ℕ → ℕ → EReal) (hH : ∀ (y x : Fin 56) (o : Fin 64), X (ix3 y x o) = H o y x)
    (y x : Fin 58) (o : Fin 64) : pad58 X (ix3 y x o) = border 1 56 H o y x := by
  pointwise [pad58]
  unfold border
  split_ifs
  all_goals first
    | exact (hH _ _ _).trans (if_pos ⟨⟨by omega, by omega⟩, by omega, by omega⟩).symm
    | (exfalso; omega)
    | norm_num
    | exact hH _ _ _

/-- The distances, up to the row's own square, at an index. -/
theorem dist_at (z : FVec Ideal S392x64 .f32) (cbt : FVec Ideal S64x1024 .f32) (n2 : FVec Ideal S1x1024 .f32) (r : Fin 392) (k : Fin 1024) :
    dist z cbt n2 (ix2 r k) = n2 (ix2 0 k) - Ideal.ofBits .f32 0x40000000#32 * ∑ c : Fin 64, z (ix2 r c) * cbt (ix2 c k) := by
  pointwise [dist]

/-- The mask of the least places at an index. -/
theorem leastMask_at (d : FVec Ideal S392x1024 .f32) (r : Fin 392) (k : Fin 1024) :
    leastMask d (ix2 r k) = BitVec.ofBool (decide (∀ j : Fin 1024, d (ix2 r k) ≤ d (ix2 r j))) := by
  pointwise [leastMask]
  have ht : Ideal.ofBits .f32 2139095040#32 = ⊤ := by simp [Ideal.ofBits, Ideal.ieee]
  congr 1
  rw [decide_eq_decide, Finset.le_fold_min, ht]
  simp

/-- The signed value of the least of a family of words. -/
theorem toInt_fold_minsi (b : BitVec 32) (g : Fin 1024 → BitVec 32) :
    (Finset.univ.fold IntOp.minsi b g).toInt = Finset.univ.fold min b.toInt (fun x => (g x).toInt) := by
  refine (Finset.fold_hom (op := IntOp.minsi) (op' := min) (m := BitVec.toInt) fun x y => ?_).symm
  unfold IntOp.minsi
  simp only [BitVec.slt_iff_toInt_lt]
  split_ifs with h
  · exact (min_eq_left h.le).symm
  · exact (min_eq_right (not_lt.1 h)).symm

/-- The first column of a mask: the column where it holds and before which it does not. -/
theorem firstCol_at (m : IVec S392x1024 1) (r : Fin 392) (k : Fin 1024) (hk : m (ix2 r k) = 1#1) (hlt : ∀ j < k, m (ix2 r j) = 0#1) :
    firstCol m (ix1 r) = BitVec.ofNat 32 k := by
  pointwise [firstCol, cols]
  have small : ∀ n : ℕ, n ≤ 1024 → (BitVec.ofNat 32 n).toInt = n := fun n hn => by
    rw [BitVec.toInt_eq_toNat_of_lt] <;> simp <;> omega
  apply BitVec.eq_of_toInt_eq
  rw [toInt_fold_minsi, small k (by omega)]
  apply le_antisymm
  · rw [Finset.fold_min_le]
    refine .inr ⟨k, Finset.mem_univ _, ?_⟩
    rw [hk]
    exact (small k (by omega)).le
  · rw [Finset.le_fold_min]
    refine ⟨by have := k.isLt; simp; omega, fun j _ => ?_⟩
    rcases lt_or_ge j k with h | h
    · rw [hlt j h]
      show (k : ℤ) ≤ (BitVec.ofNat 32 1024).toInt
      rw [small 1024 le_rfl]; omega
    · have hw : Scalar.select (m (ix2 r j)) (BitVec.ofNat 32 j) 1024#32 = BitVec.ofNat 32 j
          ∨ Scalar.select (m (ix2 r j)) (BitVec.ofNat 32 j) 1024#32 = BitVec.ofNat 32 1024 := by
        unfold Scalar.select
        split_ifs <;> simp
      rcases hw with hw | hw <;> rw [hw, small _ (by omega)] <;> omega

/-- The row that a column number names. -/
theorem pick_at (i : IVec S392 32) (cb : FVec Ideal S1024x64 .f32) (r : Fin 392) (c : Fin 64) (k : Fin 1024) (hi : i (ix1 r) = BitVec.ofNat 32 k) :
    pick i cb (ix2 r c) = cb (ix2 k c) := by
  pointwise [pick, cols]
  rw [hi]
  refine (Finset.sum_eq_single k (fun j _ hj => ?_) fun h => absurd (Finset.mem_univ _) h).trans ?_
  · have : BitVec.ofNat 32 j.val ≠ BitVec.ofNat 32 k.val := fun h => hj (Fin.ext (by
      have := congrArg BitVec.toNat h
      simp at this; omega))
    have e : IntOp.cmpi CmpIPredicate.eq (BitVec.ofNat 32 j.val) (BitVec.ofNat 32 k.val) = 0#1 := by
      unfold IntOp.cmpi
      simp only [beq_eq_false_iff_ne.2 this]
      rfl
    rw [e]
    have : (FloatOps.sitofp (F := Ideal) .f32 (BitVec.setWidth 32 0#1) : EReal) = 0 := by
      show ((((BitVec.setWidth 32 0#1 : BitVec 32).toInt : ℝ)) : EReal) = 0
      norm_num
    rw [this]; exact zero_mul _
  · have e : IntOp.cmpi CmpIPredicate.eq (BitVec.ofNat 32 k.val) (BitVec.ofNat 32 k.val) = 1#1 := by
      simp [IntOp.cmpi]
    rw [e]
    have : (FloatOps.sitofp (F := Ideal) .f32 (BitVec.setWidth 32 1#1) : EReal) = 1 := by
      show ((((BitVec.setWidth 32 1#1 : BitVec 32).toInt : ℝ)) : EReal) = 1
      norm_num
    rw [this]; exact one_mul _

/-- The nearest row: the codebook's row at the first least distance. -/
theorem nearest_at (z : FVec Ideal S392x64 .f32) (cbt : FVec Ideal S64x1024 .f32) (n2 : FVec Ideal S1x1024 .f32) (cb : FVec Ideal S1024x64 .f32)
    (f : ℕ → EReal) (r : Fin 392) (c : Fin 64)
    (hf : ∀ k : Fin 1024, n2 (ix2 0 k) - Ideal.ofBits .f32 0x40000000#32 * ∑ c : Fin 64, z (ix2 r c) * cbt (ix2 c k) = f k) (k : Fin 1024) (hk : IsFirst 1024 f k) :
    nearest z cbt n2 cb (ix2 r c) = cb (ix2 k c) := by
  unfold nearest
  refine pick_at _ _ _ _ _ (firstCol_at _ _ _ ?_ fun j hj => ?_)
  · rw [leastMask_at, decide_eq_true fun j => ?_]
    · rfl
    · rw [dist_at, dist_at, hf, hf]
      exact hk.2.1 j j.isLt
  · rw [leastMask_at, decide_eq_false fun h => ?_]
    · rfl
    · have := h k
      rw [dist_at, dist_at, hf, hf] at this
      exact absurd this (not_le.2 (hk.2.2 j hj))

/-- A group's rows. -/
theorem group_at (Z : FVec Ideal S3136x64 .f32) (n : Fin 8) (r : Fin 392) (c : Fin 64) :
    group Z n (ix2 r c) = Z (ix2 ⟨392 * n + r, by omega⟩ c) := by
  unfold group extractStridedSlice
  congr 1
  funext a
  apply Fin.ext
  fin_cases a
  · rfl
  · exact Nat.zero_add _

/-- The quantised image at an index: the codebook's row at the first least distance from the pixel's row. -/
theorem quant_at (Z : FVec Ideal S3136x64 .f32) (cbt : FVec Ideal S64x1024 .f32) (n2 : FVec Ideal S1x1024 .f32) (cb : FVec Ideal S1024x64 .f32)
    (f : ℕ → EReal) (y x : Fin 56) (c : Fin 64)
    (hf : ∀ k : Fin 1024, n2 (ix2 0 k) - Ideal.ofBits .f32 0x40000000#32 * ∑ c : Fin 64, Z (ix2 ⟨y * 56 + x, by omega⟩ c) * cbt (ix2 c k) = f k) :
    quant Z cbt n2 cb (ix3 y x c) = cb (ix2 ⟨amin 1024 f, (isFirst_amin (by norm_num) f).1⟩ c) := by
  have e : quant Z cbt n2 cb (ix3 y x c)
      = concatenate S3136x64 0 (List.ofFn fun n => ⟨S392x64, nearest (group Z n) cbt n2 cb⟩)
          concatenates_S392x64_S392x64_S392x64_S392x64_S392x64_S392x64_S392x64_S392x64_S3136x64_d0 (ix2 ⟨y * 56 + x, by omega⟩ c) := by
    pointwise [quant]
  rw [e]
  refine (concatenate_ofFn_apply (t := S3136x64) 0 (fun n : Fin 8 => nearest (group Z n) cbt n2 cb) _ rfl 392 rfl
    _ ⟨(y * 56 + x) / 392, by omega⟩ rfl (ix2 ⟨(y * 56 + x) % 392, by omega⟩ c) rfl fun b hb => ?_).trans ?_
  · fin_cases b
    exacts [absurd rfl hb, rfl]
  · refine nearest_at _ _ _ _ f _ _ (fun k => ?_) _ (isFirst_amin (by norm_num) f)
    rw [← hf k]
    congr 2
    refine Finset.sum_congr rfl fun c _ => ?_
    rw [group_at]
    congr 4
    simp only
    omega

/-- The rows to be quantised at an index. -/
theorem rowsZ_at (h2 : FVec Ideal S58x58x64 .f32) (w : Vec Ideal S576x64 .f32) (b : Vec Ideal S1x64 .f32) (r : Fin 3136) (c : Fin 64) :
    rowsZ h2 w b (ix2 r c) = lin576 (cat9 h2) w b (ix2 r c) := by
  pointwise [rowsZ]

/-- The codebook's squares at an index. -/
theorem pay20_at (v : Vec Ideal S64x1024 .f32) (k : Fin 1024) :
    k0_pay20 v (ix2 0 k) = ∑ c : Fin 64, v (ix2 c k) * v (ix2 c k) := by
  pointwise [k0_pay20, k0_pay19]

/-- The weaving indices. -/
theorem weaveIdx_at (y : Fin 56) (x : Fin 112) :
    weaveIdx (ix2 y ⟨x, by omega⟩) = BitVec.ofNat 32 (x / 2 + 56 * (x % 2)) := by
  pointwise [weaveIdx, k0_pay39, k0_pay38]
  revert x
  decide +kernel

/-- A woven row: the two halves' entries alternately. -/
theorem weave_at (g : IVec S56x128 32) (A : FVec Ideal S56x112 .f32) (y : Fin 56) (x : Fin 112) (n : ℕ) (hn : n < 112)
    (hg : g (ix2 y ⟨x, by omega⟩) = BitVec.ofNat 32 n) :
    weave g A (ix2 y x) = A (ix2 y ⟨n, hn⟩) := by
  have hw : (Scalar.select (IntOp.cmpi CmpIPredicate.slt (g (ix2 y ⟨x, by omega⟩)) 0#32) (IntOp.addi (g (ix2 y ⟨x, by omega⟩)) 128#32)
      (g (ix2 y ⟨x, by omega⟩))).toNat % 128 = n := by
    rw [hg]
    clear hg
    have : ∀ n : Fin 112, (Scalar.select (IntOp.cmpi CmpIPredicate.slt (BitVec.ofNat 32 n.val) 0#32) (IntOp.addi (BitVec.ofNat 32 n.val) 128#32)
      (BitVec.ofNat 32 n.val)).toNat % 128 = n := by decide +kernel
    exact this ⟨n, hn⟩
  pointwise [weave]
  rw [dif_pos (hw.trans_lt hn)]
  congr 3

/-- One lane at an index. -/
theorem lane_at (l : ℕ) (h : S56x112x32.Slices ![0, 0, l] S56x112x1) (hl : l < 32) (a : FVec Ideal S56x112x32 .f32) (y : Fin 56) (x : Fin 112) :
    lane l h a (ix2 y x) = a (ix3 y x ⟨l, hl⟩) := by
  pointwise [lane]

/-- An output row: the two images' columns alternately. -/
theorem rowsOut_at (a b : FVec Ideal S56x112 .f32) (y : Fin 56) (x : Fin 224) :
    rowsOut weaveIdx a b (ix5 0 0 y 0 x) = if x.val % 2 = 0 then a (ix2 y ⟨x / 2, by omega⟩) else b (ix2 y ⟨x / 2, by omega⟩) := by
  pointwise [rowsOut]
  by_cases h1 : x.val < 112
  · refine (dif_pos h1).trans ?_
    refine (weave_at _ _ _ ⟨x, h1⟩ _ (by simp only; omega) (weaveIdx_at y ⟨x, h1⟩)).trans ?_
    pointwise [lefts]
    by_cases h2 : x.val % 2 = 0
    · rw [if_pos h2]
      refine (dif_pos (by omega)).trans ?_
      congr 3; omega
    · rw [if_neg h2]
      refine (dif_neg (by omega)).trans ?_
      congr 3; omega
  · refine (dif_neg h1).trans ?_
    refine (weave_at _ _ _ ⟨x - 112, by omega⟩ _ (by simp only; omega) (weaveIdx_at y ⟨x - 112, by omega⟩)).trans ?_
    pointwise [rights]
    by_cases h2 : x.val % 2 = 0
    · rw [if_pos h2]
      refine (dif_pos (by omega)).trans ?_
      congr 3; omega
    · rw [if_neg h2]
      refine (dif_neg (by omega)).trans ?_
      congr 3; omega

end Cert.KernelIdeal.Hand
end
-- ==== Proof.KStage.lean ====
module

public import proofs.«01_k».proof.Proof.KRead

/-! The stages of the body as the network's convolutions. -/

@[expose] public section
set_option maxRecDepth 16384
noncomputable section
namespace Cert.KernelIdeal.Hand
open Cert.KernelIdeal Cert.KernelIdeal.Gen Idealize.ShloMosaic Idealize.SL.Sem Cert.Model Finset

/-- A strided reading of the scratch array that holds the first layer's image. -/
theorem tap_at (v : View sig .tc .vmem S114x114x32 .f32) (h1 : FVec Ideal S112x112x32 .f32) (H : ℕ → ℕ → ℕ → EReal)
    (hH : ∀ (y x : Fin 112) (o : Fin 32), h1 (ix3 y x o) = H o y x) (dy dx : ℕ) (hy : dy < 4) (hx : dx < 4) (inb) (y x : Fin 56) (o : Fin 32) :
    v.readCov (firstWrites h1) { off := ![dy, dx, 0], size := S56x56x32.size, stride := ![2, 2, 1], inb := inb } (ix3 y x o)
      = border 1 112 H o (2 * y + dy) (2 * x + dx) := by
  rw [View.readCov_eq_canon']
  refine Eq.trans (congrArg _ ?_) (canon_first h1 H hH ⟨2 * y + dy, by omega⟩ ⟨2 * x + dx, by omega⟩ o)
  funext a
  apply Fin.ext
  fin_cases a
  · show dy + 2 * y.val = _; simp; omega
  · show dx + 2 * x.val = _; simp; omega
  · show 0 + 1 * o.val = _; simp

/-- The second layer's convolution inside its border, from its sixteen tap images. -/
theorem taps_at (V : Fin 16 → FVec Ideal S56x56x32 .f32) (w : Vec Ideal S512x64 .f32) (b : Vec Ideal S1x64 .f32)
    (P : ℕ → ℕ → ℕ → EReal) (W : ℕ → ℕ → ℕ → ℕ → EReal) (B : ℕ → EReal)
    (hV : ∀ (n : Fin 16) (y x : Fin 56) (o : Fin 32), V n (ix3 y x o) = P o (2 * y + n / 4) (2 * x + n % 4))
    (hW : ∀ (k : Fin 512) (o : Fin 64), w (ix2 k o) = W o (k % 32) (k / 32 / 4) (k / 32 % 4))
    (hB : ∀ o : Fin 64, b (ix2 0 o) = B o) (y x : Fin 58) (o : Fin 64) :
    pad58 (lin512 (cat16 V) w b) (ix3 y x o) = border 1 56 (fun o y x => max (conv 32 4 2 P W o y x + B o) 0) o y x := by
  refine pad58_at _ _ (fun y x o => ?_) y x o
  rw [lin512_at, hB, ← conv_flat 32 4 2 (by norm_num) (by norm_num), ← Fin.sum_univ_eq_sum_range (fun k => _ * _)]
  congr 2
  refine sum_congr rfl fun k _ => ?_
  rw [hW, cat16_at, hV]

set_option maxHeartbeats 2000000 in
/-- The second layer's convolution inside its border, from the scratch array that holds the first layer's image. -/
theorem enc2_at (v : View sig .tc .vmem S114x114x32 .f32) (h1 : FVec Ideal S112x112x32 .f32) (w : Vec Ideal S512x64 .f32) (b : Vec Ideal S1x64 .f32)
    (H : ℕ → ℕ → ℕ → EReal) (W : ℕ → ℕ → ℕ → ℕ → EReal) (B : ℕ → EReal)
    (hH : ∀ (y x : Fin 112) (o : Fin 32), h1 (ix3 y x o) = H o y x)
    (hW : ∀ (k : Fin 512) (o : Fin 64), w (ix2 k o) = W o (k % 32) (k / 32 / 4) (k / 32 % 4))
    (hB : ∀ o : Fin 64, b (ix2 0 o) = B o) (y x : Fin 58) (o : Fin 64) :
    enc2 v h1 w b (ix3 y x o) = border 1 56 (fun o y x => max (conv 32 4 2 (border 1 112 H) W o y x + B o) 0) o y x := by
  refine taps_at _ w b _ W B (fun n y x o => ?_) hW hB y x o
  have T := fun dy dx (hy : dy < 4) (hx : dx < 4) inb => tap_at v h1 H hH dy dx hy hx inb y x o
  have l0 : 0 < 4 := by norm_num
  have l1 : 1 < 4 := by norm_num
  have l2 : 2 < 4 := by norm_num
  have l3 : 3 < 4 := by norm_num
  fin_cases n
  exacts [T 0 0 l0 l0 _, T 0 1 l0 l1 _, T 0 2 l0 l2 _, T 0 3 l0 l3 _, T 1 0 l1 l0 _, T 1 1 l1 l1 _, T 1 2 l1 l2 _, T 1 3 l1 l3 _, T 2 0 l2 l0 _, T 2 1 l2 l1 _, T 2 2 l2 l2 _, T 2 3 l2 l3 _, T 3 0 l3 l0 _, T 3 1 l3 l1 _, T 3 2 l3 l2 _, T 3 3 l3 l3 _]

/-- A 3 × 3 convolution of a bordered image with 64 channels, by rows of pixels. -/
theorem conv64_at (X : FVec Ideal S58x58x64 .f32) (w : Vec Ideal S576x64 .f32) (b : Vec Ideal S1x64 .f32)
    (P : ℕ → ℕ → ℕ → EReal) (W : ℕ → ℕ → ℕ → ℕ → EReal) (B : ℕ → EReal)
    (hP : ∀ (y x : Fin 58) (o : Fin 64), X (ix3 y x o) = P o y x)
    (hW : ∀ (k : Fin 576) (o : Fin 64), w (ix2 k o) = W o (k % 64) (k / 64 / 3) (k / 64 % 3))
    (hB : ∀ o : Fin 64, b (ix2 0 o) = B o) (n : Fin 3136) (o : Fin 64) :
    lin576 (cat9 X) w b (ix2 n o) = conv 64 3 1 P W o (n / 56) (n % 56) + B o := by
  rw [lin576_at, hB, ← conv_flat 64 3 1 (by norm_num) (by norm_num), ← Fin.sum_univ_eq_sum_range (fun k => _ * _)]
  congr 1
  refine sum_congr rfl fun k _ => ?_
  rw [hW, cat9_at, hP]
  simp only [one_mul]

/-- The same with 128 outputs. -/
theorem conv128_at (X : FVec Ideal S58x58x64 .f32) (w : Vec Ideal S576x128 .f32) (b : Vec Ideal S1x128 .f32)
    (P : ℕ → ℕ → ℕ → EReal) (W : ℕ → ℕ → ℕ → ℕ → EReal) (B : ℕ → EReal)
    (hP : ∀ (y x : Fin 58) (o : Fin 64), X (ix3 y x o) = P o y x)
    (hW : ∀ (k : Fin 576) (o : Fin 128), w (ix2 k o) = W o (k % 64) (k / 64 / 3) (k / 64 % 3))
    (hB : ∀ o : Fin 128, b (ix2 0 o) = B o) (n : Fin 3136) (o : Fin 128) :
    lin128 (cat9 X) w b (ix2 n o) = conv 64 3 1 P W o (n / 56) (n % 56) + B o := by
  rw [lin128_at, hB, ← conv_flat 64 3 1 (by norm_num) (by norm_num), ← Fin.sum_univ_eq_sum_range (fun k => _ * _)]
  congr 1
  refine sum_congr rfl fun k _ => ?_
  rw [hW, cat9_at, hP]
  simp only [one_mul]

/-- A 3 × 3 convolution of half of the bordered wide image. -/
theorem conv288_at (X : FVec Ideal S58x114x32 .f32) (w : Vec Ideal S288x32 .f32) (b : Vec Ideal S1x32 .f32)
    (P : ℕ → ℕ → ℕ → EReal) (W : ℕ → ℕ → ℕ → ℕ → EReal) (B : ℕ → EReal) (t : ℕ)
    (hP : ∀ (y : Fin 58) (x : Fin 114) (o : Fin 32), X (ix3 y x o) = P o (t + y) x)
    (y : Fin 56) (x : Fin 112) (o : Fin 32) (hW : ∀ k : Fin 288, w (ix2 k o) = W o (k % 32) (k / 32 / 3) (k / 32 % 3)) (hB : b (ix2 0 o) = B o) :
    lin288 (cat9w X) w b (ix3 y x o) = conv 32 3 1 P W o (t + y) x + B o := by
  rw [lin288_at, hB, ← conv_flat 32 3 1 (by norm_num) (by norm_num), ← Fin.sum_univ_eq_sum_range (fun k => _ * _)]
  congr 1
  refine sum_congr rfl fun k _ => ?_
  rw [hW, cat9w_at, hP]
  simp only [one_mul, add_assoc]

end Cert.KernelIdeal.Hand
end
-- ==== Proof.Net.lean ====
module

public import proofs.«01_k».proof.Proof.Model
public import proofs.«01_k».proof.Proof.First

/-! The network over extended reals, with images and weights read at natural numbers. -/

@[expose] public section
noncomputable section
namespace Cert.Model
open Finset

/-- An image: channel, row, column. -/
abbrev Img := ℕ → ℕ → ℕ → EReal

/-- Weights of a layer: output channel, input channel, row tap, column tap. -/
abbrev Wgt := ℕ → ℕ → ℕ → ℕ → EReal

/-- First layer of the encoder. -/
def enc1 (X : Img) (W : Wgt) (B : ℕ → EReal) : Img := fun o y x => max (conv 3 4 2 (border 1 224 X) W o y x + B o) 0

/-- Second layer of the encoder. -/
def enc2 (H : Img) (W : Wgt) (B : ℕ → EReal) : Img := fun o y x => max (conv 32 4 2 (border 1 112 H) W o y x + B o) 0

/-- The encoder's output. -/
def latent (H : Img) (W : Wgt) (B : ℕ → EReal) : Img := fun o y x => conv 64 3 1 (border 1 56 H) W o y x + B o

/-- What of the squared distance from a pixel's vector to row `k` of the codebook depends on `k`; `t` stands for two. -/
def score (t : EReal) (Z : Img) (E : ℕ → ℕ → EReal) (y x k : ℕ) : EReal :=
  (∑ c ∈ range 64, E k c * E k c) - t * ∑ c ∈ range 64, Z c y x * E k c

/-- The quantised image: each pixel's vector replaced by the first nearest row of the codebook. -/
def quantised (t : EReal) (Z : Img) (E : ℕ → ℕ → EReal) : Img := fun c y x => E (amin 1024 (score t Z E y x)) c

/-- First layer of the decoder. -/
def dec1 (Q : Img) (W : Wgt) (B : ℕ → EReal) : Img := fun o y x => max (conv 64 3 1 (border 1 56 Q) W o y x + B o) 0

/-- Second layer of the decoder. -/
def dec2 (H : Img) (W : Wgt) (B : ℕ → EReal) : Img := fun o y x => max (convT 64 (border 1 56 H) W o y x + B o) 0

/-- The reconstruction. -/
def recon (H : Img) (W : Wgt) (B : ℕ → EReal) : Img := fun o y x => convT 32 (border 1 112 H) W o y x + B o

end Cert.Model
end
-- ==== Proof.KNet.lean ====
module

public import proofs.«01_k».proof.Proof.KStage
public import proofs.«01_k».proof.Proof.Net

/-! One grid point's writes as the network of its image. -/

@[expose] public section
set_option maxRecDepth 16384
noncomputable section
namespace Cert.KernelIdeal.Hand
open Cert.KernelIdeal Cert.KernelIdeal.Gen Idealize.ShloMosaic Idealize.SL.Sem Cert.Model Finset

/-- What the fifteen window values are, in terms of an image, weights, biases and a codebook. -/
structure Windows (X : Img) (W1 W2 W3 V1 V2 V3 : Wgt) (B1 B2 B3 A1 A2 A3 : ℕ → EReal) (E : ℕ → ℕ → EReal)
    (y0 : Vec Ideal S1x113x113x12 .f32) (y1 : Vec Ideal S48x32 .f32) (y2 : Vec Ideal S1x32 .f32) (y3 : Vec Ideal S512x64 .f32)
    (y4 : Vec Ideal S1x64 .f32) (y5 : Vec Ideal S576x64 .f32) (y6 : Vec Ideal S1x64 .f32) (y7 : Vec Ideal S64x1024 .f32)
    (y8 : Vec Ideal S1024x64 .f32) (y9 : Vec Ideal S576x64 .f32) (y10 : Vec Ideal S1x64 .f32) (y11 : Vec Ideal S576x128 .f32)
    (y12 : Vec Ideal S1x128 .f32) (y13 : Vec Ideal S288x32 .f32) (y14 : Vec Ideal S1x32 .f32) : Prop where
  h0 : ∀ (y x : Fin 113) (k : Fin 12), y0 (ix4 0 y x k) = border 1 224 X (k % 3) (2 * y + k / 6) (2 * x + k / 3 % 2)
  h1 : ∀ (k : Fin 48) (o : Fin 32), y1 (ix2 k o) = W1 o (k % 3) (2 * (k / 24) + k / 6 % 2) (2 * (k / 12 % 2) + k / 3 % 2)
  h2 : ∀ o : Fin 32, y2 (ix2 0 o) = B1 o
  h3 : ∀ (k : Fin 512) (o : Fin 64), y3 (ix2 k o) = W2 o (k % 32) (k / 32 / 4) (k / 32 % 4)
  h4 : ∀ o : Fin 64, y4 (ix2 0 o) = B2 o
  h5 : ∀ (k : Fin 576) (o : Fin 64), y5 (ix2 k o) = W3 o (k % 64) (k / 64 / 3) (k / 64 % 3)
  h6 : ∀ o : Fin 64, y6 (ix2 0 o) = B3 o
  h7 : ∀ (c : Fin 64) (k : Fin 1024), y7 (ix2 c k) = E k c
  h8 : ∀ (k : Fin 1024) (c : Fin 64), y8 (ix2 k c) = E k c
  h9 : ∀ (k : Fin 576) (o : Fin 64), y9 (ix2 k o) = V1 o (k % 64) (k / 64 / 3) (k / 64 % 3)
  h10 : ∀ o : Fin 64, y10 (ix2 0 o) = A1 o
  h11 : ∀ (k : Fin 576) (o : Fin 128), y11 (ix2 k o) = comb V2 (o / 64) (o / 32 % 2) (o % 32) (k % 64) (k / 64 / 3) (k / 64 % 3)
  h12 : ∀ o : Fin 128, y12 (ix2 0 o) = A2 (o % 32)
  h13 : ∀ (k : Fin 288) (o : Fin 32), o.val % 8 < 3 → y13 (ix2 k o) = comb V3 (o / 16) (o / 8 % 2) (o % 8) (k % 32) (k / 32 / 3) (k / 32 % 3)
  h14 : ∀ o : Fin 32, o.val % 8 < 3 → y14 (ix2 0 o) = A3 (o % 8)

variable {X : Img} {W1 W2 W3 V1 V2 V3 : Wgt} {B1 B2 B3 A1 A2 A3 : ℕ → EReal} {E : ℕ → ℕ → EReal}
    {y0 : Vec Ideal S1x113x113x12 .f32} {y1 : Vec Ideal S48x32 .f32} {y2 : Vec Ideal S1x32 .f32} {y3 : Vec Ideal S512x64 .f32}
    {y4 : Vec Ideal S1x64 .f32} {y5 : Vec Ideal S576x64 .f32} {y6 : Vec Ideal S1x64 .f32} {y7 : Vec Ideal S64x1024 .f32}
    {y8 : Vec Ideal S1024x64 .f32} {y9 : Vec Ideal S576x64 .f32} {y10 : Vec Ideal S1x64 .f32} {y11 : Vec Ideal S576x128 .f32}
    {y12 : Vec Ideal S1x128 .f32} {y13 : Vec Ideal S288x32 .f32} {y14 : Vec Ideal S1x32 .f32}

/-- The constant two, as the kernel writes it. -/
abbrev two : EReal := Ideal.ofBits .f32 0x40000000#32

/-- The whole network up to the second layer of the decoder. -/
def netDec2 (X : Img) (W1 W2 W3 V1 V2 : Wgt) (B1 B2 B3 A1 A2 : ℕ → EReal) (E : ℕ → ℕ → EReal) : Img :=
  dec2 (dec1 (quantised two (latent (Model.enc2 (enc1 X W1 B1) W2 B2) W3 B3) E) V1 A1) V2 A2

/-- The first layer's image. -/
theorem first_at (w : Windows X W1 W2 W3 V1 V2 V3 B1 B2 B3 A1 A2 A3 E y0 y1 y2 y3 y4 y5 y6 y7 y8 y9 y10 y11 y12 y13 y14)
    (y x : Fin 112) (o : Fin 32) : k0_pay2 y0 y1 y2 (ix3 y x o) = enc1 X W1 B1 o y x :=
  conv1_at y0 y1 y2 (border 1 224 X) W1 B1 w.h0 w.h1 w.h2 y x o

/-- The rows to be quantised. -/
theorem latent_at (w : Windows X W1 W2 W3 V1 V2 V3 B1 B2 B3 A1 A2 A3 E y0 y1 y2 y3 y4 y5 y6 y7 y8 y9 y10 y11 y12 y13 y14)
    (v : View sig .tc .vmem S114x114x32 .f32) (n : Fin 3136) (o : Fin 64) :
    rowsZ (enc2 v (k0_pay2 y0 y1 y2) y3 y4) y5 y6 (ix2 n o) = latent (Model.enc2 (enc1 X W1 B1) W2 B2) W3 B3 o (n / 56) (n % 56) :=
  (rowsZ_at _ _ _ _ _).trans (conv64_at _ y5 y6 _ W3 B3 (enc2_at v _ y3 y4 (enc1 X W1 B1) W2 B2 (first_at w) w.h3 w.h4) w.h5 w.h6 n o)

/-- The quantised image. -/
theorem quantised_at (w : Windows X W1 W2 W3 V1 V2 V3 B1 B2 B3 A1 A2 A3 E y0 y1 y2 y3 y4 y5 y6 y7 y8 y9 y10 y11 y12 y13 y14)
    (v : View sig .tc .vmem S114x114x32 .f32) (y x : Fin 56) (o : Fin 64) :
    quant (rowsZ (enc2 v (k0_pay2 y0 y1 y2) y3 y4) y5 y6) (k0_pay19 y7) (k0_pay20 y7) y8 (ix3 y x o)
      = quantised two (latent (Model.enc2 (enc1 X W1 B1) W2 B2) W3 B3) E o y x := by
  rw [quant_at _ _ _ _ (score two (latent (Model.enc2 (enc1 X W1 B1) W2 B2) W3 B3) E y x) y x o fun k => ?_, w.h8]
  · rfl
  · rw [pay20_at, score, ← Fin.sum_univ_eq_sum_range (fun c => E k c * E k c), ← Fin.sum_univ_eq_sum_range (fun c => _ * E k c)]
    congr 1
    · exact sum_congr rfl fun c _ => by rw [w.h7]
    · congr 1
      refine sum_congr rfl fun c _ => ?_
      have h7 : k0_pay19 y7 (ix2 c k) = E k c := by
        pointwise [k0_pay19]
        exact w.h7 c k
      rw [h7, latent_at w]
      congr 2 <;> simp only <;> omega

/-- The first layer of the decoder inside its border. -/
theorem dec1_at (w : Windows X W1 W2 W3 V1 V2 V3 B1 B2 B3 A1 A2 A3 E y0 y1 y2 y3 y4 y5 y6 y7 y8 y9 y10 y11 y12 y13 y14)
    (Q : FVec Ideal S56x56x64 .f32) (q : Img) (hq : ∀ (y x : Fin 56) (o : Fin 64), Q (ix3 y x o) = q o y x) (y x : Fin 58) (o : Fin 64) :
    pad58 (relu56 (lin576 (cat9 (pad58 Q)) y9 y10)) (ix3 y x o) = border 1 56 (dec1 q V1 A1) o y x := by
  refine pad58_at _ _ (fun y x o => ?_) y x o
  rw [relu56_at, conv64_at _ y9 y10 _ V1 A1 (pad58_at Q q hq) w.h9 w.h10]
  unfold dec1
  congr 3 <;> simp only <;> omega

/-- The four phases of the decoder's second layer. -/
theorem phases_at (w : Windows X W1 W2 W3 V1 V2 V3 B1 B2 B3 A1 A2 A3 E y0 y1 y2 y3 y4 y5 y6 y7 y8 y9 y10 y11 y12 y13 y14)
    (v : View sig .tc .vmem S114x114x32 .f32) (n : Fin 3136) (l : Fin 128) :
    max (phases v y0 y1 y2 y3 y4 y5 y6 y7 y8 y9 y10 y11 y12 y13 y14 (ix2 n l)) 0
      = netDec2 X W1 W2 W3 V1 V2 B1 B2 B3 A1 A2 E (l % 32) (2 * (n / 56) + l / 64) (2 * (n % 56) + l / 32 % 2) := by
  unfold phases
  rw [conv128_at _ y11 y12 _ (fun o c t u => comb V2 (o / 64) (o / 32 % 2) (o % 32) c t u) (fun o => A2 (o % 32))
    (dec1_at w _ _ (quantised_at w v)) w.h11 w.h12, netDec2, dec2, ← conv_comb _ _ _ _ _ _ _ _ (by omega) (by omega)]
  rfl

/-- A lane of the last layer, from the half of the scratch array that starts at row `t`. -/
theorem last_at (w : Windows X W1 W2 W3 V1 V2 V3 B1 B2 B3 A1 A2 A3 E y0 y1 y2 y3 y4 y5 y6 y7 y8 y9 y10 y11 y12 y13 y14)
    (D : FVec Ideal S58x114x32 .f32) (H : Img) (t : ℕ)
    (hD : ∀ (y : Fin 58) (x : Fin 114) (o : Fin 32), D (ix3 y x o) = border 1 112 H o (t + y) x)
    (y : Fin 56) (x : Fin 112) (l : Fin 32) (hl : l.val % 8 < 3) :
    lin288 (cat9w D) y13 y14 (ix3 y x l) = recon H V3 A3 (l % 8) (2 * (t + y) + l / 16) (2 * x + l / 8 % 2) := by
  rw [conv288_at _ y13 y14 _ (fun o c t u => comb V3 (o / 16) (o / 8 % 2) (o % 8) c t u) (fun o => A3 (o % 8)) t hD y x l
    (fun k => w.h13 k l hl) (w.h14 l hl), recon, ← conv_comb _ _ _ _ _ _ _ _ (by omega) (by omega)]
  rfl

/-- A reading of 58 rows of the scratch array that holds the decoder's second layer. -/
theorem half_at (w : Windows X W1 W2 W3 V1 V2 V3 B1 B2 B3 A1 A2 A3 E y0 y1 y2 y3 y4 y5 y6 y7 y8 y9 y10 y11 y12 y13 y14)
    (v : View sig .tc .vmem S114x114x32 .f32) (t : ℕ) (ht : t ≤ 56) (inb) (y : Fin 58) (x : Fin 114) (o : Fin 32) :
    v.readCov (phaseWrites (phases v y0 y1 y2 y3 y4 y5 y6 y7 y8 y9 y10 y11 y12 y13 y14) (k0_pay2 y0 y1 y2))
        (Rect.unit (s := S114x114x32) ![t, 0, 0] S58x114x32.size inb).toLoadRect (ix3 y x o)
      = border 1 112 (netDec2 X W1 W2 W3 V1 V2 B1 B2 B3 A1 A2 E) o (t + y) x := by
  rw [View.readCov_eq_canon']
  refine Eq.trans (congrArg _ ?_) (canon_phases _ _ _ (phases_at w v) ⟨t + y, by omega⟩ x o)
  funext a
  apply Fin.ext
  fin_cases a
  · show t + 1 * y.val = _; simp
  · show 0 + 1 * x.val = _; simp
  · show 0 + 1 * o.val = _; simp

/-- The upper half. -/
theorem top_at (w : Windows X W1 W2 W3 V1 V2 V3 B1 B2 B3 A1 A2 A3 E y0 y1 y2 y3 y4 y5 y6 y7 y8 y9 y10 y11 y12 y13 y14)
    (v : View sig .tc .vmem S114x114x32 .f32) (y : Fin 56) (x : Fin 112) (l : Fin 32) (hl : l.val % 8 < 3) :
    lastTop v y0 y1 y2 y3 y4 y5 y6 y7 y8 y9 y10 y11 y12 y13 y14 (ix3 y x l)
      = recon (netDec2 X W1 W2 W3 V1 V2 B1 B2 B3 A1 A2 E) V3 A3 (l % 8) (2 * (0 + y) + l / 16) (2 * x + l / 8 % 2) :=
  last_at w _ _ 0 (half_at w v 0 (by norm_num) _) y x l hl

/-- The lower half. -/
theorem bot_at (w : Windows X W1 W2 W3 V1 V2 V3 B1 B2 B3 A1 A2 A3 E y0 y1 y2 y3 y4 y5 y6 y7 y8 y9 y10 y11 y12 y13 y14)
    (v : View sig .tc .vmem S114x114x32 .f32) (y : Fin 56) (x : Fin 112) (l : Fin 32) (hl : l.val % 8 < 3) :
    lastBot v y0 y1 y2 y3 y4 y5 y6 y7 y8 y9 y10 y11 y12 y13 y14 (ix3 y x l)
      = recon (netDec2 X W1 W2 W3 V1 V2 B1 B2 B3 A1 A2 E) V3 A3 (l % 8) (2 * (56 + y) + l / 16) (2 * x + l / 8 % 2) :=
  last_at w _ _ 56 (half_at w v 56 le_rfl _) y x l hl

/-- One of the twelve writes at an index of the output block. -/
theorem piece_at (a : FVec Ideal S56x112x32 .f32) (R : Img) (t c r : ℕ) (h0 h1)
    (ha : ∀ (y : Fin 56) (x : Fin 112) (l : Fin 32), l.val % 8 < 3 → a (ix3 y x l) = R (l % 8) (2 * (t + y) + l / 16) (2 * x + l / 8 % 2))
    (hc : c < 3) (hr : r < 2) (inb)
    (L : List (View.Piece (Elt Ideal) S1x3x112x2x224 .f32)) (C : Fin 3) (Y : Fin 112) (r' : Fin 2) (x : Fin 224)
    (miss : ¬ (C.val = c ∧ r'.val = r ∧ t ≤ Y.val ∧ Y.val < t + 56) →
      View.canon (Val := Elt Ideal) L (ix5 0 C Y r' x) = R C (2 * Y + r') x) :
    View.canon (Val := Elt Ideal) (⟨Rect.unit (s := S1x3x112x2x224) ![0, c, t, r, 0] S1x1x56x1x224.size inb,
      rowsOut weaveIdx (lane (16 * r + c) h0 a) (lane (16 * r + 8 + c) h1 a)⟩ :: L) (ix5 0 C Y r' x) = R C (2 * Y + r') x := by
  refine canon_at _ _ L _ _ (fun j hj => ?_) fun hm => miss fun hin => ?_
  · have e1 := congrArg (fun i => (i 1).val) hj
    have e2 := congrArg (fun i => (i 2).val) hj
    have e3 := congrArg (fun i => (i 3).val) hj
    have e4 := congrArg (fun i => (i 4).val) hj
    simp only [Rect.emb_apply] at e1 e2 e3 e4
    obtain ⟨j0, j1, y, j3, z, rfl⟩ : ∃ (j0 j1 : Fin 1) (y : Fin 56) (j3 : Fin 1) (z : Fin 224), j = ix5 j0 j1 y j3 z :=
      ⟨j 0, j 1, j 2, j 3, j 4, by funext a; fin_cases a <;> rfl⟩
    obtain rfl : j0 = 0 := Subsingleton.elim _ _
    obtain rfl : j1 = 0 := Subsingleton.elim _ _
    obtain rfl : j3 = 0 := Subsingleton.elim _ _
    change c + 1 * 0 = C.val at e1
    change t + 1 * y.val = Y.val at e2
    change r + 1 * 0 = r'.val at e3
    change 0 + 1 * z.val = x.val at e4
    refine (rowsOut_at _ _ y z).trans ?_
    rw [lane_at _ h0 (by omega), lane_at _ h1 (by omega), ha _ _ _ (by simp only; omega), ha _ _ _ (by simp only; omega)]
    simp only
    split_ifs <;> congr 1 <;> omega
  · refine hm (ix5 0 0 ⟨Y - t, by omega⟩ 0 x) ?_
    funext a
    apply Fin.ext
    rw [Rect.emb_apply]
    fin_cases a
    · rfl
    · show c + 1 * 0 = C.val; omega
    · show t + 1 * (Y.val - t) = Y.val; omega
    · show r + 1 * 0 = r'.val; omega
    · show 0 + 1 * x.val = x.val; omega

/-- The output block after the twelve writes, from the two halves of the last layer. -/
theorem outWrites_at (a0 a1 : FVec Ideal S56x112x32 .f32) (R : Img)
    (h0 : ∀ (y : Fin 56) (x : Fin 112) (l : Fin 32), l.val % 8 < 3 → a0 (ix3 y x l) = R (l % 8) (2 * (0 + y) + l / 16) (2 * x + l / 8 % 2))
    (h1 : ∀ (y : Fin 56) (x : Fin 112) (l : Fin 32), l.val % 8 < 3 → a1 (ix3 y x l) = R (l % 8) (2 * (56 + y) + l / 16) (2 * x + l / 8 % 2))
    (C : Fin 3) (Y : Fin 112) (r : Fin 2) (x : Fin 224) :
    View.canon (Val := Elt Ideal) (outWrites a0 a1) (ix5 0 C Y r x) = R C (2 * Y + r) x := by
  have n0 : 0 < 3 := by norm_num
  have n1 : 1 < 3 := by norm_num
  have n2 : 2 < 3 := by norm_num
  have m0 : 0 < 2 := by norm_num
  have m1 : 1 < 2 := by norm_num
  refine piece_at a1 R 56 2 1 _ _ h1 n2 m1 _ _ C Y r x fun k1 => ?_
  refine piece_at a1 R 56 1 1 _ _ h1 n1 m1 _ _ C Y r x fun k2 => ?_
  refine piece_at a1 R 56 0 1 _ _ h1 n0 m1 _ _ C Y r x fun k3 => ?_
  refine piece_at a1 R 56 2 0 _ _ h1 n2 m0 _ _ C Y r x fun k4 => ?_
  refine piece_at a1 R 56 1 0 _ _ h1 n1 m0 _ _ C Y r x fun k5 => ?_
  refine piece_at a1 R 56 0 0 _ _ h1 n0 m0 _ _ C Y r x fun k6 => ?_
  refine piece_at a0 R 0 2 1 _ _ h0 n2 m1 _ _ C Y r x fun k7 => ?_
  refine piece_at a0 R 0 1 1 _ _ h0 n1 m1 _ _ C Y r x fun k8 => ?_
  refine piece_at a0 R 0 0 1 _ _ h0 n0 m1 _ _ C Y r x fun k9 => ?_
  refine piece_at a0 R 0 2 0 _ _ h0 n2 m0 _ _ C Y r x fun k10 => ?_
  refine piece_at a0 R 0 1 0 _ _ h0 n1 m0 _ _ C Y r x fun k11 => ?_
  refine piece_at a0 R 0 0 0 _ _ h0 n0 m0 _ _ C Y r x fun k12 => ?_
  exfalso
  omega

end Cert.KernelIdeal.Hand
end
-- ==== Proof.KArr.lean ====
module

public import proofs.«01_k».proof.Proof.KNet
public import proofs.«01_k».proof.Proof.Gen.KernelIdeal.Value
public import Idealize.ShloMosaic.Lib.Pipeline.ValueKit

/-! The kernel's result array, from what its windows hold. -/

@[expose] public section
set_option maxRecDepth 16384
noncomputable section
namespace Cert.KernelIdeal.Hand
open Cert.KernelIdeal Cert.KernelIdeal.Gen Cert.KernelIdeal.Value Idealize.ShloMosaic Idealize.SL.Sem Cert.Model Finset
open Idealize.ShloMosaic.Pipeline (Dat)
variable (m : (ℓ : Loc nD τ sig) → Buf (Elt Ideal) ℓ) (ρ : Dev nD → PrngReg)

/-- A read of a whole block gives the block. -/
theorem read_whole {sp : Space} {S : Shape} {e : EltTy} (a : Memref sig .tc sp S e) (ha : a.IsWhole) (x : Vec Ideal S e)
    (off : Fin S.rank → ℕ) (h : off = fun _ => 0) (inb) :
    View.readAt (Elt Ideal) a.view (Rect.unit off S.size inb).toLoadRect (ha.unread x) = x := by
  rw [View.readAt_eq_ld, ha.read_unread, View.ld_unit_zero h]

/-- What grid point `t` leaves in the output block. -/
theorem point_at (c : Dev nD) (t : Fin cfg0.N) {X : Img} {W1 W2 W3 V1 V2 V3 : Wgt} {B1 B2 B3 A1 A2 A3 : ℕ → EReal} {E : ℕ → ℕ → EReal}
    (w : Windows X W1 W2 W3 V1 V2 V3 B1 B2 B3 A1 A2 A3 E (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t))
    (C : Fin 3) (Y : Fin 112) (r : Fin 2) (x : Fin 224) :
    outsAt0 m c t (ix5 0 C Y r x) = recon (netDec2 X W1 W2 W3 V1 V2 B1 B2 B3 A1 A2 E) V3 A3 C (2 * Y + r) x := by
  have z2 : (![0, 0] : Fin 2 → ℕ) = fun _ => 0 := by decide
  have z4 : (![0, 0, 0, 0] : Fin 4 → ℕ) = fun _ => 0 := by decide
  unfold outsAt0 out0_A_15
  rw [View.read_writes_junk_eq_canon, writes_eq (h0 := read_whole _ _ _ _ z4 _) (h1 := read_whole _ _ _ _ z2 _) (h2 := read_whole _ _ _ _ z2 _) (h3 := read_whole _ _ _ _ z2 _) (h4 := read_whole _ _ _ _ z2 _) (h5 := read_whole _ _ _ _ z2 _) (h6 := read_whole _ _ _ _ z2 _) (h7 := read_whole _ _ _ _ z2 _) (h8 := read_whole _ _ _ _ z2 _) (h9 := read_whole _ _ _ _ z2 _) (h10 := read_whole _ _ _ _ z2 _) (h11 := read_whole _ _ _ _ z2 _) (h12 := read_whole _ _ _ _ z2 _) (h13 := read_whole _ _ _ _ z2 _) (h14 := read_whole _ _ _ _ z2 _)]
  exact outWrites_at _ _ _ (top_at w _) (bot_at w _) C Y r x

end Cert.KernelIdeal.Hand
end
-- ==== Proof.Ext.lean ====
module

public import proofs.«01_k».proof.Proof.Net
public import Idealize.ShloMosaic.Lib.Pointwise.Index
@[expose] public section
noncomputable section
/-! Arrays as functions on the naturals: the entry where there is one, zero elsewhere. -/
namespace Cert.Model

/-- A vector. -/
def ext1 {A : ℕ} (f : Fin A → EReal) : ℕ → EReal := fun i => if h : i < A then f ⟨i, h⟩ else 0
/-- A matrix. -/
def ext2 {A B : ℕ} (f : Fin A → Fin B → EReal) : ℕ → ℕ → EReal := fun i => ext1 fun j => ext1 (fun a => f a j) i
/-- An array of three axes. -/
def ext3 {A B C : ℕ} (f : Fin A → Fin B → Fin C → EReal) : ℕ → ℕ → ℕ → EReal := fun i j => ext1 fun k => ext2 (fun a b => f a b k) i j
/-- An array of four axes. -/
def ext4 {A B C D : ℕ} (f : Fin A → Fin B → Fin C → Fin D → EReal) : ℕ → ℕ → ℕ → ℕ → EReal :=
  fun i j k => ext1 fun l => ext3 (fun a b c => f a b c l) i j k

/-- Inside the array the function of one number is the array's entry. -/
theorem ext1_mk {A : ℕ} (f : Fin A → EReal) (i : ℕ) (h : i < A) : ext1 f i = f ⟨i, h⟩ := dif_pos h
/-- Inside the array the function of two numbers is the array's entry. -/
theorem ext2_mk {A B : ℕ} (f : Fin A → Fin B → EReal) (i j : ℕ) (hi : i < A) (hj : j < B) : ext2 f i j = f ⟨i, hi⟩ ⟨j, hj⟩ := by
  unfold ext2; rw [ext1_mk _ _ hj, ext1_mk _ _ hi]
/-- Inside the array the function of three numbers is the array's entry. -/
theorem ext3_mk {A B C : ℕ} (f : Fin A → Fin B → Fin C → EReal) (i j k : ℕ) (hi : i < A) (hj : j < B) (hk : k < C) :
    ext3 f i j k = f ⟨i, hi⟩ ⟨j, hj⟩ ⟨k, hk⟩ := by
  unfold ext3; rw [ext1_mk _ _ hk, ext2_mk _ _ _ hi hj]
/-- Inside the array the function of four numbers is the array's entry. -/
theorem ext4_mk {A B C D : ℕ} (f : Fin A → Fin B → Fin C → Fin D → EReal) (i j k l : ℕ) (hi : i < A) (hj : j < B) (hk : k < C) (hl : l < D) :
    ext4 f i j k l = f ⟨i, hi⟩ ⟨j, hj⟩ ⟨k, hk⟩ ⟨l, hl⟩ := by
  unfold ext4; rw [ext1_mk _ _ hl, ext3_mk _ _ _ _ hi hj hk]

open Idealize.ShloMosaic

/-- One image of a batch. -/
def image {B C H W : ℕ} (a : (⟨4, ![B, C, H, W]⟩ : Shape).Idx → EReal) (n : Fin B) : Img := ext3 fun c y x => a (ix4 n c y x)
/-- The weights of a convolution, output channel first. -/
def weights {O C K : ℕ} (a : (⟨4, ![O, C, K, K]⟩ : Shape).Idx → EReal) : Wgt := ext4 fun o c u v => a (ix4 o c u v)
/-- The weights of a transposed convolution, input channel first, turned by half a turn. -/
def turned {I O K : ℕ} (a : (⟨4, ![I, O, K, K]⟩ : Shape).Idx → EReal) : Wgt := ext4 fun o c u v => a (ix4 c o u.rev v.rev)
/-- A bias. -/
def bias {N : ℕ} (a : (⟨1, ![N]⟩ : Shape).Idx → EReal) : ℕ → EReal := ext1 fun i => a (ix1 i)
/-- The codebook. -/
def codes {K D : ℕ} (a : (⟨2, ![K, D]⟩ : Shape).Idx → EReal) : ℕ → ℕ → EReal := ext2 fun k d => a (ix2 k d)

end Cert.Model
end
-- ==== Proof.KComb.lean ====
module

public import proofs.«01_k».proof.Proof.KArr
public import proofs.«01_k».proof.Proof.Ext
public import Idealize.ShloMosaic.Lib.StableHlo.RunRead
public import Idealize.ShloMosaic.Lib.Routing.OpsPair
public import Idealize.ShloMosaic.Lib.Routing.OpsSet
@[expose] public section
set_option maxRecDepth 16384
noncomputable section
namespace Cert.KernelIdeal.Hand
open Cert.KernelIdeal Cert.KernelIdeal.Gen Cert.KernelIdeal.Value Idealize.ShloMosaic Idealize.SL.Sem Cert.Model Finset Idealize.ShloMosaic.Routing

/-- Four single words side by side. -/
def quad (a b c d : IVec S1 32) : IVec S4 32 := concatenate S4 0 [⟨S1, a⟩, ⟨S1, b⟩, ⟨S1, c⟩, ⟨S1, d⟩] concatenates_S1_S1_S1_S1_S4_d0

/-- The printed concatenation is `quad`. -/
theorem quad_eq (a b c d : IVec S1 32) :
   concatenate S4 0 [⟨S1, a⟩, ⟨S1, b⟩, ⟨S1, c⟩, ⟨S1, d⟩] concatenates_S1_S1_S1_S1_S4_d0 = quad a b c d := rfl

/-- A word as a vector of one. -/
def one (a : BitVec 32) : IVec S1 32 := broadcastInDim S1 ![] bcast_S_S1 (constantI S_ 32 a)

/-- The word at each of the four places. -/
theorem quad_at (a b c d : BitVec 32) (k : Fin 4) : quad (one a) (one b) (one c) (one d) (ix1 k) = ![a, b, c, d] k := by
  fin_cases k <;> pointwise [quad, one]

/-- Writing one plane of `C` by `O` at the corner `(t, u, r, s)` of an array `(3, 3, C, 2, 2, O)`. -/
def corner (C O : ℕ) (wf : ScatterDims.WF ⟨6, ![3, 3, C, 2, 2, O]⟩ S4 ⟨2, ![C, O]⟩ [0, 1] [0, 1, 3, 4] [0, 1, 3, 4] 0) :
    ScatterDims ⟨6, ![3, 3, C, 2, 2, O]⟩ S4 ⟨2, ![C, O]⟩ where
  updateWindowDims := [0, 1]
  insertedWindowDims := [0, 1, 3, 4]
  scatterDimsToOperandDims := [0, 1, 3, 4]
  indexVectorDim := 0
  wf := wf

/-- Where an entry of the plane lands: at the corner the four words name, at its own row and column. -/
theorem lands (C O : ℕ) (wf) (i : IVec S4 32) (c' : Fin C) (o' : Fin O) (t u : Fin 3) (c : Fin C) (r s : Fin 2) (o : Fin O) :
    (corner C O wf).resultIdx? (ix2 c' o') i = some (ix6 t u c r s o) ↔
      ((i (ix1 0)).toInt = t.val ∧ (i (ix1 1)).toInt = u.val ∧ (i (ix1 2)).toInt = r.val ∧ (i (ix1 3)).toInt = s.val) ∧ c' = c ∧ o' = o := by
  rw [resultIdx?_eq_some]
  have e : ∀ p : Fin 4, (corner C O wf).siIdx (ix2 c' o') p = ix1 p := fun p => funext fun b => by fin_cases b; rfl
  have h0 : (corner C O wf).start (ix2 c' o') i 0 = (i (ix1 0)).toInt := by rw [← e 0]; rfl
  have h1 : (corner C O wf).start (ix2 c' o') i 1 = (i (ix1 1)).toInt := by rw [← e 1]; rfl
  have h2 : (corner C O wf).start (ix2 c' o') i 2 = 0 := rfl
  have h3 : (corner C O wf).start (ix2 c' o') i 3 = (i (ix1 2)).toInt := by rw [← e 2]; rfl
  have h4 : (corner C O wf).start (ix2 c' o') i 4 = (i (ix1 3)).toInt := by rw [← e 3]; rfl
  have h5 : (corner C O wf).start (ix2 c' o') i 5 = 0 := rfl
  have w0 : (corner C O wf).window (ix2 c' o') 0 = 0 := rfl
  have w1 : (corner C O wf).window (ix2 c' o') 1 = 0 := rfl
  have w2 : (corner C O wf).window (ix2 c' o') 2 = c'.val := rfl
  have w3 : (corner C O wf).window (ix2 c' o') 3 = 0 := rfl
  have w4 : (corner C O wf).window (ix2 c' o') 4 = 0 := rfl
  have w5 : (corner C O wf).window (ix2 c' o') 5 = o'.val := rfl
  constructor
  · intro h
    have a0 := h 0; have a1 := h 1; have a2 := h 2; have a3 := h 3; have a4 := h 4; have a5 := h 5
    rw [h0, w0] at a0; rw [h1, w1] at a1; rw [h2, w2] at a2; rw [h3, w3] at a3; rw [h4, w4] at a4; rw [h5, w5] at a5
    change _ = ((t.val : ℕ) : ℤ) at a0
    change _ = ((u.val : ℕ) : ℤ) at a1
    change _ = ((c.val : ℕ) : ℤ) at a2
    change _ = ((r.val : ℕ) : ℤ) at a3
    change _ = ((s.val : ℕ) : ℤ) at a4
    change _ = ((o.val : ℕ) : ℤ) at a5
    refine ⟨⟨by omega, by omega, by omega, by omega⟩, Fin.ext (by omega), Fin.ext (by omega)⟩
  · rintro ⟨⟨a0, a1, a3, a4⟩, rfl, rfl⟩ a
    fin_cases a
    · exact (congrArg₂ (· + ·) h0 (congrArg Nat.cast w0)).trans (by rw [a0]; exact add_zero _)
    · exact (congrArg₂ (· + ·) h1 (congrArg Nat.cast w1)).trans (by rw [a1]; exact add_zero _)
    · exact (congrArg₂ (· + ·) h2 (congrArg Nat.cast w2)).trans (zero_add _)
    · exact (congrArg₂ (· + ·) h3 (congrArg Nat.cast w3)).trans (by rw [a3]; exact add_zero _)
    · exact (congrArg₂ (· + ·) h4 (congrArg Nat.cast w4)).trans (by rw [a4]; exact add_zero _)
    · exact (congrArg₂ (· + ·) h5 (congrArg Nat.cast w5)).trans (zero_add _)

/-- A written corner read back: the plane at the corner, the array as it was elsewhere. -/
theorem put_at (C O : ℕ) (wf) (a b d e : BitVec 32) (A : (⟨6, ![3, 3, C, 2, 2, O]⟩ : Shape).Idx → EReal) (U : (⟨2, ![C, O]⟩ : Shape).Idx → EReal)
    (t u : Fin 3) (c : Fin C) (r s : Fin 2) (o : Fin O) :
    Host.scatter (corner C O wf) (fun _ b => b) A (quad (one a) (one b) (one d) (one e)) U (ix6 t u c r s o)
      = if a.toInt = t.val ∧ b.toInt = u.val ∧ d.toInt = r.val ∧ e.toInt = s.val then U (ix2 c o) else A (ix6 t u c r s o) := by
  have key : ∀ c' o', (corner C O wf).resultIdx? (ix2 c' o') (quad (one a) (one b) (one d) (one e)) = some (ix6 t u c r s o)
      ↔ (a.toInt = t.val ∧ b.toInt = u.val ∧ d.toInt = r.val ∧ e.toInt = s.val) ∧ c' = c ∧ o' = o := by
    intro c' o'
    rw [lands, quad_at, quad_at, quad_at, quad_at]
    rfl
  have every : ∀ k : (⟨2, ![C, O]⟩ : Shape).Idx, ∃ c' : Fin C, ∃ o' : Fin O, k = ix2 c' o' :=
    fun k => ⟨k 0, k 1, funext fun b => by fin_cases b <;> rfl⟩
  by_cases hit : a.toInt = t.val ∧ b.toInt = u.val ∧ d.toInt = r.val ∧ e.toInt = s.val
  · rw [if_pos hit]
    refine scatter_set_hit (corner C O wf) _ _ _ _ _ (fun k hk => ?_) (ix2 c o) ((key c o).2 ⟨hit, rfl, rfl⟩)
    obtain ⟨c', o', rfl⟩ := every k
    obtain ⟨-, rfl, rfl⟩ := (key c' o').1 hk
    rfl
  · rw [if_neg hit]
    refine scatter_set_miss (corner C O wf) _ _ _ _ fun k hk => ?_
    obtain ⟨c', o', rfl⟩ := every k
    exact hit ((key c' o').1 hk).1

/-- `put_at` for the planes of the first transposed convolution of stride two. -/
theorem put64_at (a b d e : BitVec 32) (A : FVec Ideal S3x3x64x2x2x32 .f32) (U : FVec Ideal S64x32 .f32)
    (t u : Fin 3) (c : Fin 64) (r s : Fin 2) (o : Fin 32) :
    Host.scatter scatter_S3x3x64x2x2x32_S4_S64x32_01_0134_0134_0 (fun _ b => b) A (quad (one a) (one b) (one d) (one e)) U (ix6 t u c r s o)
      = if a.toInt = t.val ∧ b.toInt = u.val ∧ d.toInt = r.val ∧ e.toInt = s.val then U (ix2 c o) else A (ix6 t u c r s o) :=
  put_at 64 32 _ a b d e A U t u c r s o

/-- `put_at` for the planes of the second. -/
theorem put32_at (a b d e : BitVec 32) (A : FVec Ideal S3x3x32x2x2x8 .f32) (U : FVec Ideal S32x8 .f32)
    (t u : Fin 3) (c : Fin 32) (r s : Fin 2) (o : Fin 8) :
    Host.scatter scatter_S3x3x32x2x2x8_S4_S32x8_01_0134_0134_0 (fun _ b => b) A (quad (one a) (one b) (one d) (one e)) U (ix6 t u c r s o)
      = if a.toInt = t.val ∧ b.toInt = u.val ∧ d.toInt = r.val ∧ e.toInt = s.val then U (ix2 c o) else A (ix6 t u c r s o) :=
  put_at 32 8 _ a b d e A U t u c r s o

/-- The printed vector of one word is `one`. -/
theorem one_eq (a : BitVec 32) : broadcastInDim S1 ![] bcast_S_S1 (constantI S_ 32 a) = one a := rfl

/-- The plane `(kh, kw)` of the first weights. -/
theorem plane64_at (w : FVec Ideal S4x4x64x32 .f32) (kh kw : ℕ) (h : S4x4x64x32.Slices ![kh, kw, 0, 0] S1x1x64x32) (hh : kh < 4) (hw : kw < 4)
    (c : Fin 64) (o : Fin 32) :
    shapeCast S64x32 (extractStridedSlice S1x1x64x32 ![kh, kw, 0, 0] w h) shapeCasts_S1x1x64x32_S64x32 (ix2 c o) = w (ix4 ⟨kh, hh⟩ ⟨kw, hw⟩ c o) := by
  pointwise

/-- The plane `(kh, kw)` of the second weights. -/
theorem plane32_at (w : FVec Ideal S4x4x32x8 .f32) (kh kw : ℕ) (h : S4x4x32x8.Slices ![kh, kw, 0, 0] S1x1x32x8) (hh : kh < 4) (hw : kw < 4)
    (c : Fin 32) (o : Fin 8) :
    shapeCast S32x8 (extractStridedSlice S1x1x32x8 ![kh, kw, 0, 0] w h) shapeCasts_S1x1x32x8_S32x8 (ix2 c o) = w (ix4 ⟨kh, hh⟩ ⟨kw, hw⟩ c o) := by
  pointwise

/-- Weights in the order height, width, input, output, as the network counts them. -/
def asWgt64 (w : FVec Ideal S4x4x64x32 .f32) : Wgt := ext4 fun (o : Fin 32) (c : Fin 64) u v => w (ix4 u v c o)
/-- `asWgt64` for the last layer. -/
def asWgt32 (w : FVec Ideal S4x4x32x8 .f32) : Wgt := ext4 fun (o : Fin 8) (c : Fin 32) u v => w (ix4 u v c o)

/-- Every plane of the first weights lies inside them. -/
theorem slices64 : ∀ kh kw : Fin 4, S4x4x64x32.Slices ![kh.val, kw.val, 0, 0] S1x1x64x32 := by decide
/-- Every plane of the last weights lies inside them. -/
theorem slices32 : ∀ kh kw : Fin 4, S4x4x32x8.Slices ![kh.val, kw.val, 0, 0] S1x1x32x8 := by decide

/-- One plane of the weights written at its corner. -/
def tap64 (w : FVec Ideal S4x4x64x32 .f32) (t u r s : BitVec 32) (kh kw : Fin 4) (A : FVec Ideal S3x3x64x2x2x32 .f32) : FVec Ideal S3x3x64x2x2x32 .f32 :=
  Host.scatter scatter_S3x3x64x2x2x32_S4_S64x32_01_0134_0134_0 (fun _ b => b) A (quad (one t) (one u) (one r) (one s))
    (shapeCast S64x32 (extractStridedSlice S1x1x64x32 ![kh.val, kw.val, 0, 0] w (slices64 kh kw)) shapeCasts_S1x1x64x32_S64x32)
/-- The four planes of one row of the weights. -/
def row64 (w : FVec Ideal S4x4x64x32 .f32) (t r : BitVec 32) (kh : Fin 4) (A : FVec Ideal S3x3x64x2x2x32 .f32) : FVec Ideal S3x3x64x2x2x32 .f32 :=
  tap64 w t 2#32 r 1#32 kh 3 (tap64 w t 1#32 r 1#32 kh 1 (tap64 w t 1#32 r 0#32 kh 2 (tap64 w t 0#32 r 0#32 kh 0 A)))
/-- The combined weights: every row written over zeros. -/
def all64 (w : FVec Ideal S4x4x64x32 .f32) : FVec Ideal S3x3x64x2x2x32 .f32 :=
  row64 w 2#32 1#32 3 (row64 w 1#32 1#32 1 (row64 w 1#32 0#32 2 (row64 w 0#32 0#32 0
    (broadcastInDim S3x3x64x2x2x32 ![] bcast_S_S3x3x64x2x2x32 (constant S_ .f32 0x00000000#32)))))

/-- `tap64` for the last layer. -/
def tap32 (w : FVec Ideal S4x4x32x8 .f32) (t u r s : BitVec 32) (kh kw : Fin 4) (A : FVec Ideal S3x3x32x2x2x8 .f32) : FVec Ideal S3x3x32x2x2x8 .f32 :=
  Host.scatter scatter_S3x3x32x2x2x8_S4_S32x8_01_0134_0134_0 (fun _ b => b) A (quad (one t) (one u) (one r) (one s))
    (shapeCast S32x8 (extractStridedSlice S1x1x32x8 ![kh.val, kw.val, 0, 0] w (slices32 kh kw)) shapeCasts_S1x1x32x8_S32x8)
/-- `row64` for the last layer. -/
def row32 (w : FVec Ideal S4x4x32x8 .f32) (t r : BitVec 32) (kh : Fin 4) (A : FVec Ideal S3x3x32x2x2x8 .f32) : FVec Ideal S3x3x32x2x2x8 .f32 :=
  tap32 w t 2#32 r 1#32 kh 3 (tap32 w t 1#32 r 1#32 kh 1 (tap32 w t 1#32 r 0#32 kh 2 (tap32 w t 0#32 r 0#32 kh 0 A)))
/-- `all64` for the last layer. -/
def all32 (w : FVec Ideal S4x4x32x8 .f32) : FVec Ideal S3x3x32x2x2x8 .f32 :=
  row32 w 2#32 1#32 3 (row32 w 1#32 1#32 1 (row32 w 1#32 0#32 2 (row32 w 0#32 0#32 0
    (broadcastInDim S3x3x32x2x2x8 ![] bcast_S_S3x3x32x2x2x8 (constant S_ .f32 0x00000000#32)))))

/-- Writing a plane changes the entries of its corner and no other. -/
theorem tap64_at (w : FVec Ideal S4x4x64x32 .f32) (a b d e : BitVec 32) (kh kw : Fin 4) (A : FVec Ideal S3x3x64x2x2x32 .f32)
    (t u : Fin 3) (c : Fin 64) (r s : Fin 2) (o : Fin 32) :
    tap64 w a b d e kh kw A (ix6 t u c r s o)
      = if a.toInt = t.val ∧ b.toInt = u.val ∧ d.toInt = r.val ∧ e.toInt = s.val then asWgt64 w o c kh kw else A (ix6 t u c r s o) := by
  unfold tap64 asWgt64
  rw [put64_at, plane64_at _ _ _ _ kh.isLt kw.isLt, ext4_mk _ _ _ _ _ o.isLt c.isLt kh.isLt kw.isLt]

/-- `tap64_at` for the last layer. -/
theorem tap32_at (w : FVec Ideal S4x4x32x8 .f32) (a b d e : BitVec 32) (kh kw : Fin 4) (A : FVec Ideal S3x3x32x2x2x8 .f32)
    (t u : Fin 3) (c : Fin 32) (r s : Fin 2) (o : Fin 8) :
    tap32 w a b d e kh kw A (ix6 t u c r s o)
      = if a.toInt = t.val ∧ b.toInt = u.val ∧ d.toInt = r.val ∧ e.toInt = s.val then asWgt32 w o c kh kw else A (ix6 t u c r s o) := by
  unfold tap32 asWgt32
  rw [put32_at, plane32_at _ _ _ _ kh.isLt kw.isLt, ext4_mk _ _ _ _ _ o.isLt c.isLt kh.isLt kw.isLt]

/-- The array written over starts at zero. -/
theorem zero64_at (t u : Fin 3) (c : Fin 64) (r s : Fin 2) (o : Fin 32) :
    (broadcastInDim S3x3x64x2x2x32 ![] bcast_S_S3x3x64x2x2x32 (constant S_ .f32 0x00000000#32) : FVec Ideal S3x3x64x2x2x32 .f32) (ix6 t u c r s o) = (0 : EReal) := by
  pointwise
/-- `zero64_at` for the last layer. -/
theorem zero32_at (t u : Fin 3) (c : Fin 32) (r s : Fin 2) (o : Fin 8) :
    (broadcastInDim S3x3x32x2x2x8 ![] bcast_S_S3x3x32x2x2x8 (constant S_ .f32 0x00000000#32) : FVec Ideal S3x3x32x2x2x8 .f32) (ix6 t u c r s o) = (0 : EReal) := by
  pointwise

/-- The three words used as corner places. -/
theorem words : (0#32).toInt = 0 ∧ (1#32).toInt = 1 ∧ (2#32).toInt = 2 := by decide

/-- Reading the combined weights. -/
theorem all64_at (w : FVec Ideal S4x4x64x32 .f32) (t u : Fin 3) (c : Fin 64) (r s : Fin 2) (o : Fin 32) :
    all64 w (ix6 t u c r s o) = comb (asWgt64 w) r s o c t u := by
  unfold all64 row64 comb
  simp only [tap64_at, words]
  fin_cases t <;> fin_cases u <;> fin_cases r <;> fin_cases s <;> simp
  all_goals exact zero64_at _ _ _ _ _ _

/-- Reading the combined weights of the last layer. -/
theorem all32_at (w : FVec Ideal S4x4x32x8 .f32) (t u : Fin 3) (c : Fin 32) (r s : Fin 2) (o : Fin 8) :
    all32 w (ix6 t u c r s o) = comb (asWgt32 w) r s o c t u := by
  unfold all32 row32 comb
  simp only [tap32_at, words]
  fin_cases t <;> fin_cases u <;> fin_cases r <;> fin_cases s <;> simp
  all_goals exact zero32_at _ _ _ _ _ _

end Cert.KernelIdeal.Hand
end
-- ==== Proof.KHost.lean ====
module

public import proofs.«01_k».proof.Proof.KComb
public import Idealize.ShloMosaic.Lib.StableHlo.RunRead
@[expose] public section
set_option maxRecDepth 16384
noncomputable section
namespace Cert.KernelIdeal.Hand
open Cert.KernelIdeal Cert.KernelIdeal.Gen Cert.KernelIdeal.Value Idealize.ShloMosaic Idealize.SL.Sem Cert.Model Finset
variable (m : (ℓ : Loc nD τ sig) → Buf (Elt Ideal) ℓ)

/-- The images. -/
abbrev a0 (c : Dev nD) : FVec Ideal S8x3x224x224 .f32 := m (c, Proc.tc.devRef main_arg0)
/-- The first weights. -/
abbrev a1 (c : Dev nD) : FVec Ideal S32x3x4x4 .f32 := m (c, Proc.tc.devRef main_arg1)
/-- The first bias. -/
abbrev a2 (c : Dev nD) : FVec Ideal S32 .f32 := m (c, Proc.tc.devRef main_arg2)
/-- The second weights. -/
abbrev a3 (c : Dev nD) : FVec Ideal S64x32x4x4 .f32 := m (c, Proc.tc.devRef main_arg3)
/-- The second bias. -/
abbrev a4 (c : Dev nD) : FVec Ideal S64 .f32 := m (c, Proc.tc.devRef main_arg4)
/-- The third weights. -/
abbrev a5 (c : Dev nD) : FVec Ideal S64x64x3x3 .f32 := m (c, Proc.tc.devRef main_arg5)
/-- The third bias. -/
abbrev a6 (c : Dev nD) : FVec Ideal S64 .f32 := m (c, Proc.tc.devRef main_arg6)
/-- The codebook. -/
abbrev a7 (c : Dev nD) : FVec Ideal S1024x64 .f32 := m (c, Proc.tc.devRef main_arg7)
/-- The weights of the first decoder layer. -/
abbrev a8 (c : Dev nD) : FVec Ideal S64x64x3x3 .f32 := m (c, Proc.tc.devRef main_arg8)
/-- The bias of the first decoder layer. -/
abbrev a9 (c : Dev nD) : FVec Ideal S64 .f32 := m (c, Proc.tc.devRef main_arg9)
/-- The weights of the second decoder layer. -/
abbrev a10 (c : Dev nD) : FVec Ideal S64x32x4x4 .f32 := m (c, Proc.tc.devRef main_arg10)
/-- The bias of the second decoder layer. -/
abbrev a11 (c : Dev nD) : FVec Ideal S32 .f32 := m (c, Proc.tc.devRef main_arg11)
/-- The weights of the last layer. -/
abbrev a12 (c : Dev nD) : FVec Ideal S32x3x4x4 .f32 := m (c, Proc.tc.devRef main_arg12)
/-- The bias of the last layer. -/
abbrev a13 (c : Dev nD) : FVec Ideal S3 .f32 := m (c, Proc.tc.devRef main_arg13)

/-- The image with one row and column of zeros around it. -/
theorem padded_at (a : FVec Ideal S8x3x224x224 .f32) (n : Fin 8) (ch : Fin 3) (y x : Fin 226) :
    pad S8x3x226x226 ![0, 0, 1, 1] ![0, 0, 1, 1] ![0, 0, 0, 0] a (sitofp .f32 (constantI S_ 32 0#32) : FVec Ideal S_ .f32)
      pads_S8x3x224x224_S8x3x226x226_000_000_110_110 h_S_ (ix4 n ch y x) = border 1 224 (image a n) ch y x := by
  pointwise
  unfold border Model.image
  by_cases h : (1 ≤ y.val ∧ y.val < 1 + 224) ∧ (1 ≤ x.val ∧ x.val < 1 + 224)
  · rw [if_pos h]
    refine (dif_pos ?_).trans ?_
    · omega
    · rw [ext3_mk _ _ _ _ ch.isLt (by omega) (by omega)]
  · rw [if_neg h]
    refine (dif_neg ?_).trans ?_
    · omega
    · pointwise
      show (((0#32 : BitVec 32).toInt : ℝ) : EReal) = 0
      norm_num

/-- Weights reversed in height and width are the turned weights. -/
theorem turn64_at (a : FVec Ideal S64x64x3x3 .f32) (o c : Fin 64) (u v : Fin 3) :
    Host.reverse [2, 3] a (ix4 c o u v) = turned a o c u v := by
  unfold turned
  rw [ext4_mk _ _ _ _ _ o.isLt c.isLt u.isLt v.isLt]
  pointwise
  rfl

/-- What window 0 is cut from: the padded image, split into even and odd rows and columns. -/
theorem host0 (c : Dev nD) (n : Fin 8) (y x : Fin 113) (k : Fin 12) :
    (V m c main_v3 : FVec Ideal S8x113x113x12 .f32) (ix4 n y x k) = border 1 224 (image (a0 m c) n) (k.val % 3) (2 * y.val + k.val / 6) (2 * x.val + k.val / 3 % 2) := by
  unfold V
  after_reads_simp
  pointwise
  refine (padded_at (a0 m c) n ⟨k.val % 3, by omega⟩ ⟨y.val * 2 + k.val / 6, by omega⟩ ⟨x.val * 2 + k.val / 3 % 2, by omega⟩).trans ?_
  rw [mul_comm 2 y.val, mul_comm 2 x.val]

/-- What window 1 is cut from: the first weights, one row for each tap and channel. -/
theorem host1 (c : Dev nD) (k : Fin 48) (o : Fin 32) : (V m c main_v13 : FVec Ideal S48x32 .f32) (ix2 k o)
    = weights (a1 m c) o (k.val % 3) (2 * (k.val / 24) + k.val / 6 % 2) (2 * (k.val / 12 % 2) + k.val / 3 % 2) := by
  unfold V weights
  after_reads_simp
  rw [mul_comm 2, mul_comm 2, ext4_mk _ _ _ _ _ o.isLt (by omega) (by omega) (by omega)]
  pointwise

/-- What window 2 is cut from: the first bias. -/
theorem host2 (c : Dev nD) (o : Fin 32) : (V m c main_v14 : FVec Ideal S1x32 .f32) (ix2 0 o) = bias (a2 m c) o := by
  unfold V bias
  after_reads_simp
  rw [ext1_mk _ _ o.isLt]
  pointwise

/-- What window 3 is cut from: the second weights, one row for each tap and channel. -/
theorem host3 (c : Dev nD) (k : Fin 512) (o : Fin 64) : (V m c main_v16 : FVec Ideal S512x64 .f32) (ix2 k o)
    = weights (a3 m c) o (k.val % 32) (k.val / 32 / 4) (k.val / 32 % 4) := by
  unfold V weights
  after_reads_simp
  rw [ext4_mk _ _ _ _ _ o.isLt (by omega) (by omega) (by omega)]
  pointwise
  simp only [Nat.div_div_eq_div_mul]

/-- What window 4 is cut from: the second bias. -/
theorem host4 (c : Dev nD) (o : Fin 64) : (V m c main_v17 : FVec Ideal S1x64 .f32) (ix2 0 o) = bias (a4 m c) o := by
  unfold V bias
  after_reads_simp
  rw [ext1_mk _ _ o.isLt]
  pointwise

/-- What window 5 is cut from: the third weights, one row for each tap and channel. -/
theorem host5 (c : Dev nD) (k : Fin 576) (o : Fin 64) : (V m c main_v19 : FVec Ideal S576x64 .f32) (ix2 k o)
    = weights (a5 m c) o (k.val % 64) (k.val / 64 / 3) (k.val / 64 % 3) := by
  unfold V weights
  after_reads_simp
  rw [ext4_mk _ _ _ _ _ o.isLt (by omega) (by omega) (by omega)]
  pointwise
  simp only [Nat.div_div_eq_div_mul]

/-- What window 6 is cut from: the third bias. -/
theorem host6 (c : Dev nD) (o : Fin 64) : (V m c main_v20 : FVec Ideal S1x64 .f32) (ix2 0 o) = bias (a6 m c) o := by
  unfold V bias
  after_reads_simp
  rw [ext1_mk _ _ o.isLt]
  pointwise

/-- What window 7 is cut from: the codebook, transposed. -/
theorem host7 (c : Dev nD) (d : Fin 64) (k : Fin 1024) : (V m c main_v21 : FVec Ideal S64x1024 .f32) (ix2 d k) = codes (a7 m c) k d := by
  unfold V codes
  after_reads_simp
  rw [ext2_mk _ _ _ k.isLt d.isLt]
  pointwise

/-- What window 8 is cut from: the codebook. -/
theorem host8 (c : Dev nD) (k : Fin 1024) (d : Fin 64) : (V m c main_arg7 : FVec Ideal S1024x64 .f32) (ix2 k d) = codes (a7 m c) k d := by
  unfold V codes
  after_reads_simp
  rw [ext2_mk _ _ _ k.isLt d.isLt]

/-- What window 9 is cut from: the turned weights of the first decoder layer, one row for each tap and channel. -/
theorem host9 (c : Dev nD) (k : Fin 576) (o : Fin 64) : (V m c main_v23 : FVec Ideal S576x64 .f32) (ix2 k o)
    = turned (a8 m c) o (k.val % 64) (k.val / 64 / 3) (k.val / 64 % 3) := by
  unfold V
  after_reads_simp
  pointwise
  refine (turn64_at (a8 m c) o ⟨k.val % 64, by omega⟩ ⟨k.val / 192, by omega⟩ ⟨k.val / 64 % 3, by omega⟩).trans ?_
  rw [Nat.div_div_eq_div_mul]

/-- What window 10 is cut from: the bias of the first decoder layer. -/
theorem host10 (c : Dev nD) (o : Fin 64) : (V m c main_v24 : FVec Ideal S1x64 .f32) (ix2 0 o) = bias (a9 m c) o := by
  unfold V bias
  after_reads_simp
  rw [ext1_mk _ _ o.isLt]
  pointwise

/-- What window 12 is cut from: the bias of the second decoder layer, once for each phase. -/
theorem host12 (c : Dev nD) (o : Fin 128) : (V m c main_v159 : FVec Ideal S1x128 .f32) (ix2 0 o) = bias (a11 m c) (o.val % 32) := by
  unfold V bias
  after_reads_simp
  rw [ext1_mk _ _ (by omega)]
  pointwise

/-- The last bias filled up to eight lanes. -/
theorem bias8_at (a : FVec Ideal S3 .f32) (o : Fin 8) (ho : o.val < 3) :
    pad S8 ![0] ![5] ![0] a (sitofp .f32 (constantI S_ 32 0#32) : FVec Ideal S_ .f32) pads_S3_S8_050 h_S_ (ix1 o) = bias a o := by
  unfold bias
  rw [ext1_mk _ _ ho]
  pointwise
  refine (dif_pos ?_).trans ?_
  · omega
  · rfl

/-- What window 14 is cut from: the bias of the last layer, once for each phase. -/
theorem host14 (c : Dev nD) (o : Fin 32) (ho : o.val % 8 < 3) : (V m c main_v296 : FVec Ideal S1x32 .f32) (ix2 0 o) = bias (a13 m c) (o.val % 8) := by
  unfold V
  after_reads_simp
  pointwise
  exact bias8_at (a13 m c) ⟨o.val % 8, by omega⟩ ho

end Cert.KernelIdeal.Hand
end
-- ==== Proof.KWeave.lean ====
module

public import proofs.«01_k».proof.Proof.KHost
@[expose] public section
set_option maxRecDepth 16384
noncomputable section
namespace Cert.KernelIdeal.Hand
open Cert.KernelIdeal Cert.KernelIdeal.Gen Cert.KernelIdeal.Value Idealize.ShloMosaic Idealize.SL.Sem Cert.Model Finset
variable (m : (ℓ : Loc nD τ sig) → Buf (Elt Ideal) ℓ)

/-- The turned weights of the first stride-two layer, height and width first. -/
def spread64 (a : FVec Ideal S64x32x4x4 .f32) : FVec Ideal S4x4x64x32 .f32 :=
  transpose S4x4x64x32 [2, 3, 1, 0] (transpose S32x64x4x4 [1, 0, 2, 3] (Host.reverse [2, 3] a) transposes_S64x32x4x4_S32x64x4x4_1_0_2_3)
    transposes_S32x64x4x4_S4x4x64x32_2_3_1_0

/-- The turned weights of the last layer, height and width first, filled up to eight output channels. -/
def spread32 (a : FVec Ideal S32x3x4x4 .f32) : FVec Ideal S4x4x32x8 .f32 :=
  pad S4x4x32x8 ![0, 0, 0, 0] ![0, 0, 0, 5] ![0, 0, 0, 0]
    (transpose S4x4x32x3 [2, 3, 1, 0] (transpose S3x32x4x4 [1, 0, 2, 3] (Host.reverse [2, 3] a) transposes_S32x3x4x4_S3x32x4x4_1_0_2_3)
      transposes_S3x32x4x4_S4x4x32x3_2_3_1_0)
    (sitofp .f32 (constantI S_ 32 0#32) : FVec Ideal S_ .f32) pads_S4x4x32x3_S4x4x32x8_000_000_000_050 h_S_

/-- The reversed and transposed weights of the second decoder layer are its turned weights. -/
theorem spread64_at (a : FVec Ideal S64x32x4x4 .f32) (u v : Fin 4) (c : Fin 64) (o : Fin 32) :
    spread64 a (ix4 u v c o) = turned a o c u v := by
  unfold turned spread64
  rw [ext4_mk _ _ _ _ _ o.isLt c.isLt u.isLt v.isLt]
  pointwise
  rfl

/-- The reversed, transposed and widened weights of the last layer are its turned weights on its own outputs. -/
theorem spread32_at (a : FVec Ideal S32x3x4x4 .f32) (u v : Fin 4) (c : Fin 32) (o : Fin 8) (ho : o.val < 3) :
    spread32 a (ix4 u v c o) = turned a o c u v := by
  unfold turned spread32
  rw [ext4_mk _ _ _ _ _ ho c.isLt u.isLt v.isLt]
  pointwise
  refine (dif_pos ?_).trans ?_
  · omega
  · rfl

set_option maxHeartbeats 4000000 in
/-- The host's sixteen writes for the first stride-two layer. -/
theorem v155_eq (c : Dev nD) : (V m c main_v155 : FVec Ideal S576x128 .f32)
    = shapeCast S576x128 (all64 (spread64 (a10 m c))) shapeCasts_S3x3x64x2x2x32_S576x128 := by
  unfold V
  after_reads_simp
  dsimp only [Matrix.cons_val]
  simp only [quad_eq]
  after_reads_simp
  rfl

set_option maxHeartbeats 4000000 in
/-- The host's sixteen writes for the last layer. -/
theorem v291_eq (c : Dev nD) : (V m c main_v291 : FVec Ideal S288x32 .f32)
    = shapeCast S288x32 (all32 (spread32 (a12 m c))) shapeCasts_S3x3x32x2x2x8_S288x32 := by
  unfold V
  after_reads_simp
  dsimp only [Matrix.cons_val]
  simp only [quad_eq]
  after_reads_simp
  rfl

/-- `comb` of weights that agree on the window. -/
theorem comb_congr (w w' : Wgt) (r s o c t u : ℕ) (ht : t < 3) (hu : u < 3) (h : ∀ a < 4, ∀ b < 4, w o c a b = w' o c a b) :
    comb w r s o c t u = comb w' r s o c t u := by
  unfold comb
  split_ifs with h'
  · exact h _ (by omega) _ (by omega)
  · rfl

/-- What window 11 is cut from: the combined weights of the four phases of the second decoder layer. -/
theorem host11 (c : Dev nD) (k : Fin 576) (o : Fin 128) : (V m c main_v155 : FVec Ideal S576x128 .f32) (ix2 k o)
    = comb (turned (a10 m c)) (o.val / 64) (o.val / 32 % 2) (o.val % 32) (k.val % 64) (k.val / 64 / 3) (k.val / 64 % 3) := by
  rw [v155_eq]
  pointwise
  refine (all64_at (spread64 (a10 m c)) ⟨k.val / 192, by omega⟩ ⟨k.val / 64 % 3, by omega⟩ ⟨k.val % 64, by omega⟩ ⟨o.val / 64, by omega⟩
    ⟨o.val / 32 % 2, by omega⟩ ⟨o.val % 32, by omega⟩).trans ?_
  rw [Nat.div_div_eq_div_mul]
  refine comb_congr _ _ _ _ _ _ _ _ (by dsimp only; omega) (by dsimp only; omega) fun u hu v hv => ?_
  unfold asWgt64
  rw [ext4_mk _ _ _ _ _ (by dsimp only; omega) (by dsimp only; omega) hu hv]
  exact spread64_at (a10 m c) ⟨u, hu⟩ ⟨v, hv⟩ _ _

/-- What window 13 is cut from: the combined weights of the four phases of the last layer. -/
theorem host13 (c : Dev nD) (k : Fin 288) (o : Fin 32) (ho : o.val % 8 < 3) : (V m c main_v291 : FVec Ideal S288x32 .f32) (ix2 k o)
    = comb (turned (a12 m c)) (o.val / 16) (o.val / 8 % 2) (o.val % 8) (k.val % 32) (k.val / 32 / 3) (k.val / 32 % 3) := by
  rw [v291_eq]
  pointwise
  refine (all32_at (spread32 (a12 m c)) ⟨k.val / 96, by omega⟩ ⟨k.val / 32 % 3, by omega⟩ ⟨k.val % 32, by omega⟩ ⟨o.val / 16, by omega⟩
    ⟨o.val / 8 % 2, by omega⟩ ⟨o.val % 8, by omega⟩).trans ?_
  rw [Nat.div_div_eq_div_mul]
  refine comb_congr _ _ _ _ _ _ _ _ (by dsimp only; omega) (by dsimp only; omega) fun u hu v hv => ?_
  unfold asWgt32
  rw [ext4_mk _ _ _ _ _ (by dsimp only; omega) (by dsimp only; omega) hu hv]
  exact spread32_at (a12 m c) ⟨u, hu⟩ ⟨v, hv⟩ _ _ ho

end Cert.KernelIdeal.Hand
end
-- ==== Proof.KPlace.lean ====
module

public import proofs.«01_k».proof.Proof.KWeave
@[expose] public section
set_option maxRecDepth 16384
noncomputable section
namespace Cert.KernelIdeal.Hand
open Cert.KernelIdeal Cert.KernelIdeal.Gen Cert.KernelIdeal.Value Idealize.ShloMosaic Idealize.SL.Sem Cert.Model Finset
open Idealize.ShloMosaic.Pipeline (Dat)
variable (m : (ℓ : Loc nD τ sig) → Buf (Elt Ideal) ℓ) (ρ : Dev nD → PrngReg)

/-- Where each window's block lies at a grid point: the image's own, the whole array for every other input. -/
theorem idx : ∀ t : Fin grid0.N, win0_0.index t = ![t.val, 0, 0, 0] ∧ win0_1.index t = ![0, 0] ∧ win0_2.index t = ![0, 0]
    ∧ win0_3.index t = ![0, 0] ∧ win0_4.index t = ![0, 0] ∧ win0_5.index t = ![0, 0] ∧ win0_6.index t = ![0, 0] ∧ win0_7.index t = ![0, 0]
    ∧ win0_8.index t = ![0, 0] ∧ win0_9.index t = ![0, 0] ∧ win0_10.index t = ![0, 0] ∧ win0_11.index t = ![0, 0] ∧ win0_12.index t = ![0, 0]
    ∧ win0_13.index t = ![0, 0] ∧ win0_14.index t = ![0, 0] ∧ win0_15.index t = ![t.val, 0, 0, 0, 0] := by
  decide +kernel

/-- The block of window 0, the padded image, split into even and odd rows and columns: the image of the grid point. -/
theorem at0 (c : Dev nD) (t : Fin 8) (y x : Fin 113) (k : Fin 12) :
    (iblk m c 0 t : Vec Ideal S1x113x113x12 .f32) (ix4 0 y x k) = (V m c main_v3 : Vec Ideal S8x113x113x12 .f32) (ix4 t y x k) := by
  unfold iblk; blk_ext [idx t]
/-- The block of window 1, the first weights, one row for each tap and channel: the whole array. -/
theorem at1 (c : Dev nD) (t : Fin 8) (k : Fin 48) (o : Fin 32) :
    (iblk m c 1 t : Vec Ideal S48x32 .f32) (ix2 k o) = (V m c main_v13 : Vec Ideal S48x32 .f32) (ix2 k o) := by
  unfold iblk; blk_ext [idx t]
/-- The block of window 2, the first bias: the whole array. -/
theorem at2 (c : Dev nD) (t : Fin 8) (o : Fin 32) :
    (iblk m c 2 t : Vec Ideal S1x32 .f32) (ix2 0 o) = (V m c main_v14 : Vec Ideal S1x32 .f32) (ix2 0 o) := by
  unfold iblk; blk_ext [idx t]
/-- The block of window 3, the second weights, one row for each tap and channel: the whole array. -/
theorem at3 (c : Dev nD) (t : Fin 8) (k : Fin 512) (o : Fin 64) :
    (iblk m c 3 t : Vec Ideal S512x64 .f32) (ix2 k o) = (V m c main_v16 : Vec Ideal S512x64 .f32) (ix2 k o) := by
  unfold iblk; blk_ext [idx t]
/-- The block of window 4, the second bias: the whole array. -/
theorem at4 (c : Dev nD) (t : Fin 8) (o : Fin 64) :
    (iblk m c 4 t : Vec Ideal S1x64 .f32) (ix2 0 o) = (V m c main_v17 : Vec Ideal S1x64 .f32) (ix2 0 o) := by
  unfold iblk; blk_ext [idx t]
/-- The block of window 5, the third weights, one row for each tap and channel: the whole array. -/
theorem at5 (c : Dev nD) (t : Fin 8) (k : Fin 576) (o : Fin 64) :
    (iblk m c 5 t : Vec Ideal S576x64 .f32) (ix2 k o) = (V m c main_v19 : Vec Ideal S576x64 .f32) (ix2 k o) := by
  unfold iblk; blk_ext [idx t]
/-- The block of window 6, the third bias: the whole array. -/
theorem at6 (c : Dev nD) (t : Fin 8) (o : Fin 64) :
    (iblk m c 6 t : Vec Ideal S1x64 .f32) (ix2 0 o) = (V m c main_v20 : Vec Ideal S1x64 .f32) (ix2 0 o) := by
  unfold iblk; blk_ext [idx t]
/-- The block of window 7, the codebook, transposed: the whole array. -/
theorem at7 (c : Dev nD) (t : Fin 8) (k : Fin 64) (o : Fin 1024) :
    (iblk m c 7 t : Vec Ideal S64x1024 .f32) (ix2 k o) = (V m c main_v21 : Vec Ideal S64x1024 .f32) (ix2 k o) := by
  unfold iblk; blk_ext [idx t]
/-- The block of window 8, the codebook: the whole array. -/
theorem at8 (c : Dev nD) (t : Fin 8) (k : Fin 1024) (o : Fin 64) :
    (iblk m c 8 t : Vec Ideal S1024x64 .f32) (ix2 k o) = (V m c main_arg7 : Vec Ideal S1024x64 .f32) (ix2 k o) := by
  unfold iblk; blk_ext [idx t]
/-- The block of window 9, the turned weights of the first decoder layer, one row for each tap and channel: the whole array. -/
theorem at9 (c : Dev nD) (t : Fin 8) (k : Fin 576) (o : Fin 64) :
    (iblk m c 9 t : Vec Ideal S576x64 .f32) (ix2 k o) = (V m c main_v23 : Vec Ideal S576x64 .f32) (ix2 k o) := by
  unfold iblk; blk_ext [idx t]
/-- The block of window 10, the bias of the first decoder layer: the whole array. -/
theorem at10 (c : Dev nD) (t : Fin 8) (o : Fin 64) :
    (iblk m c 10 t : Vec Ideal S1x64 .f32) (ix2 0 o) = (V m c main_v24 : Vec Ideal S1x64 .f32) (ix2 0 o) := by
  unfold iblk; blk_ext [idx t]
/-- The block of window 11, the combined weights of the four phases of the second decoder layer: the whole array. -/
theorem at11 (c : Dev nD) (t : Fin 8) (k : Fin 576) (o : Fin 128) :
    (iblk m c 11 t : Vec Ideal S576x128 .f32) (ix2 k o) = (V m c main_v155 : Vec Ideal S576x128 .f32) (ix2 k o) := by
  unfold iblk; blk_ext [idx t]
/-- The block of window 12, the bias of the second decoder layer, once for each phase: the whole array. -/
theorem at12 (c : Dev nD) (t : Fin 8) (o : Fin 128) :
    (iblk m c 12 t : Vec Ideal S1x128 .f32) (ix2 0 o) = (V m c main_v159 : Vec Ideal S1x128 .f32) (ix2 0 o) := by
  unfold iblk; blk_ext [idx t]
/-- The block of window 13, the combined weights of the four phases of the last layer: the whole array. -/
theorem at13 (c : Dev nD) (t : Fin 8) (k : Fin 288) (o : Fin 32) :
    (iblk m c 13 t : Vec Ideal S288x32 .f32) (ix2 k o) = (V m c main_v291 : Vec Ideal S288x32 .f32) (ix2 k o) := by
  unfold iblk; blk_ext [idx t]
/-- The block of window 14, the bias of the last layer, once for each phase: the whole array. -/
theorem at14 (c : Dev nD) (t : Fin 8) (o : Fin 32) :
    (iblk m c 14 t : Vec Ideal S1x32 .f32) (ix2 0 o) = (V m c main_v296 : Vec Ideal S1x32 .f32) (ix2 0 o) := by
  unfold iblk; blk_ext [idx t]

/-- What the windows hold at grid point `t`: image `t`, and every weight. -/
theorem windows (c : Dev nD) (t : Fin 8) :
    Windows (Model.image (a0 m c) t) (weights (a1 m c)) (weights (a3 m c)) (weights (a5 m c)) (turned (a8 m c)) (turned (a10 m c)) (turned (a12 m c))
      (bias (a2 m c)) (bias (a4 m c)) (bias (a6 m c)) (bias (a9 m c)) (bias (a11 m c)) (bias (a13 m c)) (codes (a7 m c))
      (iblk m c 0 t) (iblk m c 1 t) (iblk m c 2 t) (iblk m c 3 t) (iblk m c 4 t) (iblk m c 5 t) (iblk m c 6 t) (iblk m c 7 t) (iblk m c 8 t)
      (iblk m c 9 t) (iblk m c 10 t) (iblk m c 11 t) (iblk m c 12 t) (iblk m c 13 t) (iblk m c 14 t) where
  h0 y x k := (at0 m c t y x k).trans (host0 m c t y x k)
  h1 k o := (at1 m c t k o).trans (host1 m c k o)
  h2 o := (at2 m c t o).trans (host2 m c o)
  h3 k o := (at3 m c t k o).trans (host3 m c k o)
  h4 o := (at4 m c t o).trans (host4 m c o)
  h5 k o := (at5 m c t k o).trans (host5 m c k o)
  h6 o := (at6 m c t o).trans (host6 m c o)
  h7 k o := (at7 m c t k o).trans (host7 m c k o)
  h8 k o := (at8 m c t k o).trans (host8 m c k o)
  h9 k o := (at9 m c t k o).trans (host9 m c k o)
  h10 o := (at10 m c t o).trans (host10 m c o)
  h11 k o := (at11 m c t k o).trans (host11 m c k o)
  h12 o := (at12 m c t o).trans (host12 m c o)
  h13 k o ho := (at13 m c t k o).trans (host13 m c k o ho)
  h14 o ho := (at14 m c t o).trans (host14 m c o ho)

/-- The whole network on image `n`. -/
def netOut (c : Dev nD) (n : Fin 8) : Img :=
  recon (netDec2 (Model.image (a0 m c) n) (weights (a1 m c)) (weights (a3 m c)) (weights (a5 m c)) (turned (a8 m c)) (turned (a10 m c))
    (bias (a2 m c)) (bias (a4 m c)) (bias (a6 m c)) (bias (a9 m c)) (bias (a11 m c)) (codes (a7 m c))) (turned (a12 m c)) (bias (a13 m c))

/-- The result array of the kernel, rows in pairs. -/
def outArr (c : Dev nD) : FVec Ideal S8x3x112x2x224 .f32 := fun i => netOut m c (i 0) (i 1).val (2 * (i 2).val + (i 3).val) (i 4).val

/-- The result array after the whole grid is the network's reconstruction of every image. -/
theorem arr_eq (c : Dev nD) : (dats m 0 c).arrAt 15 cfg0.N = outArr m c := by
  refine Dat.arrAt_eq_of_covers (dats m 0 c) 15 _ (by decide +kernel) fun t hf y => ?_
  blk_simp
  rw [after0_15]
  obtain ⟨b, C, Y, r, x, rfl⟩ : ∃ (b : Fin 1) (C : Fin 3) (Y : Fin 112) (r : Fin 2) (x : Fin 224), y = ix5 b C Y r x :=
    ⟨y 0, y 1, y 2, y 3, y 4, funext fun b => by fin_cases b <;> rfl⟩
  obtain rfl : b = 0 := Subsingleton.elim _ _
  rw [point_at m c t (windows m c t) C Y r x]
  have e : (win0_15.blk t).view.emb (ix5 0 C Y r x) = ix5 t C Y r x := by
    blk_ext [idx t]
  exact (congrArg (outArr m c) e).symm

end Cert.KernelIdeal.Hand
end
-- ==== Proof.RArg.lean ====
module

public import proofs.«01_k».proof.Proof.RefStages
public import proofs.«01_k».proof.Proof.First
public import Idealize.ShloMosaic.Lib.Pointwise
@[expose] public section
noncomputable section
/-! The reference's arg-min of a row, as the first place where the row is least. -/
namespace Cert.ReferenceIdeal.Hand
open Cert.ReferenceIdeal Cert.ReferenceIdeal.Gen Idealize.ShloMosaic Idealize.SL.Sem Cert.Model

/-- A word that holds a small natural number reads back as that number. -/
theorem word_toInt (k : ℕ) (hk : k < 1024) : (BitVec.ofNat 32 k).toInt = k := by
  rw [BitVec.toInt_eq_toNat_of_lt (by simp; omega)]
  simp
  omega

/-- The signed order of two words that hold small natural numbers. -/
theorem word_slt (j k : ℕ) (hj : j < 1024) (hk : k < 1024) :
    IntOp.cmpi .slt (BitVec.ofNat 32 j) (BitVec.ofNat 32 k) = if j < k then 1#1 else 0#1 := by
  simp only [IntOp.cmpi, BitVec.slt, word_toInt j hj, word_toInt k hk, Nat.cast_lt]
  by_cases h : j < k <;> simp [h]

/-- One step of the arg-min: the earlier pair stays where it is less, or equal with the smaller place. -/
theorem reducer_step (v w : EReal) (j k : ℕ) (hj : j < 1024) (hk : k < 1024) :
    reducer_argmin_f32_i32 (F := Ideal) (v, BitVec.ofNat 32 j) (w, BitVec.ofNat 32 k)
      = if v < w ∨ (v = w ∧ j < k) then (v, BitVec.ofNat 32 j) else (w, BitVec.ofNat 32 k) := by
  unfold reducer_argmin_f32_i32
  simp only [word_slt j k hj hk, Ideal.cmpf_def, Ideal.cmp]
  by_cases h1 : v < w
  · have h2 : v ≠ w := h1.ne
    simp [h1, h2, IntOp.ori, IntOp.andi, Scalar.select]
  · by_cases h2 : v = w
    · subst h2
      by_cases h3 : j < k <;> simp [h3, IntOp.ori, IntOp.andi, Scalar.select]
    · simp [h1, h2, IntOp.ori, IntOp.andi, Scalar.select]

/-- What the fold over a list of pairs keeps: a pair of the family or the initial one, at least as small as every pair met. -/
theorem fold_keeps (f : ℕ → EReal) (L : List (EReal × BitVec 32)) (hL : ∀ p ∈ L, ∃ k < 1024, p = (f k, BitVec.ofNat 32 k))
    (v : EReal) (m : ℕ) (hm : m < 1024) (hv : v = f m ∨ (v = ⊤ ∧ m = 0)) :
    ∃ (w : EReal) (n : ℕ), n < 1024 ∧ (w = f n ∨ (w = ⊤ ∧ n = 0))
      ∧ L.foldl (reducer_argmin_f32_i32 (F := Ideal)) (v, BitVec.ofNat 32 m) = (w, BitVec.ofNat 32 n)
      ∧ (w < v ∨ (w = v ∧ n ≤ m))
      ∧ ∀ k < 1024, (f k, BitVec.ofNat 32 k) ∈ L → w < f k ∨ (w = f k ∧ n ≤ k) := by
  induction L generalizing v m with
  | nil => exact ⟨v, m, hm, hv, rfl, .inr ⟨rfl, le_rfl⟩, fun k _ h => absurd h List.not_mem_nil⟩
  | cons p L ih =>
    obtain ⟨a, ha, rfl⟩ := hL p List.mem_cons_self
    have hL' : ∀ q ∈ L, ∃ k < 1024, q = (f k, BitVec.ofNat 32 k) := fun q hq => hL q (List.mem_cons_of_mem _ hq)
    have inj : ∀ k < 1024, BitVec.ofNat 32 k = BitVec.ofNat 32 a → k = a := fun k hk e => by
      have := congrArg BitVec.toInt e
      rw [word_toInt k hk, word_toInt a ha] at this
      omega
    rw [List.foldl_cons, reducer_step v (f a) m a hm ha]
    by_cases hc : v < f a ∨ (v = f a ∧ m < a)
    · rw [if_pos hc]
      obtain ⟨w, n, hn, hw, e, hle, hall⟩ := ih hL' v m hm hv
      refine ⟨w, n, hn, hw, e, hle, fun k hk hmem => ?_⟩
      rcases List.mem_cons.1 hmem with h | h
      · obtain rfl := inj k hk (congrArg Prod.snd h)
        rcases hle with h1 | ⟨rfl, h1⟩ <;> rcases hc with h2 | ⟨rfl, h2⟩
        · exact .inl (h1.trans h2)
        · exact .inl h1
        · exact .inl h2
        · exact .inr ⟨rfl, by omega⟩
      · exact hall k hk h
    · rw [if_neg hc]
      obtain ⟨w, n, hn, hw, e, hle, hall⟩ := ih hL' (f a) a ha (.inl rfl)
      have hav : f a < v ∨ (f a = v ∧ a ≤ m) := by
        rcases lt_trichotomy (f a) v with h | h | h
        · exact .inl h
        · exact .inr ⟨h, by by_contra h'; exact hc (.inr ⟨h.symm, by omega⟩)⟩
        · exact absurd (.inl h) hc
      refine ⟨w, n, hn, hw, e, ?_, fun k hk hmem => ?_⟩
      · rcases hle with h1 | ⟨rfl, h1⟩ <;> rcases hav with h2 | ⟨h2, h3⟩
        · exact .inl (h1.trans h2)
        · exact .inl (h2 ▸ h1)
        · exact .inl h2
        · exact .inr ⟨h2, by omega⟩
      · rcases List.mem_cons.1 hmem with h | h
        · obtain rfl := inj k hk (congrArg Prod.snd h)
          exact hle
        · exact hall k hk h

/-- The arg-min over the rows of an array of any number of rows: at a row, the first place where the row is least. -/
theorem argmin_row (N : ℕ) (d : FVec Ideal ⟨2, ![N, 1024]⟩ .f32) (y : IVec ⟨2, ![N, 1024]⟩ 32)
    (hy : ∀ (r : Fin N) (k : Fin 1024), y (ix2 r k) = BitVec.ofNat 32 k.val) (u : FVec Ideal S_ .f32) (hu : ∀ i, u i = (⊤ : EReal))
    (z : IVec S_ 32) (hz : ∀ i, z i = 0#32) (h : (⟨2, ![N, 1024]⟩ : Shape).ReducesTo [1] ⟨1, ![N]⟩) (hp : 0 < S_.numel)
    (r : Fin N) (f : ℕ → EReal) (hf : ∀ k : Fin 1024, d (ix2 r k) = f k.val) :
    (Host.argReduce (reducer_argmin_f32_i32 (F := Ideal)) d y u z h hp (ix1 r)).2 = BitVec.ofNat 32 (amin 1024 f) := by
  rw [Ideal.argReduce_eq_reduce2, Host.reduce2_eq_foldl_fiber, hu, hz]
  have hL : ∀ p ∈ Host.argReduceFiber d y h (ix1 r), ∃ k < 1024, p = (f k, BitVec.ofNat 32 k) := by
    intro p hmem
    rw [Host.argReduceFiber, List.mem_map] at hmem
    obtain ⟨n, hn, rfl⟩ := hmem
    have hd := of_decide_eq_true (List.mem_filter.1 hn).2
    obtain ⟨k, hk⟩ := (h.fiber_r2_a1 (ix1 r) _).1 hd
    refine ⟨k.val, k.isLt, ?_⟩
    rw [← hk, ← hf k, ← hy r k]
    rfl
  have hin : ∀ k < 1024, (f k, BitVec.ofNat 32 k) ∈ Host.argReduceFiber d y h (ix1 r) := by
    intro k hk
    rw [Host.argReduceFiber, List.mem_map]
    refine ⟨(⟨2, ![N, 1024]⟩ : Shape).rowMajor (ix2 r ⟨k, hk⟩), List.mem_filter.2 ⟨List.mem_finRange _, ?_⟩, ?_⟩
    · rw [Equiv.symm_apply_apply]
      exact decide_eq_true ((h.fiber_r2_a1 (ix1 r) _).2 ⟨⟨k, hk⟩, rfl⟩)
    · rw [Equiv.symm_apply_apply, hf, hy]
  obtain ⟨w, n, hn, hw, e, _, hall⟩ := fold_keeps f _ hL ⊤ 0 (by norm_num) (.inr ⟨rfl, rfl⟩)
  have hle : ∀ k < 1024, w ≤ f k := fun k hk => (hall k hk (hin k hk)).elim le_of_lt fun q => q.1.le
  have hwn : w = f n := by
    rcases hw with hw | ⟨rfl, rfl⟩
    · exact hw
    · exact (top_le_iff.1 (hle 0 (by norm_num))).symm
  have first : IsFirst 1024 f n := ⟨hn, fun j hj => hwn ▸ hle j hj, fun j hj => by
    rcases hall j (hj.trans hn) (hin j (hj.trans hn)) with q | q
    · exact hwn ▸ q
    · omega⟩
  rw [IsFirst.unique (isFirst_amin (by norm_num) f) first]
  exact congrArg Prod.snd e

end Cert.ReferenceIdeal.Hand
end
-- ==== Proof.RConv.lean ====
module

public import proofs.«01_k».proof.Proof.RefStages
public import proofs.«01_k».proof.Proof.Ext
public import Idealize.ShloMosaic.Lib.Pointwise
@[expose] public section
set_option maxRecDepth 16384
noncomputable section
/-! The product of the weights with the stacked windows, as the triple sum over channels and taps. -/
namespace Cert.ReferenceIdeal.Hand
open Cert.ReferenceIdeal Cert.ReferenceIdeal.Gen Idealize.ShloMosaic Idealize.SL.Sem Cert.Model Finset

/-- Weights `(O, C, K, K)` against windows `(N, C, H, K, H, K)`: channels and both tap axes contracted. -/
def taps (O C K N H : ℕ)
    (wf : DotDims.WF ⟨4, ![O, C, K, K]⟩ ⟨6, ![N, C, H, K, H, K]⟩ ⟨4, ![O, N, H, H]⟩ [1, 2, 3] [1, 3, 5] [0] [0, 2, 4] [] []) :
    DotDims ⟨4, ![O, C, K, K]⟩ ⟨6, ![N, C, H, K, H, K]⟩ ⟨4, ![O, N, H, H]⟩ where
  lhsContracting := [1, 2, 3]
  rhsContracting := [1, 3, 5]
  lhsNonContracting := [0]
  rhsNonContracting := [0, 2, 4]
  lhsBatch := []
  rhsBatch := []
  wf := wf

/-- The contracted triples. -/
def triples (O C K N H : ℕ) (wf) : Fin C × Fin K × Fin K ≃ (taps O C K N H wf).contr.Idx where
  toFun p := fun i => match i with
    | ⟨0, _⟩ => p.1
    | ⟨1, _⟩ => p.2.1
    | ⟨2, _⟩ => p.2.2
  invFun k := (k ⟨0, show 0 < 3 by decide⟩, k ⟨1, show 1 < 3 by decide⟩, k ⟨2, show 2 < 3 by decide⟩)
  left_inv _ := rfl
  right_inv k := by
    funext i
    match i with
    | ⟨0, _⟩ => rfl
    | ⟨1, _⟩ => rfl
    | ⟨2, _⟩ => rfl

/-- The contraction at an entry: the sum over channels and both taps. -/
theorem taps_at (O C K N H : ℕ) (wf) (w : (⟨4, ![O, C, K, K]⟩ : Shape).Idx → EReal) (q : (⟨6, ![N, C, H, K, H, K]⟩ : Shape).Idx → EReal)
    (o : Fin O) (n : Fin N) (y x : Fin H) :
    Ideal.matmul (taps O C K N H wf) w q (fun _ => 0) (ix4 o n y x)
      = ∑ c : Fin C, ∑ u : Fin K, ∑ v : Fin K, w (ix4 o c u v) * q (ix6 n c y u x v) := by
  unfold Ideal.matmul
  rw [zero_add, ← Fintype.sum_equiv (triples O C K N H wf) (fun p => w (ix4 o p.1 p.2.1 p.2.2) * q (ix6 n p.1 y p.2.1 x p.2.2)) _ ?_]
  · simp only [Fintype.sum_prod_type]
  · rintro ⟨c, u, v⟩
    have hl : (taps O C K N H wf).lhsIdx (ix4 o n y x) (triples O C K N H wf (c, u, v)) = ix4 o c u v := by
      funext i; fin_cases i <;> rfl
    have hr : (taps O C K N H wf).rhsIdx (ix4 o n y x) (triples O C K N H wf (c, u, v)) = ix6 n c y u x v := by
      funext i; fin_cases i <;> rfl
    rw [hl, hr]

/-- The product as a convolution: windows that read the image `P` with stride `s`, weights that read `W`. -/
theorem taps_conv (O C K N H s : ℕ) (wf) (w : (⟨4, ![O, C, K, K]⟩ : Shape).Idx → EReal) (q : (⟨6, ![N, C, H, K, H, K]⟩ : Shape).Idx → EReal)
    (n : Fin N) (P : Img) (W : Wgt) (hw : ∀ o c u v, w (ix4 o c u v) = W o c u v)
    (hq : ∀ c y u x v, q (ix6 n c y u x v) = P c (s * y.val + u.val) (s * x.val + v.val)) (o : Fin O) (y x : Fin H) :
    Ideal.matmul (taps O C K N H wf) w q (fun _ => 0) (ix4 o n y x) = conv C K s P W o y x := by
  rw [taps_at]
  unfold conv
  rw [Finset.sum_range]
  refine Finset.sum_congr rfl fun c _ => ?_
  rw [Finset.sum_range]
  refine Finset.sum_congr rfl fun u _ => ?_
  rw [Finset.sum_range]
  refine Finset.sum_congr rfl fun v _ => ?_
  rw [hw, hq, mul_comm]

end Cert.ReferenceIdeal.Hand
end
-- ==== Proof.RStage.lean ====
module

public import proofs.«01_k».proof.Proof.RConv
@[expose] public section
set_option maxRecDepth 16384
noncomputable section
/-! The reference's convolutions, read at an entry: each is the convolution of the network with the input and the weights it is given. -/
namespace Cert.ReferenceIdeal.Hand
open Cert.ReferenceIdeal Cert.ReferenceIdeal.Gen Idealize.ShloMosaic Idealize.SL.Sem Cert.Model Finset

/-- The word zero as a float. -/
theorem zeroWord : (FloatOps.sitofp (F := Ideal) .f32 0#32 : EReal) = 0 := by
  show (((0#32 : BitVec 32).toInt : ℝ) : EReal) = 0
  norm_num

/-- An image and what it holds, at every channel, row and column. -/
def Holds {N C H : ℕ} (a : (⟨4, ![N, C, H, H]⟩ : Shape).Idx → EReal) (n : Fin N) (X : Img) : Prop := ∀ (c : Fin C) (y x : Fin H), a (ix4 n c y x) = X c y x

/-- An entry of the weights, read as a function of natural numbers. -/
theorem weights_read {O C K : ℕ} (a : (⟨4, ![O, C, K, K]⟩ : Shape).Idx → EReal) (o : Fin O) (c : Fin C) (u v : Fin K) :
    a (ix4 o c u v) = weights a o c u v := (ext4_mk (fun o c u v => a (ix4 o c u v)) _ _ _ _ o.isLt c.isLt u.isLt v.isLt).symm
/-- An entry of the weights, read from the turned ones. -/
theorem turned_read {I O K : ℕ} (a : (⟨4, ![I, O, K, K]⟩ : Shape).Idx → EReal) (o : Fin O) (c : Fin I) (u v : Fin K) :
    a (ix4 c o u.rev v.rev) = turned a o c u v := (ext4_mk (fun o c (u v : Fin K) => a (ix4 c o u.rev v.rev)) _ _ _ _ o.isLt c.isLt u.isLt v.isLt).symm
/-- An entry of a bias. -/
theorem bias_read {N : ℕ} (a : (⟨1, ![N]⟩ : Shape).Idx → EReal) (i : Fin N) : a (ix1 i) = bias a i := (ext1_mk (fun i => a (ix1 i)) _ i.isLt).symm

/-- A bordered image: the entry where the border is passed, zero on it. -/
theorem bordered (p H : ℕ) (X : Img) (c y x : ℕ) (v : EReal) (D : Prop) [Decidable D] (hD : D ↔ (p ≤ y ∧ y - p < H) ∧ p ≤ x ∧ x - p < H)
    (A : D → EReal) (hA : ∀ h, A h = X c (y - p) (x - p)) (hv : v = 0) : (if h : D then A h else v) = border p H X c y x := by
  unfold border
  by_cases h : D
  · have := hD.1 h
    rw [dif_pos h, if_pos (by omega), hA]
  · rw [dif_neg h, if_neg (fun q => h (hD.2 (by omega))), hv]

/-- A dilated and bordered image. -/
theorem dilated (H : ℕ) (X : Img) (c y x : ℕ) (v : EReal) (D : Prop) [Decidable D] (D' : D → Prop) [∀ h, Decidable (D' h)]
    (hD : D ↔ (2 ≤ y ∧ y - 2 < 2 * H - 1) ∧ 2 ≤ x ∧ x - 2 < 2 * H - 1)
    (hD' : ∀ h, D' h ↔ ((y - 2) % 2 = 0 ∧ (y - 2) / 2 < H) ∧ (x - 2) % 2 = 0 ∧ (x - 2) / 2 < H)
    (A : ∀ h : D, D' h → EReal) (hA : ∀ h h', A h h' = X c ((y - 2) / 2) ((x - 2) / 2)) (hv : v = 0) :
    (if h : D then (if h' : D' h then A h h' else 0) else v) = dilate (border 1 H X) c y x := by
  unfold dilate border
  by_cases h : D
  · have d := hD.1 h
    rw [dif_pos h]
    by_cases h' : D' h
    · have d' := (hD' h).1 h'
      have ey : (y - 2) / 2 = y / 2 - 1 := by omega
      have ex : (x - 2) / 2 = x / 2 - 1 := by omega
      rw [dif_pos h', if_pos (by omega), if_pos (by omega), hA, ey, ex]
    · have d' := fun q => h' ((hD' h).2 q)
      rw [dif_neg h']
      by_cases e : y % 2 = 0 ∧ x % 2 = 0
      · rw [if_pos e, if_neg (fun q => d' (by omega))]
      · rw [if_neg e]
  · have d := fun q => h (hD.2 q)
    rw [dif_neg h, hv]
    by_cases e : y % 2 = 0 ∧ x % 2 = 0
    · rw [if_pos e, if_neg (fun q => d (by omega))]
    · rw [if_neg e]

/-- The padded input of the first layer. -/
theorem padC1_at (a : FVec Ideal S8x3x224x224 .f32) (X : Img) (n : Fin 8) (h : Holds a n X) (c : Fin 3) (y x : Fin 226) :
    padC1 a (ix4 n c y x) = (border 1 224 X) c y x := by
  unfold padC1
  pointwise
  refine bordered 1 224 X c y x _ _ Iff.rfl _ (fun _ => h _ _ _) ?_
  pointwise
  exact zeroWord

/-- The stacked row windows of the first layer. -/
theorem rowC1_at (p : FVec Ideal S8x3x226x226 .f32) (n : Fin 8) (c : Fin 3) (y : Fin 112) (u : Fin 4) (x : Fin 226) :
    rowC1 p (ix5 n c y u x) = p (ix4 n c ⟨2 * y.val + u.val, by omega⟩ x) := by
  fin_cases u <;> pointwise [rowC1, rowsC1] <;> simp only [add_comm, Nat.add_zero, Nat.zero_add]

/-- The stacked column windows of the first layer. -/
theorem colC1_at (p : FVec Ideal S8x3x112x4x226 .f32) (n : Fin 8) (c : Fin 3) (y : Fin 112) (u : Fin 4) (x : Fin 112) (v : Fin 4) :
    colC1 p (ix6 n c y u x v) = p (ix5 n c y u ⟨2 * x.val + v.val, by omega⟩) := by
  fin_cases v <;> pointwise [colC1, colsC1] <;> simp only [add_comm, Nat.add_zero, Nat.zero_add]

/-- The result of the first layer is the network's, where its input is. -/
theorem refC1_at (a : FVec Ideal S8x3x224x224 .f32) (w : FVec Ideal S32x3x4x4 .f32) (b : FVec Ideal S32 .f32) (X : Img) (n : Fin 8) (h : Holds a n X) : Holds (refC1 a w b) n (enc1 X (weights w) (bias b)) := by
  intro o y x
  unfold enc1 refC1
  pointwise [linC1]
  have hq : ∀ c y u x v, colC1 (rowC1 (padC1 a)) (ix6 n c y u x v) = (border 1 224 X) c (2 * y.val + u.val) (2 * x.val + v.val) := by
    intro c y u x v
    rw [colC1_at, rowC1_at, padC1_at a X n h]
  have key := taps_conv 32 3 4 8 112 2 dot_S32x3x4x4_S8x3x112x4x112x4_S32x8x112x112_123_135_0_024_n_n_wf w _ n _ _ (weights_read w) hq o y x
  rw [← bias_read]
  exact congrArg (fun t => max (t + b (ix1 o)) 0) key

/-- The padded input of the second layer. -/
theorem padC2_at (a : FVec Ideal S8x32x112x112 .f32) (X : Img) (n : Fin 8) (h : Holds a n X) (c : Fin 32) (y x : Fin 114) :
    padC2 a (ix4 n c y x) = (border 1 112 X) c y x := by
  unfold padC2
  pointwise
  refine bordered 1 112 X c y x _ _ Iff.rfl _ (fun _ => h _ _ _) ?_
  pointwise
  exact zeroWord

/-- The stacked row windows of the second layer. -/
theorem rowC2_at (p : FVec Ideal S8x32x114x114 .f32) (n : Fin 8) (c : Fin 32) (y : Fin 56) (u : Fin 4) (x : Fin 114) :
    rowC2 p (ix5 n c y u x) = p (ix4 n c ⟨2 * y.val + u.val, by omega⟩ x) := by
  fin_cases u <;> pointwise [rowC2, rowsC2] <;> simp only [add_comm, Nat.add_zero, Nat.zero_add]

/-- The stacked column windows of the second layer. -/
theorem colC2_at (p : FVec Ideal S8x32x56x4x114 .f32) (n : Fin 8) (c : Fin 32) (y : Fin 56) (u : Fin 4) (x : Fin 56) (v : Fin 4) :
    colC2 p (ix6 n c y u x v) = p (ix5 n c y u ⟨2 * x.val + v.val, by omega⟩) := by
  fin_cases v <;> pointwise [colC2, colsC2] <;> simp only [add_comm, Nat.add_zero, Nat.zero_add]

/-- The result of the second layer is the network's, where its input is. -/
theorem refC2_at (a : FVec Ideal S8x32x112x112 .f32) (w : FVec Ideal S64x32x4x4 .f32) (b : FVec Ideal S64 .f32) (X : Img) (n : Fin 8) (h : Holds a n X) : Holds (refC2 a w b) n (enc2 X (weights w) (bias b)) := by
  intro o y x
  unfold enc2 refC2
  pointwise [linC2]
  have hq : ∀ c y u x v, colC2 (rowC2 (padC2 a)) (ix6 n c y u x v) = (border 1 112 X) c (2 * y.val + u.val) (2 * x.val + v.val) := by
    intro c y u x v
    rw [colC2_at, rowC2_at, padC2_at a X n h]
  have key := taps_conv 64 32 4 8 56 2 dot_S64x32x4x4_S8x32x56x4x56x4_S64x8x56x56_123_135_0_024_n_n_wf w _ n _ _ (weights_read w) hq o y x
  rw [← bias_read]
  exact congrArg (fun t => max (t + b (ix1 o)) 0) key

/-- The padded input of the third layer. -/
theorem padC3_at (a : FVec Ideal S8x64x56x56 .f32) (X : Img) (n : Fin 8) (h : Holds a n X) (c : Fin 64) (y x : Fin 58) :
    padC3 a (ix4 n c y x) = (border 1 56 X) c y x := by
  unfold padC3
  pointwise
  refine bordered 1 56 X c y x _ _ Iff.rfl _ (fun _ => h _ _ _) ?_
  pointwise
  exact zeroWord

/-- The stacked row windows of the third layer. -/
theorem rowC3_at (p : FVec Ideal S8x64x58x58 .f32) (n : Fin 8) (c : Fin 64) (y : Fin 56) (u : Fin 3) (x : Fin 58) :
    rowC3 p (ix5 n c y u x) = p (ix4 n c ⟨y.val + u.val, by omega⟩ x) := by
  fin_cases u <;> pointwise [rowC3, rowsC3] <;> simp only [add_comm, Nat.add_zero, Nat.zero_add]

/-- The stacked column windows of the third layer. -/
theorem colC3_at (p : FVec Ideal S8x64x56x3x58 .f32) (n : Fin 8) (c : Fin 64) (y : Fin 56) (u : Fin 3) (x : Fin 56) (v : Fin 3) :
    colC3 p (ix6 n c y u x v) = p (ix5 n c y u ⟨x.val + v.val, by omega⟩) := by
  fin_cases v <;> pointwise [colC3, colsC3] <;> simp only [add_comm, Nat.add_zero, Nat.zero_add]

/-- The result of the third layer is the network's, where its input is. -/
theorem refC3_at (a : FVec Ideal S8x64x56x56 .f32) (w : FVec Ideal S64x64x3x3 .f32) (b : FVec Ideal S64 .f32) (X : Img) (n : Fin 8) (h : Holds a n X) (o : Fin 64) (y x : Fin 56) :
    refC3 a w b (ix2 ⟨n.val * 3136 + y.val * 56 + x.val, by omega⟩ o) = latent X (weights w) (bias b) o y x := by
  unfold latent refC3
  pointwise [linC3]
  have hq : ∀ c y u x v, colC3 (rowC3 (padC3 a)) (ix6 n c y u x v) = (border 1 56 X) c (1 * y.val + u.val) (1 * x.val + v.val) := by
    intro c y u x v
    rw [colC3_at, rowC3_at, padC3_at a X n h]
    simp only [one_mul]
  have key := taps_conv 64 64 3 8 56 1 dot_S64x64x3x3_S8x64x56x3x56x3_S64x8x56x56_123_135_0_024_n_n_wf w _ n _ _ (weights_read w) hq o y x
  rw [← bias_read]
  exact congrArg (· + b (ix1 o)) key

/-- The padded input of the first decoder layer. -/
theorem padT1_at (a : FVec Ideal S8x64x56x56 .f32) (X : Img) (n : Fin 8) (h : Holds a n X) (c : Fin 64) (y x : Fin 58) :
    padT1 a (ix4 n c y x) = (border 1 56 X) c y x := by
  unfold padT1
  pointwise
  refine bordered 1 56 X c y x _ _ Iff.rfl _ (fun q => ?_) zeroWord
  exact (dif_pos (by omega)).trans (h _ _ _)

/-- The stacked row windows of the first decoder layer. -/
theorem rowT1_at (p : FVec Ideal S8x64x58x58 .f32) (n : Fin 8) (c : Fin 64) (y : Fin 56) (u : Fin 3) (x : Fin 58) :
    rowT1 p (ix5 n c y u x) = p (ix4 n c ⟨y.val + u.val, by omega⟩ x) := by
  fin_cases u <;> pointwise [rowT1, rowsT1] <;> simp only [add_comm, Nat.add_zero, Nat.zero_add]

/-- The stacked column windows of the first decoder layer. -/
theorem colT1_at (p : FVec Ideal S8x64x56x3x58 .f32) (n : Fin 8) (c : Fin 64) (y : Fin 56) (u : Fin 3) (x : Fin 56) (v : Fin 3) :
    colT1 p (ix6 n c y u x v) = p (ix5 n c y u ⟨x.val + v.val, by omega⟩) := by
  fin_cases v <;> pointwise [colT1, colsT1] <;> simp only [add_comm, Nat.add_zero, Nat.zero_add]

/-- The result of the first decoder layer is the network's, where its input is. -/
theorem refT1_at (a : FVec Ideal S8x64x56x56 .f32) (w : FVec Ideal S64x64x3x3 .f32) (b : FVec Ideal S64 .f32) (X : Img) (n : Fin 8) (h : Holds a n X) : Holds (refT1 a w b) n (dec1 X (turned w) (bias b)) := by
  intro o y x
  unfold dec1 refT1
  pointwise [linT1]
  have hq : ∀ c y u x v, colT1 (rowT1 (padT1 a)) (ix6 n c y u x v) = (border 1 56 X) c (1 * y.val + u.val) (1 * x.val + v.val) := by
    intro c y u x v
    rw [colT1_at, rowT1_at, padT1_at a X n h]
    simp only [one_mul]
  have hw : ∀ o c u v, (transpose S64x64x3x3 [1, 0, 2, 3] (Host.reverse [2, 3] w) transposes_S64x64x3x3_S64x64x3x3_1_0_2_3) (ix4 o c u v) = turned w o c u v := by
    intro o c u v
    pointwise
    exact turned_read w o c u v
  have key := taps_conv 64 64 3 8 56 1 dot_S64x64x3x3_S8x64x56x3x56x3_S64x8x56x56_123_135_0_024_n_n_wf _ _ n _ _ hw hq o y x
  rw [← bias_read]
  exact congrArg (fun t => max (t + b (ix1 o)) 0) key

/-- The padded input of the second decoder layer, with zeros between its entries. -/
theorem padT2_at (a : FVec Ideal S8x64x56x56 .f32) (X : Img) (n : Fin 8) (h : Holds a n X) (c : Fin 64) (y x : Fin 115) :
    padT2 a (ix4 n c y x) = (dilate (border 1 56 X)) c y x := by
  unfold padT2
  pointwise
  exact dilated 56 X c y x _ _ _ Iff.rfl (fun _ => Iff.rfl) _ (fun _ _ => h _ _ _) zeroWord

/-- The stacked row windows of the second decoder layer. -/
theorem rowT2_at (p : FVec Ideal S8x64x115x115 .f32) (n : Fin 8) (c : Fin 64) (y : Fin 112) (u : Fin 4) (x : Fin 115) :
    rowT2 p (ix5 n c y u x) = p (ix4 n c ⟨y.val + u.val, by omega⟩ x) := by
  fin_cases u <;> pointwise [rowT2, rowsT2] <;> simp only [add_comm, Nat.add_zero, Nat.zero_add]

/-- The stacked column windows of the second decoder layer. -/
theorem colT2_at (p : FVec Ideal S8x64x112x4x115 .f32) (n : Fin 8) (c : Fin 64) (y : Fin 112) (u : Fin 4) (x : Fin 112) (v : Fin 4) :
    colT2 p (ix6 n c y u x v) = p (ix5 n c y u ⟨x.val + v.val, by omega⟩) := by
  fin_cases v <;> pointwise [colT2, colsT2] <;> simp only [add_comm, Nat.add_zero, Nat.zero_add]

/-- The result of the second decoder layer is the network's, where its input is. -/
theorem refT2_at (a : FVec Ideal S8x64x56x56 .f32) (w : FVec Ideal S64x32x4x4 .f32) (b : FVec Ideal S32 .f32) (X : Img) (n : Fin 8) (h : Holds a n X) : Holds (refT2 a w b) n (dec2 X (turned w) (bias b)) := by
  intro o y x
  unfold dec2 refT2 convT
  pointwise [linT2]
  have hq : ∀ c y u x v, colT2 (rowT2 (padT2 a)) (ix6 n c y u x v) = (dilate (border 1 56 X)) c (1 * y.val + u.val) (1 * x.val + v.val) := by
    intro c y u x v
    rw [colT2_at, rowT2_at, padT2_at a X n h]
    simp only [one_mul]
  have hw : ∀ o c u v, (transpose S32x64x4x4 [1, 0, 2, 3] (Host.reverse [2, 3] w) transposes_S64x32x4x4_S32x64x4x4_1_0_2_3) (ix4 o c u v) = turned w o c u v := by
    intro o c u v
    pointwise
    exact turned_read w o c u v
  have key := taps_conv 32 64 4 8 112 1 dot_S32x64x4x4_S8x64x112x4x112x4_S32x8x112x112_123_135_0_024_n_n_wf _ _ n _ _ hw hq o y x
  rw [← bias_read]
  exact congrArg (fun t => max (t + b (ix1 o)) 0) key

/-- The padded input of the last layer, with zeros between its entries. -/
theorem padT3_at (a : FVec Ideal S8x32x112x112 .f32) (X : Img) (n : Fin 8) (h : Holds a n X) (c : Fin 32) (y x : Fin 227) :
    padT3 a (ix4 n c y x) = (dilate (border 1 112 X)) c y x := by
  unfold padT3
  pointwise
  exact dilated 112 X c y x _ _ _ Iff.rfl (fun _ => Iff.rfl) _ (fun _ _ => h _ _ _) zeroWord

/-- The stacked row windows of the last layer. -/
theorem rowT3_at (p : FVec Ideal S8x32x227x227 .f32) (n : Fin 8) (c : Fin 32) (y : Fin 224) (u : Fin 4) (x : Fin 227) :
    rowT3 p (ix5 n c y u x) = p (ix4 n c ⟨y.val + u.val, by omega⟩ x) := by
  fin_cases u <;> pointwise [rowT3, rowsT3] <;> simp only [add_comm, Nat.add_zero, Nat.zero_add]

/-- The stacked column windows of the last layer. -/
theorem colT3_at (p : FVec Ideal S8x32x224x4x227 .f32) (n : Fin 8) (c : Fin 32) (y : Fin 224) (u : Fin 4) (x : Fin 224) (v : Fin 4) :
    colT3 p (ix6 n c y u x v) = p (ix5 n c y u ⟨x.val + v.val, by omega⟩) := by
  fin_cases v <;> pointwise [colT3, colsT3] <;> simp only [add_comm, Nat.add_zero, Nat.zero_add]

/-- The result of the last layer is the network's, where its input is. -/
theorem refT3_at (a : FVec Ideal S8x32x112x112 .f32) (w : FVec Ideal S32x3x4x4 .f32) (b : FVec Ideal S3 .f32) (X : Img) (n : Fin 8) (h : Holds a n X) (o : Fin 3) (y : Fin 112) (r : Fin 2) (x : Fin 224) :
    refT3 a w b (ix5 n o y r x) = recon X (turned w) (bias b) o (2 * y.val + r.val) x := by
  unfold recon refT3 convT
  pointwise [linT3]
  have hq : ∀ c y u x v, colT3 (rowT3 (padT3 a)) (ix6 n c y u x v) = (dilate (border 1 112 X)) c (1 * y.val + u.val) (1 * x.val + v.val) := by
    intro c y u x v
    rw [colT3_at, rowT3_at, padT3_at a X n h]
    simp only [one_mul]
  have hw : ∀ o c u v, (transpose S3x32x4x4 [1, 0, 2, 3] (Host.reverse [2, 3] w) transposes_S32x3x4x4_S3x32x4x4_1_0_2_3) (ix4 o c u v) = turned w o c u v := by
    intro o c u v
    pointwise
    exact turned_read w o c u v
  have key := taps_conv 3 32 4 8 224 1 dot_S3x32x4x4_S8x32x224x4x224x4_S3x8x224x224_123_135_0_024_n_n_wf _ _ n _ _ hw hq o ⟨y.val * 2 + r.val, by omega⟩ x
  rw [mul_comm 2 y.val, ← bias_read]
  exact congrArg (· + b (ix1 o)) key

end Cert.ReferenceIdeal.Hand
end
-- ==== Proof.Real.lean ====
module

public import proofs.«01_k».proof.Proof.Net
public import proofs.«01_k».proof.Proof.Ext
@[expose] public section
noncomputable section
/-! Values that are real numbers, and that the encoder keeps them so. -/
namespace Cert.Model
open Finset Idealize.ShloMosaic

/-- The extended real is a real number. -/
def IsReal (x : EReal) : Prop := ∃ r : ℝ, x = (r : EReal)

/-- Zero is real. -/
theorem IsReal.zero : IsReal 0 := ⟨0, rfl⟩

/-- The sum of two reals is real. -/
theorem IsReal.add {x y : EReal} (hx : IsReal x) (hy : IsReal y) : IsReal (x + y) := by
  obtain ⟨a, rfl⟩ := hx; obtain ⟨b, rfl⟩ := hy; exact ⟨a + b, (EReal.coe_add a b).symm⟩

/-- The product of two reals is real. -/
theorem IsReal.mul {x y : EReal} (hx : IsReal x) (hy : IsReal y) : IsReal (x * y) := by
  obtain ⟨a, rfl⟩ := hx; obtain ⟨b, rfl⟩ := hy; exact ⟨a * b, (EReal.coe_mul a b).symm⟩

/-- The greater of two reals is real. -/
theorem IsReal.max {x y : EReal} (hx : IsReal x) (hy : IsReal y) : IsReal (max x y) := by
  rcases max_choice x y with h | h <;> rw [h] <;> assumption

/-- A finite sum of reals is real. -/
theorem IsReal.sum {ι : Type} (s : Finset ι) (f : ι → EReal) (h : ∀ i ∈ s, IsReal (f i)) : IsReal (∑ i ∈ s, f i) := by
  classical
  induction s using Finset.induction_on with
  | empty => rw [sum_empty]; exact .zero
  | insert a s ha ih =>
    rw [sum_insert ha]
    exact (h a (mem_insert_self a s)).add (ih fun i hi => h i (mem_insert_of_mem hi))

/-- A value below the greatest in absolute value is real. -/
theorem IsReal.of_abs {x : EReal} (h : Max.max x (-x) < ⊤) : IsReal x := by
  induction x with
  | bot => simp at h
  | top => simp at h
  | coe r => exact ⟨r, rfl⟩

/-- The border is of zeros. -/
theorem IsReal.border (p H : ℕ) {X : Img} (h : ∀ c y x, IsReal (X c y x)) (c y x : ℕ) : IsReal (border p H X c y x) := by
  unfold Model.border
  split
  · exact h _ _ _
  · exact .zero

/-- A convolution of reals is real. -/
theorem IsReal.conv (C K s : ℕ) {P : Img} {W : Wgt} (hP : ∀ c y x, IsReal (P c y x)) (hW : ∀ o c u v, IsReal (W o c u v)) (o y x : ℕ) :
    IsReal (conv C K s P W o y x) := by
  unfold Model.conv
  exact .sum _ _ fun _ _ => .sum _ _ fun _ _ => .sum _ _ fun _ _ => by first | exact (hP _ _ _).mul (hW _ _ _ _) | exact (hW _ _ _ _).mul (hP _ _ _)

/-- The first layer of a real image is real. -/
theorem IsReal.enc1 {X : Img} {W : Wgt} {B : ℕ → EReal} (hX : ∀ c y x, IsReal (X c y x)) (hW : ∀ o c u v, IsReal (W o c u v))
    (hB : ∀ o, IsReal (B o)) (o y x : ℕ) : IsReal (enc1 X W B o y x) :=
  ((IsReal.conv 3 4 2 (IsReal.border 1 224 hX) hW o y x).add (hB o)).max .zero

/-- The second layer of a real image is real. -/
theorem IsReal.enc2 {X : Img} {W : Wgt} {B : ℕ → EReal} (hX : ∀ c y x, IsReal (X c y x)) (hW : ∀ o c u v, IsReal (W o c u v))
    (hB : ∀ o, IsReal (B o)) (o y x : ℕ) : IsReal (enc2 X W B o y x) :=
  ((IsReal.conv 32 4 2 (IsReal.border 1 112 hX) hW o y x).add (hB o)).max .zero

/-- The latent image of a real image is real. -/
theorem IsReal.latent {X : Img} {W : Wgt} {B : ℕ → EReal} (hX : ∀ c y x, IsReal (X c y x)) (hW : ∀ o c u v, IsReal (W o c u v))
    (hB : ∀ o, IsReal (B o)) (o y x : ℕ) : IsReal (latent X W B o y x) :=
  (IsReal.conv 64 3 1 (IsReal.border 1 56 hX) hW o y x).add (hB o)

/-- An array of reals stays real when read as a function of any natural number. -/
theorem IsReal.ext1 {A : ℕ} {f : Fin A → EReal} (h : ∀ i, IsReal (f i)) (i : ℕ) : IsReal (ext1 f i) := by
  unfold Model.ext1
  split
  · exact h _
  · exact .zero

/-- The same with two coordinates. -/
theorem IsReal.ext2 {A B : ℕ} {f : Fin A → Fin B → EReal} (h : ∀ i j, IsReal (f i j)) (i j : ℕ) : IsReal (ext2 f i j) :=
  .ext1 (fun j => .ext1 (fun i => h i j) _) _

/-- The same with three coordinates. -/
theorem IsReal.ext3 {A B C : ℕ} {f : Fin A → Fin B → Fin C → EReal} (h : ∀ i j k, IsReal (f i j k)) (i j k : ℕ) : IsReal (ext3 f i j k) :=
  .ext1 (fun k => .ext2 (fun i j => h i j k) _ _) _

/-- The same with four coordinates. -/
theorem IsReal.ext4 {A B C D : ℕ} {f : Fin A → Fin B → Fin C → Fin D → EReal} (h : ∀ i j k l, IsReal (f i j k l)) (i j k l : ℕ) :
    IsReal (ext4 f i j k l) :=
  .ext1 (fun l => .ext3 (fun i j k => h i j k l) _ _ _) _

/-- Adding back to a real the difference of any value from it gives that value. -/
theorem add_sub_back {z : EReal} (hz : IsReal z) (e : EReal) : z + (e - z) = e := by
  obtain ⟨a, rfl⟩ := hz
  rw [sub_eq_add_neg, add_comm e, ← add_assoc, ← EReal.coe_neg, ← EReal.coe_add, add_neg_cancel, EReal.coe_zero, zero_add]

/-- A common real summand in front does not change the order of two differences of any values, written the reference's way. -/
theorem order_shift {s : EReal} (hs : IsReal s) (a b n m : EReal) : (s - a + n ≤ s - b + m) ↔ (n - a ≤ m - b) := by
  have move : ∀ a n : EReal, s - a + n = s + (n - a) := fun a n => by
    rw [sub_eq_add_neg, sub_eq_add_neg, add_assoc, add_comm (-a)]
  have back : ∀ t : EReal, t = (s + t) - s := fun t => by
    obtain ⟨r, rfl⟩ := hs
    rw [sub_eq_add_neg, add_comm (r : EReal), add_assoc, ← EReal.coe_neg, ← EReal.coe_add, add_neg_cancel, EReal.coe_zero, add_zero]
  rw [move, move]
  refine ⟨fun h => ?_, fun h => add_le_add_right h s⟩
  rw [back (n - a), back (m - b)]
  exact EReal.sub_le_sub h le_rfl

end Cert.Model
end
-- ==== Proof.RQuant.lean ====
module

public import proofs.«01_k».proof.Proof.RArg
public import proofs.«01_k».proof.Proof.RStage
public import proofs.«01_k».proof.Proof.Real
public import Idealize.ShloMosaic.Lib.Routing.Ops
@[expose] public section
set_option maxRecDepth 16384
noncomputable section
/-! The reference's quantisation, on real latents and any codes: each latent column is replaced by the code of the first least score. -/
namespace Cert.ReferenceIdeal.Hand
open Cert.ReferenceIdeal Cert.ReferenceIdeal.Gen Idealize.ShloMosaic Idealize.SL.Sem Cert.Model Finset

/-- The straight-through sum at a pixel. -/
theorem refQs_at (z q : FVec Ideal S25088x64 .f32) (n : Fin 8) (c : Fin 64) (y x : Fin 56) :
    refQs z q (ix4 n c y x) = z (ix2 ⟨n.val * 3136 + y.val * 56 + x.val, by omega⟩ c)
      + (q (ix2 ⟨n.val * 3136 + y.val * 56 + x.val, by omega⟩ c) - z (ix2 ⟨n.val * 3136 + y.val * 56 + x.val, by omega⟩ c)) := by
  pointwise [refQs]

/-- The squared distance of a row to a code vector. -/
theorem refD_at (z : FVec Ideal S25088x64 .f32) (e : FVec Ideal S1024x64 .f32) (r : Fin 25088) (k : Fin 1024) :
    refD z e (ix2 r k) = ∑ c : Fin 64, z (ix2 r c) * z (ix2 r c)
      - Ideal.ofBits .f32 0x40000000#32 * ∑ c : Fin 64, z (ix2 r c) * e (ix2 k c) + ∑ c : Fin 64, e (ix2 k c) * e (ix2 k c) := by
  pointwise [refD]

/-- The places of the least values, read at one row. -/
theorem refA_read (d : FVec Ideal S25088x1024 .f32) (j : S25088.Idx) :
    refA d j = Prod.snd (Host.argReduce reducer_argmin_f32_i32 d (iotaInDim S25088x1024 32 1) (constant S_ .f32 0x7F800000#32)
      (constantI S_ 32 0#32) reducesTo_S25088x1024_S25088_d1 h_S_ j) := by
  rw [refA]

/-- The arg-min of a row: the first place where it is least. -/
theorem refA_at (d : FVec Ideal S25088x1024 .f32) (r : Fin 25088) (f : ℕ → EReal) (hf : ∀ k : Fin 1024, d (ix2 r k) = f k.val) :
    refA d (ix1 r) = BitVec.ofNat 32 (amin 1024 f) := by
  rw [refA_read]
  exact argmin_row 25088 d (iotaInDim S25088x1024 32 1) (fun _ _ => rfl) (constant S_ .f32 0x7F800000#32)
    (fun _ => by show Ideal.ofBits .f32 0x7F800000#32 = ⊤; simp [Ideal.ofBits, Ideal.ieee]) (constantI S_ 32 0#32) (fun _ => rfl)
    reducesTo_S25088x1024_S25088_d1 h_S_ r f hf

/-- The code vector taken at a row that holds a place in range. -/
theorem refQt_at (e : FVec Ideal S1024x64 .f32) (i : IVec S25088 32) (r : Fin 25088) (c : Fin 64) (k : Fin 1024)
    (hk : i (ix1 r) = BitVec.ofNat 32 k.val) : refQt e (refQi i) (ix2 r c) = e (ix2 k c) := by
  have hi : refQi i (ix2 r 0) = BitVec.ofNat 32 k.val := by
    pointwise [refQi]
    rw [hk]
    have h0 := word_slt k.val 0 k.isLt (by norm_num)
    rw [if_neg (by omega)] at h0
    show Scalar.select (IntOp.cmpi .slt (BitVec.ofNat 32 k.val) (BitVec.ofNat 32 0)) _ _ = _
    rw [h0]
    rfl
  have hg : Host.gather gather_S1024x64_S25088x1_S25088x64_1_0_n_n_0_1_164 e (refQi i) (ix2 r c) = e (ix2 k c) :=
    Routing.gather_row _ rfl rfl rfl rfl rfl e (refQi i) r c k hi (by norm_num)
  generalize refQi i = j at hi hg
  pointwise [refQt]
  have hge : IntOp.cmpi .sge (BitVec.ofNat 32 k.val) 0#32 = 1#1 := by
    simp [IntOp.cmpi, BitVec.sle, word_toInt k.val k.isLt]
  have hle : IntOp.cmpi .sle (BitVec.ofNat 32 k.val) 1023#32 = 1#1 := by
    simp only [IntOp.cmpi, BitVec.sle, word_toInt k.val k.isLt, show (1023#32 : BitVec 32).toInt = 1023 from rfl]
    rw [decide_eq_true (by have := k.isLt; omega)]
    rfl
  rw [hg, Finset.univ_unique, Finset.fold_singleton, show (default : Fin 1) = 0 from rfl, hi, hge, hle]
  rfl

/-- The reference's quantised latents are the model's, where the latents are real. -/
theorem refQ_at (z : FVec Ideal S25088x64 .f32) (e : FVec Ideal S1024x64 .f32) (Z : Img) (n : Fin 8)
    (hz : ∀ (c : Fin 64) (y x : Fin 56), z (ix2 ⟨n.val * 3136 + y.val * 56 + x.val, by omega⟩ c) = Z c y x)
    (hZ : ∀ c y x, IsReal (Z c y x)) :
    Holds (refQ z e (refA (refD z e))) n (quantised (Ideal.ofBits .f32 0x40000000#32) Z (codes e)) := by
  intro c y x
  have hcode : ∀ (k : Fin 1024) (c : Fin 64), e (ix2 k c) = codes e k.val c.val := fun k c => (ext2_mk (fun k d => e (ix2 k d)) k.val c.val k.isLt c.isLt).symm
  have hsum : ∀ g : ℕ → EReal, ∑ c : Fin 64, g c.val = ∑ c ∈ range 64, g c := fun g => Fin.sum_univ_eq_sum_range g 64
  let r : Fin 25088 := ⟨n.val * 3136 + y.val * 56 + x.val, by omega⟩
  let f : ℕ → EReal := fun k => ∑ c ∈ range 64, Z c y x * Z c y x
      - Ideal.ofBits .f32 0x40000000#32 * ∑ c ∈ range 64, Z c y x * codes e k c + ∑ c ∈ range 64, codes e k c * codes e k c
  have hf : ∀ k : Fin 1024, refD z e (ix2 r k) = f k.val := fun k => by
    rw [refD_at]
    simp only [f, r, hz, hcode]
    rw [hsum fun c => Z c y x * Z c y x, hsum fun c => Z c y x * codes e k c, hsum fun c => codes e k c * codes e k c]
  have hsame : amin 1024 f = amin 1024 (score (Ideal.ofBits .f32 0x40000000#32) Z (codes e) y x) :=
    amin_congr (by norm_num) _ _ fun j _ k _ => order_shift (.sum _ _ fun _ _ => (hZ _ _ _).mul (hZ _ _ _)) _ _ _ _
  have hlt : amin 1024 f < 1024 := (isFirst_amin (by norm_num) f).1
  have hq := refQt_at e (refA (refD z e)) r c ⟨amin 1024 f, hlt⟩ (refA_at (refD z e) r f hf)
  refine (refQs_at z _ n c y x).trans ?_
  rw [show refQt e (refQi (refA (refD z e))) (ix2 ⟨n.val * 3136 + y.val * 56 + x.val, by omega⟩ c) = _ from hq, hz,
    add_sub_back (hZ _ _ _), hcode]
  show codes e (amin 1024 f) c = _
  rw [hsame]
  rfl

end Cert.ReferenceIdeal.Hand
end
-- ==== Proof.RTotal.lean ====
module

public import proofs.«01_k».proof.Proof.RQuant
public import proofs.«01_k».proof.Proof.RefRun
@[expose] public section
set_option maxRecDepth 16384
noncomputable section
/-! The reference's result, read at an entry, on a real input image and a real encoder. -/
namespace Cert.ReferenceIdeal.Hand
open Cert.ReferenceIdeal Cert.ReferenceIdeal.Gen Idealize.ShloMosaic Idealize.SL.Sem Cert.Model Finset

/-- The reference's result at an entry is the network's reconstruction of the image at that pixel. -/
theorem refAll_at (a0 : FVec Ideal S8x3x224x224 .f32) (a1 : FVec Ideal S32x3x4x4 .f32) (a2 : FVec Ideal S32 .f32)
    (a3 : FVec Ideal S64x32x4x4 .f32) (a4 : FVec Ideal S64 .f32) (a5 : FVec Ideal S64x64x3x3 .f32) (a6 : FVec Ideal S64 .f32)
    (a7 : FVec Ideal S1024x64 .f32) (a8 : FVec Ideal S64x64x3x3 .f32) (a9 : FVec Ideal S64 .f32) (a10 : FVec Ideal S64x32x4x4 .f32)
    (a11 : FVec Ideal S32 .f32) (a12 : FVec Ideal S32x3x4x4 .f32) (a13 : FVec Ideal S3 .f32)
    (h0 : ∀ i, IsReal (a0 i)) (h1 : ∀ i, IsReal (a1 i)) (h2 : ∀ i, IsReal (a2 i)) (h3 : ∀ i, IsReal (a3 i)) (h4 : ∀ i, IsReal (a4 i))
    (h5 : ∀ i, IsReal (a5 i)) (h6 : ∀ i, IsReal (a6 i))
    (n : Fin 8) (o : Fin 3) (y : Fin 112) (r : Fin 2) (x : Fin 224) :
    refAll a0 a1 a2 a3 a4 a5 a6 a7 a8 a9 a10 a11 a12 a13 (ix5 n o y r x)
      = recon (dec2 (dec1 (quantised (Ideal.ofBits .f32 0x40000000#32)
          (latent (enc2 (enc1 (Model.image a0 n) (weights a1) (bias a2)) (weights a3) (bias a4)) (weights a5) (bias a6)) (codes a7))
          (turned a8) (bias a9)) (turned a10) (bias a11)) (turned a12) (bias a13) o (2 * y.val + r.val) x := by
  have r0 : ∀ c y x, IsReal (Model.image a0 n c y x) := IsReal.ext3 fun c y x => h0 _
  have r1 : ∀ o c u v, IsReal (weights a1 o c u v) := IsReal.ext4 fun _ _ _ _ => h1 _
  have r2 : ∀ o, IsReal (bias a2 o) := IsReal.ext1 fun _ => h2 _
  have r3 : ∀ o c u v, IsReal (weights a3 o c u v) := IsReal.ext4 fun _ _ _ _ => h3 _
  have r4 : ∀ o, IsReal (bias a4 o) := IsReal.ext1 fun _ => h4 _
  have r5 : ∀ o c u v, IsReal (weights a5 o c u v) := IsReal.ext4 fun _ _ _ _ => h5 _
  have r6 : ∀ o, IsReal (bias a6 o) := IsReal.ext1 fun _ => h6 _
  have s0 : Holds a0 n (Model.image a0 n) := fun c y x =>
    (ext3_mk (fun c y x => a0 (ix4 n c y x)) c.val y.val x.val c.isLt y.isLt x.isLt).symm
  have s2 := refC2_at _ a3 a4 _ n (refC1_at a0 a1 a2 _ n s0)
  have q := refQ_at _ a7 _ n (fun c y x => refC3_at _ a5 a6 _ n s2 c y x)
    (IsReal.latent (IsReal.enc2 (IsReal.enc1 r0 r1 r2) r3 r4) r5 r6)
  exact refT3_at _ a12 a13 _ n (refT2_at _ a10 a11 _ n (refT1_at _ a8 a9 _ n q)) o y r x

end Cert.ReferenceIdeal.Hand
end
-- ==== Proof.Algebra.lean ====
module

public import proofs.«01_k».proof.Defs
public import proofs.«01_k».proof.Proof.KPlace
public import proofs.«01_k».proof.Proof.RTotal
public import proofs.«01_k».proof.Proof.Frames
public import proofs.«01_k».proof.Proof.Gen.KernelIdeal.Value
public import Idealize.ShloMosaic.Adequacy
@[expose] public section
set_option maxRecDepth 16384
noncomputable section
/-! Where the image and the encoder's weights and biases are finite, the kernel's result is the reference's. -/
namespace Cert.Proof
open Idealize.ShloMosaic Idealize.SL.Sem Cert.Model

/-- An array of which every comparison of the absolute value with the greatest is true holds reals. -/
theorem real_of_word {s : Shape} (a b : FVec Ideal s .f32) (hb : ∀ i, b i = (⊤ : EReal)) (h : cmpf .olt (Host.absf a) b = fun _ => 1#1)
    (i : s.Idx) : IsReal (a i) := by
  have e := congrFun h i
  have e' : Ideal.cmp .olt (Max.max (a i) (-(a i))) (b i) = 1#1 := e
  refine IsReal.of_abs ?_
  rw [hb] at e'
  by_contra hc
  simp [Ideal.cmp, hc] at e'

/-- The greatest value's word. -/
theorem greatest : (Ideal.ofBits .f32 0x7F800000#32 : EReal) = ⊤ := by simp [Ideal.ofBits, Ideal.ieee]

/-- The kernel's result and the reference's are equal. -/
theorem results_equal (m : (ℓ : Loc Cert.KernelIdeal.nD Cert.KernelIdeal.τ Cert.KernelIdeal.sig) → Buf (Elt Ideal) ℓ)
    (hm : Cert.Pre_KernelIdeal_finite_inputs (hPre_finite_inputs := preFacts) m) (c : Dev Cert.KernelIdeal.nD) :
    Cert.ReferenceIdeal.Hand.refAll (F := Ideal) (Cert.KernelIdeal.Hand.a0 m c) (Cert.KernelIdeal.Hand.a1 m c) (Cert.KernelIdeal.Hand.a2 m c)
      (Cert.KernelIdeal.Hand.a3 m c) (Cert.KernelIdeal.Hand.a4 m c) (Cert.KernelIdeal.Hand.a5 m c) (Cert.KernelIdeal.Hand.a6 m c)
      (Cert.KernelIdeal.Hand.a7 m c) (Cert.KernelIdeal.Hand.a8 m c) (Cert.KernelIdeal.Hand.a9 m c) (Cert.KernelIdeal.Hand.a10 m c)
      (Cert.KernelIdeal.Hand.a11 m c) (Cert.KernelIdeal.Hand.a12 m c) (Cert.KernelIdeal.Hand.a13 m c) = Cert.KernelIdeal.Hand.outArr m c := by
  obtain ⟨p0, p1, p2, p3, p4, p5, p6⟩ := hm c
  funext i
  have hi : i = ix5 (i 0) (i 1) (i 2) (i 3) (i 4) := by funext k; fin_cases k <;> rfl
  rw [hi]
  exact Cert.ReferenceIdeal.Hand.refAll_at _ _ _ _ _ _ _ _ _ _ _ _ _ _
    (real_of_word _ _ (fun _ => greatest) p0) (real_of_word _ _ (fun _ => greatest) p1) (real_of_word _ _ (fun _ => greatest) p2)
    (real_of_word _ _ (fun _ => greatest) p3) (real_of_word _ _ (fun _ => greatest) p4) (real_of_word _ _ (fun _ => greatest) p5)
    (real_of_word _ _ (fun _ => greatest) p6) (i 0) (i 1) (i 2) (i 3) (i 4)

/-- From memories that agree on the arguments, both programs run and end with the same result, their arguments unchanged. -/
theorem algebra : Cert.algebraic_KernelIdeal_ReferenceIdeal_pre_finite_inputs (hKernelIdeal := Cert.KernelIdeal.Gen.facts)
    (hReferenceIdeal := Cert.ReferenceIdeal.Gen.facts) (hPre_finite_inputs := preFacts) := by
  intro m g m' g' hm hargs
  refine ⟨fun c => Cert.KernelIdeal.Hand.outArr m c, ?_, ?_⟩
  · exact (θ_run _ _ _).mono (fun r h c => ⟨(h c).1.trans (Cert.KernelIdeal.Hand.arr_eq m c), (h c).2⟩)
      (Cert.KernelIdeal.Value.run_blocks (F := Ideal) m g)
  · refine (θ_run _ _ _).mono (fun r h c => ⟨?_, ?_⟩) (Cert.ReferenceIdeal.Hand.run (F := Ideal) m' g')
    · refine (h c).1.trans ?_
      obtain ⟨e0, e1, e2, e3, e4, e5, e6, e7, e8, e9, e10, e11, e12, e13⟩ := hargs c
      rw [e0, e1, e2, e3, e4, e5, e6, e7, e8, e9, e10, e11, e12, e13]
      exact results_equal m hm c
    · have k := (h c).2
      refine ⟨?_, ?_, ?_, ?_, ?_, ?_, ?_, ?_, ?_, ?_, ?_, ?_, ?_, ?_⟩ <;> exact k _ (by decide)

end Cert.Proof
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Frames
public import proofs.«01_k».proof.Proof.Algebra
public import Idealize.ShloMosaic.Adequacy
public import Idealize.ShloMosaic.Lib.Quiescent
public import Idealize.ShloMosaic.Init

@[expose] public section

noncomputable section

namespace Cert.Proof

open Idealize.ShloMosaic Idealize.SL.Sem Cert.Kernel

/-- Everything the certificate claims. -/
theorem claim : Cert.Claim := ⟨Cert.Kernel.Gen.facts, Cert.KernelIdeal.Gen.facts, Cert.ReferenceIdeal.Gen.facts, preFacts,
  fun m ρ _ => Cert.Kernel.Gen.frame m ρ, fun m ρ _ => Cert.KernelIdeal.Gen.frame m ρ, fun m ρ _ => Cert.KernelIdeal.Gen.frame m ρ,
  fun m ρ _ => frameRef m ρ, fun m ρ _ => frameRef m ρ, trivial, algebra⟩

end Cert.Proof

end
